-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tok_in_range [hPre_tok_in_range : Cert.Pre_tok_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tok_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tok_in_range [hPre_tok_in_range : Cert.Pre_tok_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tok_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2ReferenceIdeal (m : (ℓ : Loc Cert.Mlp2ReferenceIdeal.nD Cert.Mlp2ReferenceIdeal.τ Cert.Mlp2ReferenceIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1ReferenceIdeal (m : (ℓ : Loc Cert.Mlp1ReferenceIdeal.nD Cert.Mlp1ReferenceIdeal.τ Cert.Mlp1ReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Emb (m : (ℓ : Loc Cert.Emb.nD Cert.Emb.τ Cert.Emb.sig) → Buf (Elt Bits) ℓ) : Prop :=
  True

def Pre_EmbIdeal (m : (ℓ : Loc Cert.EmbIdeal.nD Cert.EmbIdeal.τ Cert.EmbIdeal.sig) → Buf (Elt Ideal) ℓ) : Prop :=
  True

def Pre_EmbReferenceIdeal (m : (ℓ : Loc Cert.EmbReferenceIdeal.nD Cert.EmbReferenceIdeal.τ Cert.EmbReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tok_in_range [hKernelIdeal : Cert.KernelIdeal.Facts] [hPre_tok_in_range : Cert.Pre_tok_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tok_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tok_in_range [hReferenceIdeal : Cert.ReferenceIdeal.Facts] [hPre_tok_in_range : Cert.Pre_tok_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tok_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3)
      ∧ r.2.mem ((c.tc : Thread Cert.Mlp2.nD Cert.Mlp2.τ).loc Cert.Mlp2.main_arg4) = m ((c.tc : Thread Cert.Mlp2.nD Cert.Mlp2.τ).loc Cert.Mlp2.main_arg4))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
      ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4))
      ∧ r.2.sem = fun _ => 0)

def quiescent_Mlp2ReferenceIdeal [hMlp2ReferenceIdeal : Cert.Mlp2ReferenceIdeal.Facts] : Prop :=
  ∀ (m : (ℓ : Loc Cert.Mlp2ReferenceIdeal.nD Cert.Mlp2ReferenceIdeal.τ Cert.Mlp2ReferenceIdeal.sig) → Buf (Elt Ideal) ℓ) (g : Dev Cert.Mlp2ReferenceIdeal.nD → PrngReg), Pre_Mlp2ReferenceIdeal m →
    θ_run (Cert.Mlp2ReferenceIdeal.defs (F := Ideal)) (onTc (τ := Cert.Mlp2ReferenceIdeal.τ) (Cert.Mlp2ReferenceIdeal.main (F := Ideal))) ⟨m, fun _ => 0, g⟩ (fun r => (∀ c : Dev Cert.Mlp2ReferenceIdeal.nD,
      r.2.mem ((c.tc : Thread Cert.Mlp2ReferenceIdeal.nD Cert.Mlp2ReferenceIdeal.τ).loc Cert.Mlp2ReferenceIdeal.main_arg0) = m ((c.tc : Thread Cert.Mlp2ReferenceIdeal.nD Cert.Mlp2ReferenceIdeal.τ).loc Cert.Mlp2ReferenceIdeal.main_arg0)
      ∧ r.2.mem ((c.tc : Thread Cert.Mlp2ReferenceIdeal.nD Cert.Mlp2ReferenceIdeal.τ).loc Cert.Mlp2ReferenceIdeal.main_arg1) = m ((c.tc : Thread Cert.Mlp2ReferenceIdeal.nD Cert.Mlp2ReferenceIdeal.τ).loc Cert.Mlp2ReferenceIdeal.main_arg1)
      ∧ r.2.mem ((c.tc : Thread Cert.Mlp2ReferenceIdeal.nD Cert.Mlp2ReferenceIdeal.τ).loc Cert.Mlp2ReferenceIdeal.main_arg2) = m ((c.tc : Thread Cert.Mlp2ReferenceIdeal.nD Cert.Mlp2ReferenceIdeal.τ).loc Cert.Mlp2ReferenceIdeal.main_arg2)
      ∧ r.2.mem ((c.tc : Thread Cert.Mlp2ReferenceIdeal.nD Cert.Mlp2ReferenceIdeal.τ).loc Cert.Mlp2ReferenceIdeal.main_arg3) = m ((c.tc : Thread Cert.Mlp2ReferenceIdeal.nD Cert.Mlp2ReferenceIdeal.τ).loc Cert.Mlp2ReferenceIdeal.main_arg3)
      ∧ r.2.mem ((c.tc : Thread Cert.Mlp2ReferenceIdeal.nD Cert.Mlp2ReferenceIdeal.τ).loc Cert.Mlp2ReferenceIdeal.main_arg4) = m ((c.tc : Thread Cert.Mlp2ReferenceIdeal.nD Cert.Mlp2ReferenceIdeal.τ).loc Cert.Mlp2ReferenceIdeal.main_arg4))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4))
      ∧ r.2.sem = fun _ => 0)

def quiescent_Mlp1ReferenceIdeal [hMlp1ReferenceIdeal : Cert.Mlp1ReferenceIdeal.Facts] : Prop :=
  ∀ (m : (ℓ : Loc Cert.Mlp1ReferenceIdeal.nD Cert.Mlp1ReferenceIdeal.τ Cert.Mlp1ReferenceIdeal.sig) → Buf (Elt Ideal) ℓ) (g : Dev Cert.Mlp1ReferenceIdeal.nD → PrngReg), Pre_Mlp1ReferenceIdeal m →
    θ_run (Cert.Mlp1ReferenceIdeal.defs (F := Ideal)) (onTc (τ := Cert.Mlp1ReferenceIdeal.τ) (Cert.Mlp1ReferenceIdeal.main (F := Ideal))) ⟨m, fun _ => 0, g⟩ (fun r => (∀ c : Dev Cert.Mlp1ReferenceIdeal.nD,
      r.2.mem ((c.tc : Thread Cert.Mlp1ReferenceIdeal.nD Cert.Mlp1ReferenceIdeal.τ).loc Cert.Mlp1ReferenceIdeal.main_arg0) = m ((c.tc : Thread Cert.Mlp1ReferenceIdeal.nD Cert.Mlp1ReferenceIdeal.τ).loc Cert.Mlp1ReferenceIdeal.main_arg0)
      ∧ r.2.mem ((c.tc : Thread Cert.Mlp1ReferenceIdeal.nD Cert.Mlp1ReferenceIdeal.τ).loc Cert.Mlp1ReferenceIdeal.main_arg1) = m ((c.tc : Thread Cert.Mlp1ReferenceIdeal.nD Cert.Mlp1ReferenceIdeal.τ).loc Cert.Mlp1ReferenceIdeal.main_arg1)
      ∧ r.2.mem ((c.tc : Thread Cert.Mlp1ReferenceIdeal.nD Cert.Mlp1ReferenceIdeal.τ).loc Cert.Mlp1ReferenceIdeal.main_arg2) = m ((c.tc : Thread Cert.Mlp1ReferenceIdeal.nD Cert.Mlp1ReferenceIdeal.τ).loc Cert.Mlp1ReferenceIdeal.main_arg2)
      ∧ r.2.mem ((c.tc : Thread Cert.Mlp1ReferenceIdeal.nD Cert.Mlp1ReferenceIdeal.τ).loc Cert.Mlp1ReferenceIdeal.main_arg3) = m ((c.tc : Thread Cert.Mlp1ReferenceIdeal.nD Cert.Mlp1ReferenceIdeal.τ).loc Cert.Mlp1ReferenceIdeal.main_arg3)
      ∧ r.2.mem ((c.tc : Thread Cert.Mlp1ReferenceIdeal.nD Cert.Mlp1ReferenceIdeal.τ).loc Cert.Mlp1ReferenceIdeal.main_arg4) = m ((c.tc : Thread Cert.Mlp1ReferenceIdeal.nD Cert.Mlp1ReferenceIdeal.τ).loc Cert.Mlp1ReferenceIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_Emb [hEmb : Cert.Emb.Facts] : Prop :=
  ∀ (m : (ℓ : Loc Cert.Emb.nD Cert.Emb.τ Cert.Emb.sig) → Buf (Elt Bits) ℓ) (g : Dev Cert.Emb.nD → PrngReg), Pre_Emb m →
    θ_run (Cert.Emb.defs (F := Bits)) (onTc (τ := Cert.Emb.τ) (Cert.Emb.main (F := Bits))) ⟨m, fun _ => 0, g⟩ (fun r => (∀ c : Dev Cert.Emb.nD,
      r.2.mem ((c.tc : Thread Cert.Emb.nD Cert.Emb.τ).loc Cert.Emb.main_arg0) = m ((c.tc : Thread Cert.Emb.nD Cert.Emb.τ).loc Cert.Emb.main_arg0)
      ∧ r.2.mem ((c.tc : Thread Cert.Emb.nD Cert.Emb.τ).loc Cert.Emb.main_arg1) = m ((c.tc : Thread Cert.Emb.nD Cert.Emb.τ).loc Cert.Emb.main_arg1)
      ∧ r.2.mem ((c.tc : Thread Cert.Emb.nD Cert.Emb.τ).loc Cert.Emb.main_arg2) = m ((c.tc : Thread Cert.Emb.nD Cert.Emb.τ).loc Cert.Emb.main_arg2)
      ∧ r.2.mem ((c.tc : Thread Cert.Emb.nD Cert.Emb.τ).loc Cert.Emb.main_arg3) = m ((c.tc : Thread Cert.Emb.nD Cert.Emb.τ).loc Cert.Emb.main_arg3))
      ∧ r.2.sem = fun _ => 0)

def quiescent_EmbIdeal [hEmbIdeal : Cert.EmbIdeal.Facts] : Prop :=
  ∀ (m : (ℓ : Loc Cert.EmbIdeal.nD Cert.EmbIdeal.τ Cert.EmbIdeal.sig) → Buf (Elt Ideal) ℓ) (g : Dev Cert.EmbIdeal.nD → PrngReg), Pre_EmbIdeal m →
    θ_run (Cert.EmbIdeal.defs (F := Ideal)) (onTc (τ := Cert.EmbIdeal.τ) (Cert.EmbIdeal.main (F := Ideal))) ⟨m, fun _ => 0, g⟩ (fun r => (∀ c : Dev Cert.EmbIdeal.nD,
      r.2.mem ((c.tc : Thread Cert.EmbIdeal.nD Cert.EmbIdeal.τ).loc Cert.EmbIdeal.main_arg0) = m ((c.tc : Thread Cert.EmbIdeal.nD Cert.EmbIdeal.τ).loc Cert.EmbIdeal.main_arg0)
      ∧ r.2.mem ((c.tc : Thread Cert.EmbIdeal.nD Cert.EmbIdeal.τ).loc Cert.EmbIdeal.main_arg1) = m ((c.tc : Thread Cert.EmbIdeal.nD Cert.EmbIdeal.τ).loc Cert.EmbIdeal.main_arg1)
      ∧ r.2.mem ((c.tc : Thread Cert.EmbIdeal.nD Cert.EmbIdeal.τ).loc Cert.EmbIdeal.main_arg2) = m ((c.tc : Thread Cert.EmbIdeal.nD Cert.EmbIdeal.τ).loc Cert.EmbIdeal.main_arg2)
      ∧ r.2.mem ((c.tc : Thread Cert.EmbIdeal.nD Cert.EmbIdeal.τ).loc Cert.EmbIdeal.main_arg3) = m ((c.tc : Thread Cert.EmbIdeal.nD Cert.EmbIdeal.τ).loc Cert.EmbIdeal.main_arg3))
      ∧ r.2.sem = fun _ => 0)

def quiescent_EmbReferenceIdeal [hEmbReferenceIdeal : Cert.EmbReferenceIdeal.Facts] : Prop :=
  ∀ (m : (ℓ : Loc Cert.EmbReferenceIdeal.nD Cert.EmbReferenceIdeal.τ Cert.EmbReferenceIdeal.sig) → Buf (Elt Ideal) ℓ) (g : Dev Cert.EmbReferenceIdeal.nD → PrngReg), Pre_EmbReferenceIdeal m →
    θ_run (Cert.EmbReferenceIdeal.defs (F := Ideal)) (onTc (τ := Cert.EmbReferenceIdeal.τ) (Cert.EmbReferenceIdeal.main (F := Ideal))) ⟨m, fun _ => 0, g⟩ (fun r => (∀ c : Dev Cert.EmbReferenceIdeal.nD,
      r.2.mem ((c.tc : Thread Cert.EmbReferenceIdeal.nD Cert.EmbReferenceIdeal.τ).loc Cert.EmbReferenceIdeal.main_arg0) = m ((c.tc : Thread Cert.EmbReferenceIdeal.nD Cert.EmbReferenceIdeal.τ).loc Cert.EmbReferenceIdeal.main_arg0)
      ∧ r.2.mem ((c.tc : Thread Cert.EmbReferenceIdeal.nD Cert.EmbReferenceIdeal.τ).loc Cert.EmbReferenceIdeal.main_arg1) = m ((c.tc : Thread Cert.EmbReferenceIdeal.nD Cert.EmbReferenceIdeal.τ).loc Cert.EmbReferenceIdeal.main_arg1)
      ∧ r.2.mem ((c.tc : Thread Cert.EmbReferenceIdeal.nD Cert.EmbReferenceIdeal.τ).loc Cert.EmbReferenceIdeal.main_arg2) = m ((c.tc : Thread Cert.EmbReferenceIdeal.nD Cert.EmbReferenceIdeal.τ).loc Cert.EmbReferenceIdeal.main_arg2)
      ∧ r.2.mem ((c.tc : Thread Cert.EmbReferenceIdeal.nD Cert.EmbReferenceIdeal.τ).loc Cert.EmbReferenceIdeal.main_arg3) = m ((c.tc : Thread Cert.EmbReferenceIdeal.nD Cert.EmbReferenceIdeal.τ).loc Cert.EmbReferenceIdeal.main_arg3))
      ∧ r.2.sem = fun _ => 0)

def preserves_Kernel_KernelIdeal : Prop :=
  True

def algebraic_KernelIdeal_ReferenceIdeal_pre_tok_in_range [hKernelIdeal : Cert.KernelIdeal.Facts] [hReferenceIdeal : Cert.ReferenceIdeal.Facts] [hPre_tok_in_range : Cert.Pre_tok_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tok_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp2_Mlp2Ideal : Prop :=
  True

def algebraic_Mlp2Ideal_Mlp2ReferenceIdeal [hMlp2Ideal : Cert.Mlp2Ideal.Facts] [hMlp2ReferenceIdeal : Cert.Mlp2ReferenceIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2ReferenceIdeal.nD Cert.Mlp2ReferenceIdeal.τ Cert.Mlp2ReferenceIdeal.sig) → Buf (Elt Ideal) ℓ) (g' : Dev Cert.Mlp2ReferenceIdeal.nD → PrngReg), Pre_Mlp2Ideal m →
    (∀ c : Dev Cert.Mlp2Ideal.nD,
      m' ((c.tc : Thread Cert.Mlp2ReferenceIdeal.nD Cert.Mlp2ReferenceIdeal.τ).loc Cert.Mlp2ReferenceIdeal.main_arg0) = m ((c.tc : Thread Cert.Mlp2Ideal.nD Cert.Mlp2Ideal.τ).loc Cert.Mlp2Ideal.main_arg0)
      ∧ m' ((c.tc : Thread Cert.Mlp2ReferenceIdeal.nD Cert.Mlp2ReferenceIdeal.τ).loc Cert.Mlp2ReferenceIdeal.main_arg1) = m ((c.tc : Thread Cert.Mlp2Ideal.nD Cert.Mlp2Ideal.τ).loc Cert.Mlp2Ideal.main_arg1)
      ∧ m' ((c.tc : Thread Cert.Mlp2ReferenceIdeal.nD Cert.Mlp2ReferenceIdeal.τ).loc Cert.Mlp2ReferenceIdeal.main_arg2) = m ((c.tc : Thread Cert.Mlp2Ideal.nD Cert.Mlp2Ideal.τ).loc Cert.Mlp2Ideal.main_arg2)
      ∧ m' ((c.tc : Thread Cert.Mlp2ReferenceIdeal.nD Cert.Mlp2ReferenceIdeal.τ).loc Cert.Mlp2ReferenceIdeal.main_arg3) = m ((c.tc : Thread Cert.Mlp2Ideal.nD Cert.Mlp2Ideal.τ).loc Cert.Mlp2Ideal.main_arg3)
      ∧ m' ((c.tc : Thread Cert.Mlp2ReferenceIdeal.nD Cert.Mlp2ReferenceIdeal.τ).loc Cert.Mlp2ReferenceIdeal.main_arg4) = m ((c.tc : Thread Cert.Mlp2Ideal.nD Cert.Mlp2Ideal.τ).loc Cert.Mlp2Ideal.main_arg4)) →
    ∃ (v0 : (c : Dev Cert.Mlp2Ideal.nD) → Buf (Elt Ideal) ((c.tc : Thread Cert.Mlp2Ideal.nD Cert.Mlp2Ideal.τ).loc Cert.Mlp2Ideal.main_v1_0)) (v1 : (c : Dev Cert.Mlp2Ideal.nD) → Buf (Elt Ideal) ((c.tc : Thread Cert.Mlp2Ideal.nD Cert.Mlp2Ideal.τ).loc Cert.Mlp2Ideal.main_v1_1)) (v2 : (c : Dev Cert.Mlp2Ideal.nD) → Buf (Elt Ideal) ((c.tc : Thread Cert.Mlp2Ideal.nD Cert.Mlp2Ideal.τ).loc Cert.Mlp2Ideal.main_v1_2)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v1_0) = v0 c
          ∧ r.2.mem ((c.tc : Thread Cert.Mlp2Ideal.nD Cert.Mlp2Ideal.τ).loc Cert.Mlp2Ideal.main_v1_1) = v1 c
          ∧ r.2.mem ((c.tc : Thread Cert.Mlp2Ideal.nD Cert.Mlp2Ideal.τ).loc Cert.Mlp2Ideal.main_v1_2) = v2 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
          ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4))
      ∧ θ_run (Cert.Mlp2ReferenceIdeal.defs (F := Ideal)) (onTc (τ := Cert.Mlp2ReferenceIdeal.τ) (Cert.Mlp2ReferenceIdeal.main (F := Ideal))) ⟨m', fun _ => 0, g'⟩ (fun r => ∀ c : Dev Cert.Mlp2ReferenceIdeal.nD,
          r.2.mem ((c.tc : Thread Cert.Mlp2ReferenceIdeal.nD Cert.Mlp2ReferenceIdeal.τ).loc Cert.Mlp2ReferenceIdeal.main_v1_0) = v0 c
          ∧ r.2.mem ((c.tc : Thread Cert.Mlp2ReferenceIdeal.nD Cert.Mlp2ReferenceIdeal.τ).loc Cert.Mlp2ReferenceIdeal.main_v1_1) = v1 c
          ∧ r.2.mem ((c.tc : Thread Cert.Mlp2ReferenceIdeal.nD Cert.Mlp2ReferenceIdeal.τ).loc Cert.Mlp2ReferenceIdeal.main_v1_2) = v2 c
          ∧ r.2.mem ((c.tc : Thread Cert.Mlp2ReferenceIdeal.nD Cert.Mlp2ReferenceIdeal.τ).loc Cert.Mlp2ReferenceIdeal.main_arg0) = m' ((c.tc : Thread Cert.Mlp2ReferenceIdeal.nD Cert.Mlp2ReferenceIdeal.τ).loc Cert.Mlp2ReferenceIdeal.main_arg0)
          ∧ r.2.mem ((c.tc : Thread Cert.Mlp2ReferenceIdeal.nD Cert.Mlp2ReferenceIdeal.τ).loc Cert.Mlp2ReferenceIdeal.main_arg1) = m' ((c.tc : Thread Cert.Mlp2ReferenceIdeal.nD Cert.Mlp2ReferenceIdeal.τ).loc Cert.Mlp2ReferenceIdeal.main_arg1)
          ∧ r.2.mem ((c.tc : Thread Cert.Mlp2ReferenceIdeal.nD Cert.Mlp2ReferenceIdeal.τ).loc Cert.Mlp2ReferenceIdeal.main_arg2) = m' ((c.tc : Thread Cert.Mlp2ReferenceIdeal.nD Cert.Mlp2ReferenceIdeal.τ).loc Cert.Mlp2ReferenceIdeal.main_arg2)
          ∧ r.2.mem ((c.tc : Thread Cert.Mlp2ReferenceIdeal.nD Cert.Mlp2ReferenceIdeal.τ).loc Cert.Mlp2ReferenceIdeal.main_arg3) = m' ((c.tc : Thread Cert.Mlp2ReferenceIdeal.nD Cert.Mlp2ReferenceIdeal.τ).loc Cert.Mlp2ReferenceIdeal.main_arg3)
          ∧ r.2.mem ((c.tc : Thread Cert.Mlp2ReferenceIdeal.nD Cert.Mlp2ReferenceIdeal.τ).loc Cert.Mlp2ReferenceIdeal.main_arg4) = m' ((c.tc : Thread Cert.Mlp2ReferenceIdeal.nD Cert.Mlp2ReferenceIdeal.τ).loc Cert.Mlp2ReferenceIdeal.main_arg4))

def preserves_Mlp1_Mlp1Ideal : Prop :=
  True

def algebraic_Mlp1Ideal_Mlp1ReferenceIdeal [hMlp1Ideal : Cert.Mlp1Ideal.Facts] [hMlp1ReferenceIdeal : Cert.Mlp1ReferenceIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1ReferenceIdeal.nD Cert.Mlp1ReferenceIdeal.τ Cert.Mlp1ReferenceIdeal.sig) → Buf (Elt Ideal) ℓ) (g' : Dev Cert.Mlp1ReferenceIdeal.nD → PrngReg), Pre_Mlp1Ideal m →
    (∀ c : Dev Cert.Mlp1Ideal.nD,
      m' ((c.tc : Thread Cert.Mlp1ReferenceIdeal.nD Cert.Mlp1ReferenceIdeal.τ).loc Cert.Mlp1ReferenceIdeal.main_arg0) = m ((c.tc : Thread Cert.Mlp1Ideal.nD Cert.Mlp1Ideal.τ).loc Cert.Mlp1Ideal.main_arg0)
      ∧ m' ((c.tc : Thread Cert.Mlp1ReferenceIdeal.nD Cert.Mlp1ReferenceIdeal.τ).loc Cert.Mlp1ReferenceIdeal.main_arg1) = m ((c.tc : Thread Cert.Mlp1Ideal.nD Cert.Mlp1Ideal.τ).loc Cert.Mlp1Ideal.main_arg1)
      ∧ m' ((c.tc : Thread Cert.Mlp1ReferenceIdeal.nD Cert.Mlp1ReferenceIdeal.τ).loc Cert.Mlp1ReferenceIdeal.main_arg2) = m ((c.tc : Thread Cert.Mlp1Ideal.nD Cert.Mlp1Ideal.τ).loc Cert.Mlp1Ideal.main_arg2)
      ∧ m' ((c.tc : Thread Cert.Mlp1ReferenceIdeal.nD Cert.Mlp1ReferenceIdeal.τ).loc Cert.Mlp1ReferenceIdeal.main_arg3) = m ((c.tc : Thread Cert.Mlp1Ideal.nD Cert.Mlp1Ideal.τ).loc Cert.Mlp1Ideal.main_arg3)
      ∧ m' ((c.tc : Thread Cert.Mlp1ReferenceIdeal.nD Cert.Mlp1ReferenceIdeal.τ).loc Cert.Mlp1ReferenceIdeal.main_arg4) = m ((c.tc : Thread Cert.Mlp1Ideal.nD Cert.Mlp1Ideal.τ).loc Cert.Mlp1Ideal.main_arg4)) →
    ∃ (v0 : (c : Dev Cert.Mlp1Ideal.nD) → Buf (Elt Ideal) ((c.tc : Thread Cert.Mlp1Ideal.nD Cert.Mlp1Ideal.τ).loc Cert.Mlp1Ideal.main_v1_0)) (v1 : (c : Dev Cert.Mlp1Ideal.nD) → Buf (Elt Ideal) ((c.tc : Thread Cert.Mlp1Ideal.nD Cert.Mlp1Ideal.τ).loc Cert.Mlp1Ideal.main_v1_1)) (v2 : (c : Dev Cert.Mlp1Ideal.nD) → Buf (Elt Ideal) ((c.tc : Thread Cert.Mlp1Ideal.nD Cert.Mlp1Ideal.τ).loc Cert.Mlp1Ideal.main_v1_2)) (v3 : (c : Dev Cert.Mlp1Ideal.nD) → Buf (Elt Ideal) ((c.tc : Thread Cert.Mlp1Ideal.nD Cert.Mlp1Ideal.τ).loc Cert.Mlp1Ideal.main_v1_3)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v1_0) = v0 c
          ∧ r.2.mem ((c.tc : Thread Cert.Mlp1Ideal.nD Cert.Mlp1Ideal.τ).loc Cert.Mlp1Ideal.main_v1_1) = v1 c
          ∧ r.2.mem ((c.tc : Thread Cert.Mlp1Ideal.nD Cert.Mlp1Ideal.τ).loc Cert.Mlp1Ideal.main_v1_2) = v2 c
          ∧ r.2.mem ((c.tc : Thread Cert.Mlp1Ideal.nD Cert.Mlp1Ideal.τ).loc Cert.Mlp1Ideal.main_v1_3) = v3 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4))
      ∧ θ_run (Cert.Mlp1ReferenceIdeal.defs (F := Ideal)) (onTc (τ := Cert.Mlp1ReferenceIdeal.τ) (Cert.Mlp1ReferenceIdeal.main (F := Ideal))) ⟨m', fun _ => 0, g'⟩ (fun r => ∀ c : Dev Cert.Mlp1ReferenceIdeal.nD,
          r.2.mem ((c.tc : Thread Cert.Mlp1ReferenceIdeal.nD Cert.Mlp1ReferenceIdeal.τ).loc Cert.Mlp1ReferenceIdeal.main_v1_0) = v0 c
          ∧ r.2.mem ((c.tc : Thread Cert.Mlp1ReferenceIdeal.nD Cert.Mlp1ReferenceIdeal.τ).loc Cert.Mlp1ReferenceIdeal.main_v1_1) = v1 c
          ∧ r.2.mem ((c.tc : Thread Cert.Mlp1ReferenceIdeal.nD Cert.Mlp1ReferenceIdeal.τ).loc Cert.Mlp1ReferenceIdeal.main_v1_2) = v2 c
          ∧ r.2.mem ((c.tc : Thread Cert.Mlp1ReferenceIdeal.nD Cert.Mlp1ReferenceIdeal.τ).loc Cert.Mlp1ReferenceIdeal.main_v1_3) = v3 c
          ∧ r.2.mem ((c.tc : Thread Cert.Mlp1ReferenceIdeal.nD Cert.Mlp1ReferenceIdeal.τ).loc Cert.Mlp1ReferenceIdeal.main_arg0) = m' ((c.tc : Thread Cert.Mlp1ReferenceIdeal.nD Cert.Mlp1ReferenceIdeal.τ).loc Cert.Mlp1ReferenceIdeal.main_arg0)
          ∧ r.2.mem ((c.tc : Thread Cert.Mlp1ReferenceIdeal.nD Cert.Mlp1ReferenceIdeal.τ).loc Cert.Mlp1ReferenceIdeal.main_arg1) = m' ((c.tc : Thread Cert.Mlp1ReferenceIdeal.nD Cert.Mlp1ReferenceIdeal.τ).loc Cert.Mlp1ReferenceIdeal.main_arg1)
          ∧ r.2.mem ((c.tc : Thread Cert.Mlp1ReferenceIdeal.nD Cert.Mlp1ReferenceIdeal.τ).loc Cert.Mlp1ReferenceIdeal.main_arg2) = m' ((c.tc : Thread Cert.Mlp1ReferenceIdeal.nD Cert.Mlp1ReferenceIdeal.τ).loc Cert.Mlp1ReferenceIdeal.main_arg2)
          ∧ r.2.mem ((c.tc : Thread Cert.Mlp1ReferenceIdeal.nD Cert.Mlp1ReferenceIdeal.τ).loc Cert.Mlp1ReferenceIdeal.main_arg3) = m' ((c.tc : Thread Cert.Mlp1ReferenceIdeal.nD Cert.Mlp1ReferenceIdeal.τ).loc Cert.Mlp1ReferenceIdeal.main_arg3)
          ∧ r.2.mem ((c.tc : Thread Cert.Mlp1ReferenceIdeal.nD Cert.Mlp1ReferenceIdeal.τ).loc Cert.Mlp1ReferenceIdeal.main_arg4) = m' ((c.tc : Thread Cert.Mlp1ReferenceIdeal.nD Cert.Mlp1ReferenceIdeal.τ).loc Cert.Mlp1ReferenceIdeal.main_arg4))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v0_0)) (v1 : (c : Dev Cert.FirstIdeal.nD) → Buf (Elt Ideal) ((c.tc : Thread Cert.FirstIdeal.nD Cert.FirstIdeal.τ).loc Cert.FirstIdeal.main_v0_1)) (v2 : (c : Dev Cert.FirstIdeal.nD) → Buf (Elt Ideal) ((c.tc : Thread Cert.FirstIdeal.nD Cert.FirstIdeal.τ).loc Cert.FirstIdeal.main_v0_2)) (v3 : (c : Dev Cert.FirstIdeal.nD) → Buf (Elt Ideal) ((c.tc : Thread Cert.FirstIdeal.nD Cert.FirstIdeal.τ).loc Cert.FirstIdeal.main_v0_3)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0_0) = v0 c
          ∧ r.2.mem ((c.tc : Thread Cert.FirstIdeal.nD Cert.FirstIdeal.τ).loc Cert.FirstIdeal.main_v0_1) = v1 c
          ∧ r.2.mem ((c.tc : Thread Cert.FirstIdeal.nD Cert.FirstIdeal.τ).loc Cert.FirstIdeal.main_v0_2) = v2 c
          ∧ r.2.mem ((c.tc : Thread Cert.FirstIdeal.nD Cert.FirstIdeal.τ).loc Cert.FirstIdeal.main_v0_3) = v3 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v0_0) = v0 c
          ∧ r.2.mem ((c.tc : Thread Cert.FirstReferenceIdeal.nD Cert.FirstReferenceIdeal.τ).loc Cert.FirstReferenceIdeal.main_v0_1) = v1 c
          ∧ r.2.mem ((c.tc : Thread Cert.FirstReferenceIdeal.nD Cert.FirstReferenceIdeal.τ).loc Cert.FirstReferenceIdeal.main_v0_2) = v2 c
          ∧ r.2.mem ((c.tc : Thread Cert.FirstReferenceIdeal.nD Cert.FirstReferenceIdeal.τ).loc Cert.FirstReferenceIdeal.main_v0_3) = v3 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_Emb_EmbIdeal : Prop :=
  True

def algebraic_EmbIdeal_EmbReferenceIdeal [hEmbIdeal : Cert.EmbIdeal.Facts] [hEmbReferenceIdeal : Cert.EmbReferenceIdeal.Facts] : Prop :=
  ∀ (m : (ℓ : Loc Cert.EmbIdeal.nD Cert.EmbIdeal.τ Cert.EmbIdeal.sig) → Buf (Elt Ideal) ℓ) (g : Dev Cert.EmbIdeal.nD → PrngReg)
    (m' : (ℓ : Loc Cert.EmbReferenceIdeal.nD Cert.EmbReferenceIdeal.τ Cert.EmbReferenceIdeal.sig) → Buf (Elt Ideal) ℓ) (g' : Dev Cert.EmbReferenceIdeal.nD → PrngReg), Pre_EmbIdeal m →
    (∀ c : Dev Cert.EmbIdeal.nD,
      m' ((c.tc : Thread Cert.EmbReferenceIdeal.nD Cert.EmbReferenceIdeal.τ).loc Cert.EmbReferenceIdeal.main_arg0) = m ((c.tc : Thread Cert.EmbIdeal.nD Cert.EmbIdeal.τ).loc Cert.EmbIdeal.main_arg0)
      ∧ m' ((c.tc : Thread Cert.EmbReferenceIdeal.nD Cert.EmbReferenceIdeal.τ).loc Cert.EmbReferenceIdeal.main_arg1) = m ((c.tc : Thread Cert.EmbIdeal.nD Cert.EmbIdeal.τ).loc Cert.EmbIdeal.main_arg1)
      ∧ m' ((c.tc : Thread Cert.EmbReferenceIdeal.nD Cert.EmbReferenceIdeal.τ).loc Cert.EmbReferenceIdeal.main_arg2) = m ((c.tc : Thread Cert.EmbIdeal.nD Cert.EmbIdeal.τ).loc Cert.EmbIdeal.main_arg2)
      ∧ m' ((c.tc : Thread Cert.EmbReferenceIdeal.nD Cert.EmbReferenceIdeal.τ).loc Cert.EmbReferenceIdeal.main_arg3) = m ((c.tc : Thread Cert.EmbIdeal.nD Cert.EmbIdeal.τ).loc Cert.EmbIdeal.main_arg3)) →
    ∃ (v0 : (c : Dev Cert.EmbIdeal.nD) → Buf (Elt Ideal) ((c.tc : Thread Cert.EmbIdeal.nD Cert.EmbIdeal.τ).loc Cert.EmbIdeal.main_v0)),
      θ_run (Cert.EmbIdeal.defs (F := Ideal)) (onTc (τ := Cert.EmbIdeal.τ) (Cert.EmbIdeal.main (F := Ideal))) ⟨m, fun _ => 0, g⟩ (fun r => ∀ c : Dev Cert.EmbIdeal.nD,
          r.2.mem ((c.tc : Thread Cert.EmbIdeal.nD Cert.EmbIdeal.τ).loc Cert.EmbIdeal.main_v0) = v0 c
          ∧ r.2.mem ((c.tc : Thread Cert.EmbIdeal.nD Cert.EmbIdeal.τ).loc Cert.EmbIdeal.main_arg0) = m ((c.tc : Thread Cert.EmbIdeal.nD Cert.EmbIdeal.τ).loc Cert.EmbIdeal.main_arg0)
          ∧ r.2.mem ((c.tc : Thread Cert.EmbIdeal.nD Cert.EmbIdeal.τ).loc Cert.EmbIdeal.main_arg1) = m ((c.tc : Thread Cert.EmbIdeal.nD Cert.EmbIdeal.τ).loc Cert.EmbIdeal.main_arg1)
          ∧ r.2.mem ((c.tc : Thread Cert.EmbIdeal.nD Cert.EmbIdeal.τ).loc Cert.EmbIdeal.main_arg2) = m ((c.tc : Thread Cert.EmbIdeal.nD Cert.EmbIdeal.τ).loc Cert.EmbIdeal.main_arg2)
          ∧ r.2.mem ((c.tc : Thread Cert.EmbIdeal.nD Cert.EmbIdeal.τ).loc Cert.EmbIdeal.main_arg3) = m ((c.tc : Thread Cert.EmbIdeal.nD Cert.EmbIdeal.τ).loc Cert.EmbIdeal.main_arg3))
      ∧ θ_run (Cert.EmbReferenceIdeal.defs (F := Ideal)) (onTc (τ := Cert.EmbReferenceIdeal.τ) (Cert.EmbReferenceIdeal.main (F := Ideal))) ⟨m', fun _ => 0, g'⟩ (fun r => ∀ c : Dev Cert.EmbReferenceIdeal.nD,
          r.2.mem ((c.tc : Thread Cert.EmbReferenceIdeal.nD Cert.EmbReferenceIdeal.τ).loc Cert.EmbReferenceIdeal.main_v0) = v0 c
          ∧ r.2.mem ((c.tc : Thread Cert.EmbReferenceIdeal.nD Cert.EmbReferenceIdeal.τ).loc Cert.EmbReferenceIdeal.main_arg0) = m' ((c.tc : Thread Cert.EmbReferenceIdeal.nD Cert.EmbReferenceIdeal.τ).loc Cert.EmbReferenceIdeal.main_arg0)
          ∧ r.2.mem ((c.tc : Thread Cert.EmbReferenceIdeal.nD Cert.EmbReferenceIdeal.τ).loc Cert.EmbReferenceIdeal.main_arg1) = m' ((c.tc : Thread Cert.EmbReferenceIdeal.nD Cert.EmbReferenceIdeal.τ).loc Cert.EmbReferenceIdeal.main_arg1)
          ∧ r.2.mem ((c.tc : Thread Cert.EmbReferenceIdeal.nD Cert.EmbReferenceIdeal.τ).loc Cert.EmbReferenceIdeal.main_arg2) = m' ((c.tc : Thread Cert.EmbReferenceIdeal.nD Cert.EmbReferenceIdeal.τ).loc Cert.EmbReferenceIdeal.main_arg2)
          ∧ r.2.mem ((c.tc : Thread Cert.EmbReferenceIdeal.nD Cert.EmbReferenceIdeal.τ).loc Cert.EmbReferenceIdeal.main_arg3) = m' ((c.tc : Thread Cert.EmbReferenceIdeal.nD Cert.EmbReferenceIdeal.τ).loc Cert.EmbReferenceIdeal.main_arg3))

def Claim : Prop :=
  ∃ (hKernel : Cert.Kernel.Facts) (hKernelIdeal : Cert.KernelIdeal.Facts) (hReferenceIdeal : Cert.ReferenceIdeal.Facts) (hMlp2 : Cert.Mlp2.Facts) (hMlp2Ideal : Cert.Mlp2Ideal.Facts) (hMlp2ReferenceIdeal : Cert.Mlp2ReferenceIdeal.Facts) (hMlp1 : Cert.Mlp1.Facts) (hMlp1Ideal : Cert.Mlp1Ideal.Facts) (hMlp1ReferenceIdeal : Cert.Mlp1ReferenceIdeal.Facts) (hFirst : Cert.First.Facts) (hFirstIdeal : Cert.FirstIdeal.Facts) (hFirstReferenceIdeal : Cert.FirstReferenceIdeal.Facts) (hEmb : Cert.Emb.Facts) (hEmbIdeal : Cert.EmbIdeal.Facts) (hEmbReferenceIdeal : Cert.EmbReferenceIdeal.Facts) (hPre_tok_in_range : Cert.Pre_tok_in_range.Facts),
    quiescent_Kernel (hKernel := hKernel)
    ∧ quiescent_KernelIdeal (hKernelIdeal := hKernelIdeal)
    ∧ quiescent_KernelIdeal_pre_tok_in_range (hKernelIdeal := hKernelIdeal) (hPre_tok_in_range := hPre_tok_in_range)
    ∧ quiescent_ReferenceIdeal (hReferenceIdeal := hReferenceIdeal)
    ∧ quiescent_ReferenceIdeal_pre_tok_in_range (hReferenceIdeal := hReferenceIdeal) (hPre_tok_in_range := hPre_tok_in_range)
    ∧ quiescent_Mlp2 (hMlp2 := hMlp2)
    ∧ quiescent_Mlp2Ideal (hMlp2Ideal := hMlp2Ideal)
    ∧ quiescent_Mlp2ReferenceIdeal (hMlp2ReferenceIdeal := hMlp2ReferenceIdeal)
    ∧ quiescent_Mlp1 (hMlp1 := hMlp1)
    ∧ quiescent_Mlp1Ideal (hMlp1Ideal := hMlp1Ideal)
    ∧ quiescent_Mlp1ReferenceIdeal (hMlp1ReferenceIdeal := hMlp1ReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Emb (hEmb := hEmb)
    ∧ quiescent_EmbIdeal (hEmbIdeal := hEmbIdeal)
    ∧ quiescent_EmbReferenceIdeal (hEmbReferenceIdeal := hEmbReferenceIdeal)
    ∧ preserves_Kernel_KernelIdeal
    ∧ algebraic_KernelIdeal_ReferenceIdeal_pre_tok_in_range (hKernelIdeal := hKernelIdeal) (hReferenceIdeal := hReferenceIdeal) (hPre_tok_in_range := hPre_tok_in_range)
    ∧ preserves_Mlp2_Mlp2Ideal
    ∧ algebraic_Mlp2Ideal_Mlp2ReferenceIdeal (hMlp2Ideal := hMlp2Ideal) (hMlp2ReferenceIdeal := hMlp2ReferenceIdeal)
    ∧ preserves_Mlp1_Mlp1Ideal
    ∧ algebraic_Mlp1Ideal_Mlp1ReferenceIdeal (hMlp1Ideal := hMlp1Ideal) (hMlp1ReferenceIdeal := hMlp1ReferenceIdeal)
    ∧ preserves_First_FirstIdeal
    ∧ algebraic_FirstIdeal_FirstReferenceIdeal (hFirstIdeal := hFirstIdeal) (hFirstReferenceIdeal := hFirstReferenceIdeal)
    ∧ preserves_Emb_EmbIdeal
    ∧ algebraic_EmbIdeal_EmbReferenceIdeal (hEmbIdeal := hEmbIdeal) (hEmbReferenceIdeal := hEmbReferenceIdeal)
-- ==== Pre_tok_in_range.lean ====
abbrev S768x3584 : Shape := ⟨2, ![768, 3584]⟩
abbrev S768x1 : Shape := ⟨2, ![768, 1]⟩
abbrev S3584x102400 : Shape := ⟨2, ![3584, 102400]⟩
abbrev S28x102400 : Shape := ⟨2, ![28, 102400]⟩
abbrev S_ : Shape := ⟨0, ![]⟩

class Facts : Prop where
  bcast_S_S768x1 : S_.BroadcastsInDim S768x1 (![] : Fin 0 → Fin S768x1.rank)

variable [Facts]

def fn {F : FTy → Type} [FloatOps F] (main_arg0 : FVec F S768x3584 .bf16) (main_arg1 : IVec S768x1 32) (main_arg2 : FVec F S3584x102400 .fp8e4m3) (main_arg3 : FVec F S28x102400 .f32) : IVec S768x1 1 :=
  let main_c : IVec S_ 32 := constantI S_ 32 0#32
  let main_v0 : IVec S768x1 32 := broadcastInDim S768x1 ![] bcast_S_S768x1 main_c
  let main_v1 : IVec S768x1 1 := cmpi .sge main_arg1 main_v0
  let main_c_0 : IVec S_ 32 := constantI S_ 32 102400#32
  let main_v2 : IVec S768x1 32 := broadcastInDim S768x1 ![] bcast_S_S768x1 main_c_0
  let main_v3 : IVec S768x1 1 := cmpi .slt main_arg1 main_v2
  let main_v4 : IVec S768x1 1 := andi main_v1 main_v3
  main_v4
-- ==== Kernel.lean ====
abbrev S768x3584 : Shape := ⟨2, ![768, 3584]⟩
abbrev S768x1 : Shape := ⟨2, ![768, 1]⟩
abbrev S3584x102400 : Shape := ⟨2, ![3584, 102400]⟩
abbrev S28x102400 : Shape := ⟨2, ![28, 102400]⟩
abbrev S192x4x102400 : Shape := ⟨3, ![192, 4, 102400]⟩
abbrev S3584x512 : Shape := ⟨2, ![3584, 512]⟩
abbrev S28x512 : Shape := ⟨2, ![28, 512]⟩
abbrev S192x4x512 : Shape := ⟨3, ![192, 4, 512]⟩
abbrev S768x128 : Shape := ⟨2, ![768, 128]⟩
abbrev S28x128x512 : Shape := ⟨3, ![28, 128, 512]⟩
abbrev S28x1x512 : Shape := ⟨3, ![28, 1, 512]⟩
abbrev S768x512 : Shape := ⟨2, ![768, 512]⟩
abbrev S192x512 : Shape := ⟨2, ![192, 512]⟩
abbrev S192x1x512 : Shape := ⟨3, ![192, 1, 512]⟩
abbrev S192x2x512 : Shape := ⟨3, ![192, 2, 512]⟩
abbrev S768 : Shape := ⟨1, ![768]⟩

abbrev nBuf : Space → Nat
  | .hbm => 7
  | .vmem => 13
  | .smem => 0
  | _ => 0

abbrev bufTy : (tb : Table) → Fin (tcTables nBuf tb) → BufTy
  | .hbm, ⟨0, _⟩ => ⟨S768x3584, .bf16⟩
  | .hbm, ⟨1, _⟩ => ⟨S768x1, .i32⟩
  | .hbm, ⟨2, _⟩ => ⟨S3584x102400, .fp8e4m3⟩
  | .hbm, ⟨3, _⟩ => ⟨S28x102400, .f32⟩
  | .hbm, ⟨4, _⟩ => ⟨S192x4x102400, .bf16⟩
  | .hbm, ⟨5, _⟩ => ⟨S768x1, .f32⟩
  | .hbm, ⟨6, _⟩ => ⟨S768x1, .f32⟩
  | .local _ .vmem, ⟨0, _⟩ => ⟨S768x3584, .bf16⟩
  | .local _ .vmem, ⟨1, _⟩ => ⟨S768x1, .i32⟩
  | .local _ .vmem, ⟨2, _⟩ => ⟨S3584x512, .fp8e4m3⟩
  | .local _ .vmem, ⟨3, _⟩ => ⟨S3584x512, .fp8e4m3⟩
  | .local _ .vmem, ⟨4, _⟩ => ⟨S28x512, .f32⟩
  | .local _ .vmem, ⟨5, _⟩ => ⟨S28x512, .f32⟩
  | .local _ .vmem, ⟨6, _⟩ => ⟨S192x4x512, .bf16⟩
  | .local _ .vmem, ⟨7, _⟩ => ⟨S192x4x512, .bf16⟩
  | .local _ .vmem, ⟨8, _⟩ => ⟨S768x1, .f32⟩
  | .local _ .vmem, ⟨9, _⟩ => ⟨S768x1, .f32⟩
  | .local _ .vmem, ⟨10, _⟩ => ⟨S768x128, .f32⟩
  | .local _ .vmem, ⟨11, _⟩ => ⟨S768x128, .f32⟩
  | .local _ .vmem, ⟨12, _⟩ => ⟨S768x128, .f32⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![200], ![false]⟩

def k0_cond2 (i : grid0.Coords) : BitVec 1 :=
  let arg0 : BitVec 32 := BitVec.ofNat 32 (i 0).val
  let c199_i32 : BitVec 32 := 199#32
  let v94 : BitVec 1 := Scalar.cmpi .eq arg0 c199_i32
  let v95 : BitVec 32 := Scalar.extui v94
  let c0_i32_30 : BitVec 32 := 0#32
  let v96 : BitVec 1 := Scalar.cmpi .ne v95 c0_i32_30
  v96

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x4x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S768x3584 : Shape := ⟨2, ![768, 3584]⟩
abbrev S768x1 : Shape := ⟨2, ![768, 1]⟩
abbrev S3584x102400 : Shape := ⟨2, ![3584, 102400]⟩
abbrev S28x102400 : Shape := ⟨2, ![28, 102400]⟩
abbrev S28x128x102400 : Shape := ⟨3, ![28, 128, 102400]⟩
abbrev S28x1x102400 : Shape := ⟨3, ![28, 1, 102400]⟩
abbrev S768x102400 : Shape := ⟨2, ![768, 102400]⟩
abbrev S_ : Shape := ⟨0, ![]⟩
abbrev S768 : Shape := ⟨1, ![768]⟩
abbrev S768x1x1 : Shape := ⟨3, ![768, 1, 1]⟩
abbrev S1 : Shape := ⟨1, ![1]⟩
abbrev S1x1x1 : Shape := ⟨3, ![1, 1, 1]⟩
abbrev S4x192x102400 : Shape := ⟨3, ![4, 192, 102400]⟩
abbrev S192x4x102400 : Shape := ⟨3, ![192, 4, 102400]⟩

abbrev nBuf : Space → Nat
  | .hbm => 52
  | .vmem => 2
  | .smem => 0
  | _ => 0

abbrev bufTy : (tb : Table) → Fin (tcTables nBuf tb) → BufTy
  | .hbm, ⟨0, _⟩ => ⟨S768x3584, .bf16⟩
  | .hbm, ⟨1, _⟩ => ⟨S768x1, .i32⟩
  | .hbm, ⟨2, _⟩ => ⟨S3584x102400, .fp8e4m3⟩
  | .hbm, ⟨3, _⟩ => ⟨S28x102400, .f32⟩
  | .hbm, ⟨4, _⟩ => ⟨S3584x102400, .bf16⟩
  | .hbm, ⟨5, _⟩ => ⟨S28x128x102400, .bf16⟩
  | .hbm, ⟨6, _⟩ => ⟨S28x102400, .bf16⟩
  | .hbm, ⟨7, _⟩ => ⟨S28x1x102400, .bf16⟩
  | .hbm, ⟨8, _⟩ => ⟨S28x128x102400, .bf16⟩
  | .hbm, ⟨9, _⟩ => ⟨S28x128x102400, .bf16⟩
  | .hbm, ⟨10, _⟩ => ⟨S3584x102400, .bf16⟩
  | .hbm, ⟨11, _⟩ => ⟨S768x102400, .f32⟩
  | .hbm, ⟨12, _⟩ => ⟨S_, .f32⟩
  | .hbm, ⟨13, _⟩ => ⟨S768, .f32⟩
  | .hbm, ⟨14, _⟩ => ⟨S768x1, .f32⟩
  | .hbm, ⟨15, _⟩ => ⟨S768x102400, .f32⟩
  | .hbm, ⟨16, _⟩ => ⟨S768x102400, .f32⟩
  | .hbm, ⟨17, _⟩ => ⟨S768x102400, .f32⟩
  | .hbm, ⟨18, _⟩ => ⟨S_, .f32⟩
  | .hbm, ⟨19, _⟩ => ⟨S768, .f32⟩
  | .hbm, ⟨20, _⟩ => ⟨S768x1, .f32⟩
  | .hbm, ⟨21, _⟩ => ⟨S768x1, .f32⟩
  | .hbm, ⟨22, _⟩ => ⟨S768x1, .f32⟩
  | .hbm, ⟨23, _⟩ => ⟨S_, .i32⟩
  | .hbm, ⟨24, _⟩ => ⟨S768x1, .i32⟩
  | .hbm, ⟨25, _⟩ => ⟨S768x1, .i1⟩
  | .hbm, ⟨26, _⟩ => ⟨S_, .i32⟩
  | .hbm, ⟨27, _⟩ => ⟨S768x1, .i32⟩
  | .hbm, ⟨28, _⟩ => ⟨S768x1, .i32⟩
  | .hbm, ⟨29, _⟩ => ⟨S768x1, .i32⟩
  | .hbm, ⟨30, _⟩ => ⟨S768x1x1, .i32⟩
  | .hbm, ⟨31, _⟩ => ⟨S1, .i32⟩
  | .hbm, ⟨32, _⟩ => ⟨S_, .i32⟩
  | .hbm, ⟨33, _⟩ => ⟨S768x1x1, .i32⟩
  | .hbm, ⟨34, _⟩ => ⟨S768x1x1, .i1⟩
  | .hbm, ⟨35, _⟩ => ⟨S1x1x1, .i32⟩
  | .hbm, ⟨36, _⟩ => ⟨S768x1x1, .i32⟩
  | .hbm, ⟨37, _⟩ => ⟨S768x1x1, .i1⟩
  | .hbm, ⟨38, _⟩ => ⟨S768x1x1, .i1⟩
  | .hbm, ⟨39, _⟩ => ⟨S_, .i1⟩
  | .hbm, ⟨40, _⟩ => ⟨S768x1, .i1⟩
  | .hbm, ⟨41, _⟩ => ⟨S768x1, .f32⟩
  | .hbm, ⟨42, _⟩ => ⟨S_, .f32⟩
  | .hbm, ⟨43, _⟩ => ⟨S768x1, .f32⟩
  | .hbm, ⟨44, _⟩ => ⟨S768x1, .f32⟩
  | .hbm, ⟨45, _⟩ => ⟨S_, .f32⟩
  | .hbm, ⟨46, _⟩ => ⟨S768x1, .f32⟩
  | .hbm, ⟨47, _⟩ => ⟨S768x1, .f32⟩
  | .hbm, ⟨48, _⟩ => ⟨S768x102400, .bf16⟩
  | .hbm, ⟨49, _⟩ => ⟨S4x192x102400, .bf16⟩
  | .hbm, ⟨50, _⟩ => ⟨S192x4x102400, .bf16⟩
  | .hbm, ⟨51, _⟩ => ⟨S768x1, .f32⟩
  | .local _ .vmem, ⟨0, _⟩ => ⟨S3584x102400, .fp8e4m3⟩
  | .local _ .vmem, ⟨1, _⟩ => ⟨S3584x102400, .bf16⟩
  | _, _ => ⟨S768x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3584x102400 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x102400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Mlp2.lean ====
abbrev S768x3584 : Shape := ⟨2, ![768, 3584]⟩
abbrev S3584 : Shape := ⟨1, ![3584]⟩
abbrev S3584x3584 : Shape := ⟨2, ![3584, 3584]⟩
abbrev S28x3584 : Shape := ⟨2, ![28, 3584]⟩
abbrev S1x3584 : Shape := ⟨2, ![1, 3584]⟩
abbrev S768x28 : Shape := ⟨2, ![768, 28]⟩
abbrev S768x512 : Shape := ⟨2, ![768, 512]⟩
abbrev S1x512 : Shape := ⟨2, ![1, 512]⟩
abbrev S3584x512 : Shape := ⟨2, ![3584, 512]⟩
abbrev S28x512 : Shape := ⟨2, ![28, 512]⟩
abbrev S28x128x512 : Shape := ⟨3, ![28, 128, 512]⟩
abbrev S28x1x512 : Shape := ⟨3, ![28, 1, 512]⟩
abbrev S768x128 : Shape := ⟨2, ![768, 128]⟩
abbrev S768 : Shape := ⟨1, ![768]⟩
abbrev S768x1 : Shape := ⟨2, ![768, 1]⟩
abbrev S768x253 : Shape := ⟨2, ![768, 253]⟩

abbrev nBuf : Space → Nat
  | .hbm => 9
  | .vmem => 14
  | .smem => 0
  | _ => 0

abbrev bufTy : (tb : Table) → Fin (tcTables nBuf tb) → BufTy
  | .hbm, ⟨0, _⟩ => ⟨S768x3584, .bf16⟩
  | .hbm, ⟨1, _⟩ => ⟨S768x3584, .f32⟩
  | .hbm, ⟨2, _⟩ => ⟨S3584, .f32⟩
  | .hbm, ⟨3, _⟩ => ⟨S3584x3584, .fp8e4m3⟩
  | .hbm, ⟨4, _⟩ => ⟨S28x3584, .f32⟩
  | .hbm, ⟨5, _⟩ => ⟨S1x3584, .f32⟩
  | .hbm, ⟨6, _⟩ => ⟨S768x3584, .fp8e4m3⟩
  | .hbm, ⟨7, _⟩ => ⟨S768x28, .f32⟩
  | .hbm, ⟨8, _⟩ => ⟨S768x3584, .bf16⟩
  | .local _ .vmem, ⟨0, _⟩ => ⟨S768x3584, .bf16⟩
  | .local _ .vmem, ⟨1, _⟩ => ⟨S768x512, .f32⟩
  | .local _ .vmem, ⟨2, _⟩ => ⟨S768x512, .f32⟩
  | .local _ .vmem, ⟨3, _⟩ => ⟨S1x512, .f32⟩
  | .local _ .vmem, ⟨4, _⟩ => ⟨S1x512, .f32⟩
  | .local _ .vmem, ⟨5, _⟩ => ⟨S3584x512, .fp8e4m3⟩
  | .local _ .vmem, ⟨6, _⟩ => ⟨S3584x512, .fp8e4m3⟩
  | .local _ .vmem, ⟨7, _⟩ => ⟨S28x512, .f32⟩
  | .local _ .vmem, ⟨8, _⟩ => ⟨S28x512, .f32⟩
  | .local _ .vmem, ⟨9, _⟩ => ⟨S768x512, .fp8e4m3⟩
  | .local _ .vmem, ⟨10, _⟩ => ⟨S768x512, .fp8e4m3⟩
  | .local _ .vmem, ⟨11, _⟩ => ⟨S768x28, .f32⟩
  | .local _ .vmem, ⟨12, _⟩ => ⟨S768x512, .bf16⟩
  | .local _ .vmem, ⟨13, _⟩ => ⟨S768x512, .bf16⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Mlp2ReferenceIdeal.lean ====
abbrev S768x3584 : Shape := ⟨2, ![768, 3584]⟩
abbrev S3584 : Shape := ⟨1, ![3584]⟩
abbrev S3584x3584 : Shape := ⟨2, ![3584, 3584]⟩
abbrev S28x3584 : Shape := ⟨2, ![28, 3584]⟩
abbrev S1x3584 : Shape := ⟨2, ![1, 3584]⟩
abbrev S768x28 : Shape := ⟨2, ![768, 28]⟩
abbrev S28x128x3584 : Shape := ⟨3, ![28, 128, 3584]⟩
abbrev S28x1x3584 : Shape := ⟨3, ![28, 1, 3584]⟩
abbrev S768x28x128 : Shape := ⟨3, ![768, 28, 128]⟩
abbrev S768x28x1 : Shape := ⟨3, ![768, 28, 1]⟩

abbrev nBuf : Space → Nat
  | .hbm => 9
  | .vmem => 8
  | .smem => 0
  | _ => 0

abbrev bufTy : (tb : Table) → Fin (tcTables nBuf tb) → BufTy
  | .hbm, ⟨0, _⟩ => ⟨S768x3584, .bf16⟩
  | .hbm, ⟨1, _⟩ => ⟨S768x3584, .f32⟩
  | .hbm, ⟨2, _⟩ => ⟨S3584, .f32⟩
  | .hbm, ⟨3, _⟩ => ⟨S3584x3584, .fp8e4m3⟩
  | .hbm, ⟨4, _⟩ => ⟨S28x3584, .f32⟩
  | .hbm, ⟨5, _⟩ => ⟨S1x3584, .f32⟩
  | .hbm, ⟨6, _⟩ => ⟨S768x3584, .fp8e4m3⟩
  | .hbm, ⟨7, _⟩ => ⟨S768x28, .f32⟩
  | .hbm, ⟨8, _⟩ => ⟨S768x3584, .bf16⟩
  | .local _ .vmem, ⟨0, _⟩ => ⟨S768x3584, .bf16⟩
  | .local _ .vmem, ⟨1, _⟩ => ⟨S768x3584, .f32⟩
  | .local _ .vmem, ⟨2, _⟩ => ⟨S1x3584, .f32⟩
  | .local _ .vmem, ⟨3, _⟩ => ⟨S3584x3584, .fp8e4m3⟩
  | .local _ .vmem, ⟨4, _⟩ => ⟨S28x3584, .f32⟩
  | .local _ .vmem, ⟨5, _⟩ => ⟨S768x3584, .fp8e4m3⟩
  | .local _ .vmem, ⟨6, _⟩ => ⟨S768x28, .f32⟩
  | .local _ .vmem, ⟨7, _⟩ => ⟨S768x3584, .bf16⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Mlp1.lean ====
abbrev S768x3584 : Shape := ⟨2, ![768, 3584]⟩
abbrev S24x3584 : Shape := ⟨2, ![24, 3584]⟩
abbrev S3584 : Shape := ⟨1, ![3584]⟩
abbrev S3584x3584 : Shape := ⟨2, ![3584, 3584]⟩
abbrev S28x3584 : Shape := ⟨2, ![28, 3584]⟩
abbrev S1x3584 : Shape := ⟨2, ![1, 3584]⟩
abbrev S768x28 : Shape := ⟨2, ![768, 28]⟩
abbrev S24x512 : Shape := ⟨2, ![24, 512]⟩
abbrev S1x512 : Shape := ⟨2, ![1, 512]⟩
abbrev S3584x512 : Shape := ⟨2, ![3584, 512]⟩
abbrev S28x512 : Shape := ⟨2, ![28, 512]⟩
abbrev S768x512 : Shape := ⟨2, ![768, 512]⟩
abbrev S1x24x1x512 : Shape := ⟨4, ![1, 24, 1, 512]⟩
abbrev S4x24x8x512 : Shape := ⟨4, ![4, 24, 8, 512]⟩
abbrev S28x128x512 : Shape := ⟨3, ![28, 128, 512]⟩
abbrev S28x1x512 : Shape := ⟨3, ![28, 1, 512]⟩
abbrev S768x128 : Shape := ⟨2, ![768, 128]⟩
abbrev S768 : Shape := ⟨1, ![768]⟩
abbrev S768x1 : Shape := ⟨2, ![768, 1]⟩
abbrev S768x253 : Shape := ⟨2, ![768, 253]⟩

abbrev nBuf : Space → Nat
  | .hbm => 10
  | .vmem => 16
  | .smem => 0
  | _ => 0

abbrev bufTy : (tb : Table) → Fin (tcTables nBuf tb) → BufTy
  | .hbm, ⟨0, _⟩ => ⟨S768x3584, .bf16⟩
  | .hbm, ⟨1, _⟩ => ⟨S24x3584, .f32⟩
  | .hbm, ⟨2, _⟩ => ⟨S3584, .f32⟩
  | .hbm, ⟨3, _⟩ => ⟨S3584x3584, .fp8e4m3⟩
  | .hbm, ⟨4, _⟩ => ⟨S28x3584, .f32⟩
  | .hbm, ⟨5, _⟩ => ⟨S1x3584, .f32⟩
  | .hbm, ⟨6, _⟩ => ⟨S768x3584, .f32⟩
  | .hbm, ⟨7, _⟩ => ⟨S768x3584, .fp8e4m3⟩
  | .hbm, ⟨8, _⟩ => ⟨S768x28, .f32⟩
  | .hbm, ⟨9, _⟩ => ⟨S768x3584, .bf16⟩
  | .local _ .vmem, ⟨0, _⟩ => ⟨S768x3584, .bf16⟩
  | .local _ .vmem, ⟨1, _⟩ => ⟨S24x512, .f32⟩
  | .local _ .vmem, ⟨2, _⟩ => ⟨S24x512, .f32⟩
  | .local _ .vmem, ⟨3, _⟩ => ⟨S1x512, .f32⟩
  | .local _ .vmem, ⟨4, _⟩ => ⟨S1x512, .f32⟩
  | .local _ .vmem, ⟨5, _⟩ => ⟨S3584x512, .fp8e4m3⟩
  | .local _ .vmem, ⟨6, _⟩ => ⟨S3584x512, .fp8e4m3⟩
  | .local _ .vmem, ⟨7, _⟩ => ⟨S28x512, .f32⟩
  | .local _ .vmem, ⟨8, _⟩ => ⟨S28x512, .f32⟩
  | .local _ .vmem, ⟨9, _⟩ => ⟨S768x512, .f32⟩
  | .local _ .vmem, ⟨10, _⟩ => ⟨S768x512, .f32⟩
  | .local _ .vmem, ⟨11, _⟩ => ⟨S768x512, .fp8e4m3⟩
  | .local _ .vmem, ⟨12, _⟩ => ⟨S768x512, .fp8e4m3⟩
  | .local _ .vmem, ⟨13, _⟩ => ⟨S768x28, .f32⟩
  | .local _ .vmem, ⟨14, _⟩ => ⟨S768x512, .bf16⟩
  | .local _ .vmem, ⟨15, _⟩ => ⟨S768x512, .bf16⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Mlp1ReferenceIdeal.lean ====
abbrev S768x3584 : Shape := ⟨2, ![768, 3584]⟩
abbrev S24x3584 : Shape := ⟨2, ![24, 3584]⟩
abbrev S3584 : Shape := ⟨1, ![3584]⟩
abbrev S3584x3584 : Shape := ⟨2, ![3584, 3584]⟩
abbrev S28x3584 : Shape := ⟨2, ![28, 3584]⟩
abbrev S1x3584 : Shape := ⟨2, ![1, 3584]⟩
abbrev S768x28 : Shape := ⟨2, ![768, 28]⟩
abbrev S28x128x3584 : Shape := ⟨3, ![28, 128, 3584]⟩
abbrev S28x1x3584 : Shape := ⟨3, ![28, 1, 3584]⟩
abbrev S1x24x1x3584 : Shape := ⟨4, ![1, 24, 1, 3584]⟩
abbrev S4x24x8x3584 : Shape := ⟨4, ![4, 24, 8, 3584]⟩
abbrev S768x28x128 : Shape := ⟨3, ![768, 28, 128]⟩
abbrev S768x28x1 : Shape := ⟨3, ![768, 28, 1]⟩

abbrev nBuf : Space → Nat
  | .hbm => 10
  | .vmem => 9
  | .smem => 0
  | _ => 0

abbrev bufTy : (tb : Table) → Fin (tcTables nBuf tb) → BufTy
  | .hbm, ⟨0, _⟩ => ⟨S768x3584, .bf16⟩
  | .hbm, ⟨1, _⟩ => ⟨S24x3584, .f32⟩
  | .hbm, ⟨2, _⟩ => ⟨S3584, .f32⟩
  | .hbm, ⟨3, _⟩ => ⟨S3584x3584, .fp8e4m3⟩
  | .hbm, ⟨4, _⟩ => ⟨S28x3584, .f32⟩
  | .hbm, ⟨5, _⟩ => ⟨S1x3584, .f32⟩
  | .hbm, ⟨6, _⟩ => ⟨S768x3584, .f32⟩
  | .hbm, ⟨7, _⟩ => ⟨S768x3584, .fp8e4m3⟩
  | .hbm, ⟨8, _⟩ => ⟨S768x28, .f32⟩
  | .hbm, ⟨9, _⟩ => ⟨S768x3584, .bf16⟩
  | .local _ .vmem, ⟨0, _⟩ => ⟨S768x3584, .bf16⟩
  | .local _ .vmem, ⟨1, _⟩ => ⟨S24x3584, .f32⟩
  | .local _ .vmem, ⟨2, _⟩ => ⟨S1x3584, .f32⟩
  | .local _ .vmem, ⟨3, _⟩ => ⟨S3584x3584, .fp8e4m3⟩
  | .local _ .vmem, ⟨4, _⟩ => ⟨S28x3584, .f32⟩
  | .local _ .vmem, ⟨5, _⟩ => ⟨S768x3584, .f32⟩
  | .local _ .vmem, ⟨6, _⟩ => ⟨S768x3584, .fp8e4m3⟩
  | .local _ .vmem, ⟨7, _⟩ => ⟨S768x28, .f32⟩
  | .local _ .vmem, ⟨8, _⟩ => ⟨S768x3584, .bf16⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== First.lean ====
abbrev S24x3584 : Shape := ⟨2, ![24, 3584]⟩
abbrev S24x128 : Shape := ⟨2, ![24, 128]⟩
abbrev S3584x3584 : Shape := ⟨2, ![3584, 3584]⟩
abbrev S28x3584 : Shape := ⟨2, ![28, 3584]⟩
abbrev S24x28 : Shape := ⟨2, ![24, 28]⟩
abbrev S3584x512 : Shape := ⟨2, ![3584, 512]⟩
abbrev S28x512 : Shape := ⟨2, ![28, 512]⟩
abbrev S24x512 : Shape := ⟨2, ![24, 512]⟩
abbrev S24 : Shape := ⟨1, ![24]⟩
abbrev S24x1 : Shape := ⟨2, ![24, 1]⟩
abbrev S24x253 : Shape := ⟨2, ![24, 253]⟩
abbrev S28x128x512 : Shape := ⟨3, ![28, 128, 512]⟩
abbrev S28x1x512 : Shape := ⟨3, ![28, 1, 512]⟩

abbrev nBuf : Space → Nat
  | .hbm => 11
  | .vmem => 18
  | .smem => 0
  | _ => 0

abbrev bufTy : (tb : Table) → Fin (tcTables nBuf tb) → BufTy
  | .hbm, ⟨0, _⟩ => ⟨S24x3584, .bf16⟩
  | .hbm, ⟨1, _⟩ => ⟨S24x3584, .bf16⟩
  | .hbm, ⟨2, _⟩ => ⟨S24x128, .f32⟩
  | .hbm, ⟨3, _⟩ => ⟨S3584x3584, .fp8e4m3⟩
  | .hbm, ⟨4, _⟩ => ⟨S28x3584, .f32⟩
  | .hbm, ⟨5, _⟩ => ⟨S3584x3584, .fp8e4m3⟩
  | .hbm, ⟨6, _⟩ => ⟨S28x3584, .f32⟩
  | .hbm, ⟨7, _⟩ => ⟨S24x3584, .f32⟩
  | .hbm, ⟨8, _⟩ => ⟨S24x3584, .f32⟩
  | .hbm, ⟨9, _⟩ => ⟨S24x3584, .fp8e4m3⟩
  | .hbm, ⟨10, _⟩ => ⟨S24x28, .f32⟩
  | .local _ .vmem, ⟨0, _⟩ => ⟨S24x3584, .bf16⟩
  | .local _ .vmem, ⟨1, _⟩ => ⟨S24x3584, .bf16⟩
  | .local _ .vmem, ⟨2, _⟩ => ⟨S24x128, .f32⟩
  | .local _ .vmem, ⟨3, _⟩ => ⟨S3584x512, .fp8e4m3⟩
  | .local _ .vmem, ⟨4, _⟩ => ⟨S3584x512, .fp8e4m3⟩
  | .local _ .vmem, ⟨5, _⟩ => ⟨S28x512, .f32⟩
  | .local _ .vmem, ⟨6, _⟩ => ⟨S28x512, .f32⟩
  | .local _ .vmem, ⟨7, _⟩ => ⟨S3584x512, .fp8e4m3⟩
  | .local _ .vmem, ⟨8, _⟩ => ⟨S3584x512, .fp8e4m3⟩
  | .local _ .vmem, ⟨9, _⟩ => ⟨S28x512, .f32⟩
  | .local _ .vmem, ⟨10, _⟩ => ⟨S28x512, .f32⟩
  | .local _ .vmem, ⟨11, _⟩ => ⟨S24x512, .f32⟩
  | .local _ .vmem, ⟨12, _⟩ => ⟨S24x512, .f32⟩
  | .local _ .vmem, ⟨13, _⟩ => ⟨S24x512, .f32⟩
  | .local _ .vmem, ⟨14, _⟩ => ⟨S24x512, .f32⟩
  | .local _ .vmem, ⟨15, _⟩ => ⟨S24x3584, .fp8e4m3⟩
  | .local _ .vmem, ⟨16, _⟩ => ⟨S24x28, .f32⟩
  | .local _ .vmem, ⟨17, _⟩ => ⟨S24x3584, .bf16⟩
  | _, _ => ⟨S24x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3584x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S24x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S24x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S24x28 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FirstReferenceIdeal.lean ====
abbrev S24x3584 : Shape := ⟨2, ![24, 3584]⟩
abbrev S24x128 : Shape := ⟨2, ![24, 128]⟩
abbrev S3584x3584 : Shape := ⟨2, ![3584, 3584]⟩
abbrev S28x3584 : Shape := ⟨2, ![28, 3584]⟩
abbrev S24x28 : Shape := ⟨2, ![24, 28]⟩
abbrev S28x128x3584 : Shape := ⟨3, ![28, 128, 3584]⟩
abbrev S28x1x3584 : Shape := ⟨3, ![28, 1, 3584]⟩
abbrev S24x28x128 : Shape := ⟨3, ![24, 28, 128]⟩
abbrev S24x28x1 : Shape := ⟨3, ![24, 28, 1]⟩
abbrev S24x1 : Shape := ⟨2, ![24, 1]⟩

abbrev nBuf : Space → Nat
  | .hbm => 11
  | .vmem => 11
  | .smem => 0
  | _ => 0

abbrev bufTy : (tb : Table) → Fin (tcTables nBuf tb) → BufTy
  | .hbm, ⟨0, _⟩ => ⟨S24x3584, .bf16⟩
  | .hbm, ⟨1, _⟩ => ⟨S24x3584, .bf16⟩
  | .hbm, ⟨2, _⟩ => ⟨S24x128, .f32⟩
  | .hbm, ⟨3, _⟩ => ⟨S3584x3584, .fp8e4m3⟩
  | .hbm, ⟨4, _⟩ => ⟨S28x3584, .f32⟩
  | .hbm, ⟨5, _⟩ => ⟨S3584x3584, .fp8e4m3⟩
  | .hbm, ⟨6, _⟩ => ⟨S28x3584, .f32⟩
  | .hbm, ⟨7, _⟩ => ⟨S24x3584, .f32⟩
  | .hbm, ⟨8, _⟩ => ⟨S24x3584, .f32⟩
  | .hbm, ⟨9, _⟩ => ⟨S24x3584, .fp8e4m3⟩
  | .hbm, ⟨10, _⟩ => ⟨S24x28, .f32⟩
  | .local _ .vmem, ⟨0, _⟩ => ⟨S24x3584, .bf16⟩
  | .local _ .vmem, ⟨1, _⟩ => ⟨S24x3584, .bf16⟩
  | .local _ .vmem, ⟨2, _⟩ => ⟨S24x128, .f32⟩
  | .local _ .vmem, ⟨3, _⟩ => ⟨S3584x3584, .fp8e4m3⟩
  | .local _ .vmem, ⟨4, _⟩ => ⟨S28x3584, .f32⟩
  | .local _ .vmem, ⟨5, _⟩ => ⟨S3584x3584, .fp8e4m3⟩
  | .local _ .vmem, ⟨6, _⟩ => ⟨S28x3584, .f32⟩
  | .local _ .vmem, ⟨7, _⟩ => ⟨S24x3584, .f32⟩
  | .local _ .vmem, ⟨8, _⟩ => ⟨S24x3584, .f32⟩
  | .local _ .vmem, ⟨9, _⟩ => ⟨S24x3584, .fp8e4m3⟩
  | .local _ .vmem, ⟨10, _⟩ => ⟨S24x28, .f32⟩
  | _, _ => ⟨S24x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x28 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Emb.lean ====
abbrev S768x3584 : Shape := ⟨2, ![768, 3584]⟩
abbrev S768x128 : Shape := ⟨2, ![768, 128]⟩
abbrev S3584x3584 : Shape := ⟨2, ![3584, 3584]⟩
abbrev S28x3584 : Shape := ⟨2, ![28, 3584]⟩
abbrev S3584x512 : Shape := ⟨2, ![3584, 512]⟩
abbrev S28x512 : Shape := ⟨2, ![28, 512]⟩
abbrev S768x512 : Shape := ⟨2, ![768, 512]⟩
abbrev S28x128x512 : Shape := ⟨3, ![28, 128, 512]⟩
abbrev S28x1x512 : Shape := ⟨3, ![28, 1, 512]⟩
abbrev S768x1 : Shape := ⟨2, ![768, 1]⟩

abbrev nBuf : Space → Nat
  | .hbm => 5
  | .vmem => 8
  | .smem => 0
  | _ => 0

abbrev bufTy : (tb : Table) → Fin (tcTables nBuf tb) → BufTy
  | .hbm, ⟨0, _⟩ => ⟨S768x3584, .bf16⟩
  | .hbm, ⟨1, _⟩ => ⟨S768x128, .f32⟩
  | .hbm, ⟨2, _⟩ => ⟨S3584x3584, .fp8e4m3⟩
  | .hbm, ⟨3, _⟩ => ⟨S28x3584, .f32⟩
  | .hbm, ⟨4, _⟩ => ⟨S768x3584, .f32⟩
  | .local _ .vmem, ⟨0, _⟩ => ⟨S768x3584, .bf16⟩
  | .local _ .vmem, ⟨1, _⟩ => ⟨S768x128, .f32⟩
  | .local _ .vmem, ⟨2, _⟩ => ⟨S3584x512, .fp8e4m3⟩
  | .local _ .vmem, ⟨3, _⟩ => ⟨S3584x512, .fp8e4m3⟩
  | .local _ .vmem, ⟨4, _⟩ => ⟨S28x512, .f32⟩
  | .local _ .vmem, ⟨5, _⟩ => ⟨S28x512, .f32⟩
  | .local _ .vmem, ⟨6, _⟩ => ⟨S768x512, .f32⟩
  | .local _ .vmem, ⟨7, _⟩ => ⟨S768x512, .f32⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EmbReferenceIdeal.lean ====
abbrev S768x3584 : Shape := ⟨2, ![768, 3584]⟩
abbrev S768x128 : Shape := ⟨2, ![768, 128]⟩
abbrev S3584x3584 : Shape := ⟨2, ![3584, 3584]⟩
abbrev S28x3584 : Shape := ⟨2, ![28, 3584]⟩
abbrev S28x128x3584 : Shape := ⟨3, ![28, 128, 3584]⟩
abbrev S28x1x3584 : Shape := ⟨3, ![28, 1, 3584]⟩
abbrev S768x1 : Shape := ⟨2, ![768, 1]⟩

abbrev nBuf : Space → Nat
  | .hbm => 5
  | .vmem => 5
  | .smem => 0
  | _ => 0

abbrev bufTy : (tb : Table) → Fin (tcTables nBuf tb) → BufTy
  | .hbm, ⟨0, _⟩ => ⟨S768x3584, .bf16⟩
  | .hbm, ⟨1, _⟩ => ⟨S768x128, .f32⟩
  | .hbm, ⟨2, _⟩ => ⟨S3584x3584, .fp8e4m3⟩
  | .hbm, ⟨3, _⟩ => ⟨S28x3584, .f32⟩
  | .hbm, ⟨4, _⟩ => ⟨S768x3584, .f32⟩
  | .local _ .vmem, ⟨0, _⟩ => ⟨S768x3584, .bf16⟩
  | .local _ .vmem, ⟨1, _⟩ => ⟨S768x128, .f32⟩
  | .local _ .vmem, ⟨2, _⟩ => ⟨S3584x3584, .fp8e4m3⟩
  | .local _ .vmem, ⟨3, _⟩ => ⟨S28x3584, .f32⟩
  | .local _ .vmem, ⟨4, _⟩ => ⟨S768x3584, .f32⟩
  | _, _ => ⟨S768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Bits.Points.lean ====
/- What the body's runs are stated over: the two branch conditions in closed form over the grid points, where the
   outputs are idle, the staging and scratch memrefs, and what the launch hands the region. -/
module

public import proofs.«01_k».proof.Proof.Gen.Kernel.Frame
public import proofs.«01_k».proof.Proof.Gen.Kernel.Skeleton

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 200 = 0 :=
  (fun t => by
    have ht : t.val < 200 := Nat.lt_of_lt_of_eq t.isLt N_0
    have e0 : (grid0.coords t 0).val = t.val / 1 % 200 := Pipeline.Grid.coords_val t 0 (by decide) rfl
    simp only [cond0_0, e0]
    word_cmp
   : ∀ t : Fin grid0.N, cond0_0 (grid0.coords t) ↔ t.val % 200 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 200 = 199 :=
  (fun t => by
    have ht : t.val < 200 := Nat.lt_of_lt_of_eq t.isLt N_0
    have e0 : (grid0.coords t 0).val = t.val / 1 % 200 := Pipeline.Grid.coords_val t 0 (by decide) rfl
    simp only [cond0_1, k0_cond2, e0]
    word_cmp
   : ∀ t : Fin grid0.N, cond0_1 (grid0.coords t) ↔ t.val % 200 = 199)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- Each window's current staging memref at point `t`, spelled as the pipeline passes it (`bodyAt0`), and its wholeness. -/
abbrev ms0_0 (t : Fin cfg0.N) : Memref sig .tc .vmem S768x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S28x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x4x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S768x128 .f32 := Memref.whole cc0_scratch0
abbrev scM0_1 : Memref sig .tc .vmem S768x128 .f32 := Memref.whole cc0_scratch1
abbrev scM0_2 : Memref sig .tc .vmem S768x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Head

end
-- ==== Proof.Bits.Body.lean ====
/- The kernel body's triple: what one call of the body leaves in every buffer, as a term of the buffers' contents before it,
   in the three cases of its two branches. -/
module

public import proofs.«01_k».proof.Proof.Bits.Points
public import Idealize.ShloMosaic.Lib.WritesUnit
public import Idealize.ShloMosaic.Lib.VecWindow
public import Idealize.ShloMosaic.Lib.Pointwise

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the body computes -/

/-- The vector of lane numbers the body compares the token's place with. -/
abbrev lane : IVec S768x128 32 := iota .tc S768x128 32 [1] iota_S768x128_d1_w32

/-- The logits of one vocabulary tile. -/
abbrev tileX (x0 : Vec F S768x3584 .bf16) (x2 : Vec F S3584x512 .fp8e4m3) (x3 : Vec F S28x512 .f32) : FVec F S768x512 .f32 := k0_pay9 x0 x2 x3

/-- The running maximum, per lane, after a tile `x`. -/
abbrev stepM (x : FVec F S768x512 .f32) (mm : Vec F S768x128 .f32) : Vec F S768x128 .f32 := k0_pay1 (k0_pay18 x mm)
/-- The running sum of exponentials, per lane, after a tile `x`. -/
abbrev stepL (x : FVec F S768x512 .f32) (mm ll : Vec F S768x128 .f32) : Vec F S768x128 .f32 := k0_pay2 (k0_pay21 x mm ll)
/-- The selected logits, per lane, after a tile `x`. -/
abbrev stepT (i : grid0.Coords) (x : FVec F S768x512 .f32) (tok : Vec F S768x1 .i32) (tt : Vec F S768x128 .f32) : Vec F S768x128 .f32 :=
  k0_pay3 (k0_pay17 x) (k0_pay19 (BitVec.ofNat 32 (i 0).val) tok) lane (k0_pay20 (BitVec.ofNat 32 (i 0).val) x tt tok) 384#32

/-- The index of a `192×1×512` piece below an index of the `192×4×512` block. -/
abbrev pieceIdx (y : S192x4x512.Idx) : S192x1x512.Idx := fun a => match a with
  | ⟨0, _⟩ => y 0
  | ⟨1, _⟩ => (⟨0, by decide⟩ : Fin 1)
  | ⟨2, _⟩ => y 2

/-- Four pieces stacked along the middle axis. -/
def stack4 (a0 a1 a2 a3 : Vec F S192x1x512 .bf16) : Vec F S192x4x512 .bf16 := fun y =>
  if (y 1).val = 0 then a0 (pieceIdx y) else if (y 1).val = 1 then a1 (pieceIdx y) else if (y 1).val = 2 then a2 (pieceIdx y) else a3 (pieceIdx y)

/-- The block of rounded logits one tile stores. -/
abbrev tileO (x0 : Vec F S768x3584 .bf16) (x2 : Vec F S3584x512 .fp8e4m3) (x3 : Vec F S28x512 .f32) : Vec F S192x4x512 .bf16 :=
  stack4 (k0_pay10 x0 x2 x3) (k0_pay11 x0 x2 x3) (k0_pay12 x0 x2 x3) (k0_pay13 x0 x2 x3)

/-! ## Reading back what the body stores -/

/-- A load of a whole memref that holds `x` reads `x`. -/
theorem load_unread {κ : Kind} {sp : Space} {s : Shape} {e : EltTy} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x := by
  rw [View.readAt_full, h.read_unread]

/-- A load of a rectangle just stored reads the payload. -/
theorem readCov_same {κ : Kind} {sp : Space} {s : Shape} {e : EltTy} (v : View sig κ sp s e) (r : Rect s) (w : r.shape.Idx → Elt F e)
    (L : List (View.Piece (Elt F) s e)) : v.readCov (⟨r, w⟩ :: L) r.toLoadRect = w :=
  funext fun z => View.read_writes_cons_emb v _ r w L z

/-- The index of a `192×2×512` pair of rows at an index `y` of the block, when `y`'s row is `o` or `o + 1`. -/
abbrev pairIdx (y : S192x4x512.Idx) (o : ℕ) (h : (y 1).val < o + 2) : S192x2x512.Idx := fun a => match a with
  | ⟨0, _⟩ => y 0
  | ⟨1, _⟩ => (⟨(y 1).val - o, by omega⟩ : Fin 2)
  | ⟨2, _⟩ => y 2

/-- Writing row `r` of a pair and reading the pair there gives the row. -/
theorem upd_in (x : S192x2x512.Idx → Elt F .bf16) (a : Vec F S192x1x512 .bf16) (r : ℕ) (h : S192x2x512.Slices ![0, r, 0] S192x1x512) (y : S192x4x512.Idx) (o : ℕ)
    (hy : (y 1).val < o + 2) (e : (y 1).val - o = r) : updateSlice x a ![0, r, 0] h (pairIdx y o hy) = a (pieceIdx y) := by
  have hy0 := (y 0).isLt; have hy2 := (y 2).isLt
  change (y 0).val < 192 at hy0; change (y 2).val < 512 at hy2
  rw [updateSlice_apply, dif_pos]
  · congr 1
    funext b
    match b with
    | ⟨0, _⟩ => exact Fin.ext (Nat.sub_zero _)
    | ⟨1, _⟩ => exact Fin.ext (by show (y 1).val - o - r = 0; omega)
    | ⟨2, _⟩ => exact Fin.ext (Nat.sub_zero _)
  · intro b
    match b with
    | ⟨0, _⟩ => exact ⟨Nat.zero_le _, by show (y 0).val < 0 + 192; omega⟩
    | ⟨1, _⟩ => exact ⟨e.ge, by show (y 1).val - o < r + 1; omega⟩
    | ⟨2, _⟩ => exact ⟨Nat.zero_le _, by show (y 2).val < 0 + 512; omega⟩

/-- Writing row `r` of a pair leaves the other row. -/
theorem upd_out (x : S192x2x512.Idx → Elt F .bf16) (a : Vec F S192x1x512 .bf16) (r : ℕ) (h : S192x2x512.Slices ![0, r, 0] S192x1x512) (y : S192x4x512.Idx) (o : ℕ)
    (hy : (y 1).val < o + 2) (e : (y 1).val - o < r) : updateSlice x a ![0, r, 0] h (pairIdx y o hy) = x (pairIdx y o hy) := by
  rw [updateSlice_apply, dif_neg]
  intro hall
  have h1 := (hall (1 : Fin 3)).1
  change r ≤ (y 1).val - o at h1
  omega

/-- Four stores of one row each, every one made by writing back the pair of rows that holds it, leave the four rows stacked:
    what the pairs held before is gone. -/
theorem read_pairs {κ : Kind} {sp : Space} (v : View sig κ sp S192x4x512 .bf16) (f : v.ty.Contents (Elt F))
    (i0 : ∀ a, (![0, 0, 0] : Fin 3 → ℕ) a + S192x2x512.size a ≤ S192x4x512.size a) (i2 : ∀ a, (![0, 2, 0] : Fin 3 → ℕ) a + S192x2x512.size a ≤ S192x4x512.size a)
    (h0 : S192x2x512.Slices ![0, 0, 0] S192x1x512) (h1 : S192x2x512.Slices ![0, 1, 0] S192x1x512)
    (a0 a1 a2 a3 : Vec F S192x1x512 .bf16) (o0 o2 : S192x2x512.Idx → Elt F .bf16)
    (L2 L0 : List (View.Piece (Elt F) S192x4x512 .bf16)) :
    v.read (Elt F) (v.writes (Elt F) f
      [⟨Rect.unit (s := S192x4x512) ![0, 2, 0] S192x2x512.size i2, updateSlice (v.readCov (⟨Rect.unit (s := S192x4x512) ![0, 2, 0] S192x2x512.size i2, updateSlice o2 a2 ![0, 0, 0] h0⟩ :: L2) (Rect.unit (s := S192x4x512) ![0, 2, 0] S192x2x512.size i2).toLoadRect) a3 ![0, 1, 0] h1⟩,
       ⟨Rect.unit (s := S192x4x512) ![0, 2, 0] S192x2x512.size i2, updateSlice o2 a2 ![0, 0, 0] h0⟩,
       ⟨Rect.unit (s := S192x4x512) ![0, 0, 0] S192x2x512.size i0, updateSlice (v.readCov (⟨Rect.unit (s := S192x4x512) ![0, 0, 0] S192x2x512.size i0, updateSlice o0 a0 ![0, 0, 0] h0⟩ :: L0) (Rect.unit (s := S192x4x512) ![0, 0, 0] S192x2x512.size i0).toLoadRect) a1 ![0, 1, 0] h1⟩,
       ⟨Rect.unit (s := S192x4x512) ![0, 0, 0] S192x2x512.size i0, updateSlice o0 a0 ![0, 0, 0] h0⟩]) = stack4 a0 a1 a2 a3 := by
  funext y
  have hy0 := (y 0).isLt; have hy1 := (y 1).isLt; have hy2 := (y 2).isLt
  change (y 0).val < 192 at hy0; change (y 1).val < 4 at hy1; change (y 2).val < 512 at hy2
  unfold stack4
  by_cases hlo : (y 1).val < 2
  · rw [View.read_writes_cons_unit_of_not_mem v f i2 _ _ y rfl (1 : Fin 3) (Or.inl hlo),
      View.read_writes_cons_unit_of_not_mem v f i2 _ _ y rfl (1 : Fin 3) (Or.inl hlo),
      View.read_writes_cons_unit_of_mem v f i0 _ _ y (pairIdx y 0 hlo) rfl (fun a => by
        match a with
        | ⟨0, _⟩ => exact (Nat.zero_add _).symm
        | ⟨1, _⟩ => show (y 1).val = 0 + ((y 1).val - 0); omega
        | ⟨2, _⟩ => exact (Nat.zero_add _).symm)]
    by_cases h : (y 1).val = 0
    · rw [if_pos h, upd_out _ _ 1 h1 y 0 hlo (by omega), readCov_same, upd_in _ _ 0 h0 y 0 hlo (by omega)]
    · rw [if_neg h, if_pos (by omega), upd_in _ _ 1 h1 y 0 hlo (by omega)]
  · have hlt : (y 1).val < 2 + 2 := hy1
    have hm : ∀ a : Fin 3, (y a).val = (![0, 2, 0] : Fin 3 → ℕ) a + (pairIdx y 2 hlt a).val := fun a => by
      match a with
      | ⟨0, _⟩ => exact (Nat.zero_add _).symm
      | ⟨1, _⟩ => show (y 1).val = 2 + ((y 1).val - 2); omega
      | ⟨2, _⟩ => exact (Nat.zero_add _).symm
    rw [View.read_writes_cons_unit_of_mem v f i2 _ _ y (pairIdx y 2 hlt) rfl hm, if_neg (by omega), if_neg (by omega)]
    by_cases h : (y 1).val = 2
    · rw [if_pos h, upd_out _ _ 1 h1 y 2 hlt (by omega), readCov_same, upd_in _ _ 0 h0 y 2 hlt (by omega)]
    · rw [if_neg h, upd_in _ _ 1 h1 y 2 hlt (by omega)]

/-! ## The triple, case by case -/

set_option maxHeartbeats 1200000 in
/-- The body at the first grid point: the scratch buffers are reset, then one tile is folded into them; the tile's logits are stored. -/
theorem run_A (c : Dev nD) (i : grid0.Coords) (arg1 : Memref sig .tc .vmem S768x3584 .bf16) (harg1 : arg1.IsWhole) (arg2 : Memref sig .tc .vmem S768x1 .i32) (harg2 : arg2.IsWhole)
    (arg3 : Memref sig .tc .vmem S3584x512 .fp8e4m3) (harg3 : arg3.IsWhole) (arg4 : Memref sig .tc .vmem S28x512 .f32) (harg4 : arg4.IsWhole)
    (arg5 : Memref sig .tc .vmem S192x4x512 .bf16) (harg5 : arg5.IsWhole) (arg6 : Memref sig .tc .vmem S768x1 .f32) (harg6 : arg6.IsWhole)
    (arg7 : Memref sig .tc .vmem S768x1 .f32) (harg7 : arg7.IsWhole) (arg8 : Memref sig .tc .vmem S768x128 .f32) (harg8 : arg8.IsWhole)
    (arg9 : Memref sig .tc .vmem S768x128 .f32) (harg9 : arg9.IsWhole) (arg10 : Memref sig .tc .vmem S768x128 .f32) (harg10 : arg10.IsWhole)
    (hc0 : cond0_0 i) (hc1 : ¬cond0_1 i)
    (x0 : Vec F S768x3584 .bf16) (x1 : Vec F S768x1 .i32) (x2 : Vec F S3584x512 .fp8e4m3) (x3 : Vec F S28x512 .f32)
    (xi5 xi6 : Vec F S768x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (tileO x0 x2 x3) ∗ owns (c : Thread nD τ) arg6 fullShare xi5 ∗ owns (c : Thread nD τ) arg7 fullShare xi6
            ∗ owns (c : Thread nD τ) arg8 fullShare (stepM (tileX x0 x2 x3) k0_pay6) ∗ owns (c : Thread nD τ) arg9 fullShare (stepL (tileX x0 x2 x3) k0_pay6 k0_pay7)
            ∗ owns (c : Thread nD τ) arg10 fullShare (stepT i (tileX x0 x2 x3) x1 k0_pay8)) -∗ K ⟨⟩))
      ⊢ wp frame (wpE (defs₀ (F := F)) Variants.none c none) E (cc0_vocab_head i arg1 harg1 arg2 harg2 arg3 harg3 arg4 harg4 arg5 harg5 arg6 harg6 arg7 harg7 arg8 harg8 arg9 harg9 arg10 harg10) K := by
  simp only [cc0_vocab_head_eq_skeleton]; unfold cc0_vocab_head_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    refine (read_pairs _ _ _ _ _ _ _ _ _ _ _ _ _ _).trans ?_
    rw [load_unread harg1, load_unread harg3, load_unread harg4]
  isplitl [H5]
  · iexists _; isplitr; · ipureintro; exact harg6.read_unread _
    iexact H5
  isplitl [H6]
  · iexists _; isplitr; · ipureintro; exact harg7.read_unread _
    iexact H6
  isplitl [HS0]
  · iexists _; isplitr
    swap; · iexact HS0
    ipureintro
    sl_unfold_run_names
    refine (View.read_writes_full _ _ _ _ _).trans ?_
    simp only [load_unread harg1, load_unread harg2, load_unread harg3, load_unread harg4]
    exact congrArg (fun z => k0_pay1 (k0_pay18 (k0_pay9 x0 x2 x3) z)) (readCov_same _ _ _ _)
  isplitl [HS1]
  · iexists _; isplitr
    swap; · iexact HS1
    ipureintro
    sl_unfold_run_names
    refine (View.read_writes_full _ _ _ _ _).trans ?_
    simp only [load_unread harg1, load_unread harg2, load_unread harg3, load_unread harg4]
    exact congrArg k0_pay2 (congr (congrArg (k0_pay21 (k0_pay9 x0 x2 x3)) (readCov_same _ _ _ _)) (readCov_same _ _ _ _))
  iexists _; isplitr
  swap; · iexact HS2
  ipureintro
  sl_unfold_run_names
  refine (View.read_writes_full _ _ _ _ _).trans ?_
  simp only [load_unread harg1, load_unread harg2, load_unread harg3, load_unread harg4]
  exact congrArg (fun z => stepT i (k0_pay9 x0 x2 x3) x1 z) (readCov_same _ _ _ _)

set_option maxHeartbeats 1200000 in
/-- The body at a point that is neither the first nor the last: one tile is folded into the scratch buffers; the tile's logits are stored. -/
theorem run_B (c : Dev nD) (i : grid0.Coords) (arg1 : Memref sig .tc .vmem S768x3584 .bf16) (harg1 : arg1.IsWhole) (arg2 : Memref sig .tc .vmem S768x1 .i32) (harg2 : arg2.IsWhole)
    (arg3 : Memref sig .tc .vmem S3584x512 .fp8e4m3) (harg3 : arg3.IsWhole) (arg4 : Memref sig .tc .vmem S28x512 .f32) (harg4 : arg4.IsWhole)
    (arg5 : Memref sig .tc .vmem S192x4x512 .bf16) (harg5 : arg5.IsWhole) (arg6 : Memref sig .tc .vmem S768x1 .f32) (harg6 : arg6.IsWhole)
    (arg7 : Memref sig .tc .vmem S768x1 .f32) (harg7 : arg7.IsWhole) (arg8 : Memref sig .tc .vmem S768x128 .f32) (harg8 : arg8.IsWhole)
    (arg9 : Memref sig .tc .vmem S768x128 .f32) (harg9 : arg9.IsWhole) (arg10 : Memref sig .tc .vmem S768x128 .f32) (harg10 : arg10.IsWhole)
    (hc0 : ¬cond0_0 i) (hc1 : ¬cond0_1 i)
    (x0 : Vec F S768x3584 .bf16) (x1 : Vec F S768x1 .i32) (x2 : Vec F S3584x512 .fp8e4m3) (x3 : Vec F S28x512 .f32)
    (xs0 xs1 xs2 : Vec F S768x128 .f32) (xi5 xi6 : Vec F S768x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (tileO x0 x2 x3) ∗ owns (c : Thread nD τ) arg6 fullShare xi5 ∗ owns (c : Thread nD τ) arg7 fullShare xi6
            ∗ owns (c : Thread nD τ) arg8 fullShare (stepM (tileX x0 x2 x3) xs0) ∗ owns (c : Thread nD τ) arg9 fullShare (stepL (tileX x0 x2 x3) xs0 xs1)
            ∗ owns (c : Thread nD τ) arg10 fullShare (stepT i (tileX x0 x2 x3) x1 xs2)) -∗ K ⟨⟩))
      ⊢ wp frame (wpE (defs₀ (F := F)) Variants.none c none) E (cc0_vocab_head i arg1 harg1 arg2 harg2 arg3 harg3 arg4 harg4 arg5 harg5 arg6 harg6 arg7 harg7 arg8 harg8 arg9 harg9 arg10 harg10) K := by
  simp only [cc0_vocab_head_eq_skeleton]; unfold cc0_vocab_head_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    refine (read_pairs _ _ _ _ _ _ _ _ _ _ _ _ _ _).trans ?_
    rw [load_unread harg1, load_unread harg3, load_unread harg4]
  isplitl [H5]
  · iexists _; isplitr; · ipureintro; exact harg6.read_unread _
    iexact H5
  isplitl [H6]
  · iexists _; isplitr; · ipureintro; exact harg7.read_unread _
    iexact H6
  isplitl [HS0]
  · iexists _; isplitr
    swap; · iexact HS0
    ipureintro
    sl_unfold_run_names
    refine (View.read_writes_full _ _ _ _ _).trans ?_
    simp only [load_unread harg1, load_unread harg2, load_unread harg3, load_unread harg4, load_unread harg8, load_unread harg9, load_unread harg10, View.readCov_full]
  isplitl [HS1]
  · iexists _; isplitr
    swap; · iexact HS1
    ipureintro
    sl_unfold_run_names
    refine (View.read_writes_full _ _ _ _ _).trans ?_
    simp only [load_unread harg1, load_unread harg2, load_unread harg3, load_unread harg4, load_unread harg8, load_unread harg9, load_unread harg10, View.readCov_full]
  iexists _; isplitr
  swap; · iexact HS2
  ipureintro
  sl_unfold_run_names
  refine (View.read_writes_full _ _ _ _ _).trans ?_
  simp only [load_unread harg1, load_unread harg2, load_unread harg3, load_unread harg4, load_unread harg8, load_unread harg9, load_unread harg10, View.readCov_full]

set_option maxHeartbeats 1200000 in
/-- The body at the last point: one tile is folded into the scratch buffers, the tile's logits are stored, and the two columns are computed from the scratch buffers. -/
theorem run_C (c : Dev nD) (i : grid0.Coords) (arg1 : Memref sig .tc .vmem S768x3584 .bf16) (harg1 : arg1.IsWhole) (arg2 : Memref sig .tc .vmem S768x1 .i32) (harg2 : arg2.IsWhole)
    (arg3 : Memref sig .tc .vmem S3584x512 .fp8e4m3) (harg3 : arg3.IsWhole) (arg4 : Memref sig .tc .vmem S28x512 .f32) (harg4 : arg4.IsWhole)
    (arg5 : Memref sig .tc .vmem S192x4x512 .bf16) (harg5 : arg5.IsWhole) (arg6 : Memref sig .tc .vmem S768x1 .f32) (harg6 : arg6.IsWhole)
    (arg7 : Memref sig .tc .vmem S768x1 .f32) (harg7 : arg7.IsWhole) (arg8 : Memref sig .tc .vmem S768x128 .f32) (harg8 : arg8.IsWhole)
    (arg9 : Memref sig .tc .vmem S768x128 .f32) (harg9 : arg9.IsWhole) (arg10 : Memref sig .tc .vmem S768x128 .f32) (harg10 : arg10.IsWhole)
    (hc0 : ¬cond0_0 i) (hc1 : cond0_1 i)
    (x0 : Vec F S768x3584 .bf16) (x1 : Vec F S768x1 .i32) (x2 : Vec F S3584x512 .fp8e4m3) (x3 : Vec F S28x512 .f32)
    (xs0 xs1 xs2 : Vec F S768x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (tileO x0 x2 x3) ∗ owns (c : Thread nD τ) arg6 fullShare (k0_pay4 (stepM (tileX x0 x2 x3) xs0) (stepL (tileX x0 x2 x3) xs0 xs1)) ∗ owns (c : Thread nD τ) arg7 fullShare (k0_pay5 (stepM (tileX x0 x2 x3) xs0) (stepL (tileX x0 x2 x3) xs0 xs1) (stepT i (tileX x0 x2 x3) x1 xs2))
            ∗ owns (c : Thread nD τ) arg8 fullShare (stepM (tileX x0 x2 x3) xs0) ∗ owns (c : Thread nD τ) arg9 fullShare (stepL (tileX x0 x2 x3) xs0 xs1)
            ∗ owns (c : Thread nD τ) arg10 fullShare (stepT i (tileX x0 x2 x3) x1 xs2)) -∗ K ⟨⟩))
      ⊢ wp frame (wpE (defs₀ (F := F)) Variants.none c none) E (cc0_vocab_head i arg1 harg1 arg2 harg2 arg3 harg3 arg4 harg4 arg5 harg5 arg6 harg6 arg7 harg7 arg8 harg8 arg9 harg9 arg10 harg10) K := by
  simp only [cc0_vocab_head_eq_skeleton]; unfold cc0_vocab_head_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    refine (read_pairs _ _ _ _ _ _ _ _ _ _ _ _ _ _).trans ?_
    rw [load_unread harg1, load_unread harg3, load_unread harg4]
  isplitl [H5]
  · iexists _; isplitr
    swap; · iexact H5
    ipureintro
    sl_unfold_run_names
    refine (View.read_writes_full _ _ _ _ _).trans ?_
    simp only [load_unread harg1, load_unread harg2, load_unread harg3, load_unread harg4, load_unread harg8, load_unread harg9, load_unread harg10]
    exact congr (congrArg k0_pay4 (readCov_same _ _ _ _)) (readCov_same _ _ _ _)
  isplitl [H6]
  · iexists _; isplitr
    swap; · iexact H6
    ipureintro
    sl_unfold_run_names
    refine (View.read_writes_full _ _ _ _ _).trans ?_
    simp only [load_unread harg1, load_unread harg2, load_unread harg3, load_unread harg4, load_unread harg8, load_unread harg9, load_unread harg10]
    exact congr (congr (congrArg k0_pay5 (readCov_same _ _ _ _)) (readCov_same _ _ _ _)) (readCov_same _ _ _ _)
  isplitl [HS0]
  · iexists _; isplitr
    swap; · iexact HS0
    ipureintro
    sl_unfold_run_names
    refine (View.read_writes_full _ _ _ _ _).trans ?_
    simp only [load_unread harg1, load_unread harg2, load_unread harg3, load_unread harg4, load_unread harg8, load_unread harg9, load_unread harg10, View.readCov_full]
  isplitl [HS1]
  · iexists _; isplitr
    swap; · iexact HS1
    ipureintro
    sl_unfold_run_names
    refine (View.read_writes_full _ _ _ _ _).trans ?_
    simp only [load_unread harg1, load_unread harg2, load_unread harg3, load_unread harg4, load_unread harg8, load_unread harg9, load_unread harg10, View.readCov_full]
  iexists _; isplitr
  swap; · iexact HS2
  ipureintro
  sl_unfold_run_names
  refine (View.read_writes_full _ _ _ _ _).trans ?_
  simp only [load_unread harg1, load_unread harg2, load_unread harg3, load_unread harg4, load_unread harg8, load_unread harg9, load_unread harg10, View.readCov_full]

end Cert.Kernel.Head

end
-- ==== Proof.Bits.Frame.lean ====
/- The whole run of the pipelined call: the contents of every buffer before and after each grid point, the body's triple
   at a generic point, the launch, and the frame. -/
module

public import proofs.«01_k».proof.Proof.Bits.Body
public import Idealize.ShloMosaic.Lib.Claim

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The tile of logits of point `t`. -/
abbrev tX (c : Dev nD) (t : Fin cfg0.N) : FVec F S768x512 .f32 := tileX (iblk m c 0 t) (iblk m c 2 t) (iblk m c 3 t)

/-- The three scratch buffers after the body at position `n`: running maximum, running sum of exponentials, selected logits. -/
def st (c : Dev nD) : (n : ℕ) → n < cfg0.N → Vec F S768x128 .f32 × Vec F S768x128 .f32 × Vec F S768x128 .f32
  | 0, hn => (stepM (tX m c ⟨0, hn⟩) k0_pay6, stepL (tX m c ⟨0, hn⟩) k0_pay6 k0_pay7,
      stepT (grid0.coords ⟨0, hn⟩) (tX m c ⟨0, hn⟩) (iblk m c 1 ⟨0, hn⟩) k0_pay8)
  | n + 1, hn => (stepM (tX m c ⟨n + 1, hn⟩) (st c n (by omega)).1, stepL (tX m c ⟨n + 1, hn⟩) (st c n (by omega)).1 (st c n (by omega)).2.1,
      stepT (grid0.coords ⟨n + 1, hn⟩) (tX m c ⟨n + 1, hn⟩) (iblk m c 1 ⟨n + 1, hn⟩) (st c n (by omega)).2.2)

/-- At the first point the tile is folded into the reset buffers. -/
theorem st_first (c : Dev nD) (t : Fin cfg0.N) (h : t.val = 0) :
    st m c t.val t.isLt = (stepM (tX m c t) k0_pay6, stepL (tX m c t) k0_pay6 k0_pay7, stepT (grid0.coords t) (tX m c t) (iblk m c 1 t) k0_pay8) := by
  obtain ⟨n, hn⟩ := t
  cases n with
  | zero => rfl
  | succ n => exact absurd h (Nat.succ_ne_zero n)

/-- At any other point the tile is folded into what the point before left. -/
theorem st_next (c : Dev nD) (t : Fin cfg0.N) (h : t.val ≠ 0) :
    st m c t.val t.isLt = (stepM (tX m c t) (st m c (t.val - 1) (by omega)).1, stepL (tX m c t) (st m c (t.val - 1) (by omega)).1 (st m c (t.val - 1) (by omega)).2.1,
      stepT (grid0.coords t) (tX m c t) (iblk m c 1 t) (st m c (t.val - 1) (by omega)).2.2) := by
  obtain ⟨n, hn⟩ := t
  cases n with
  | zero => exact absurd rfl h
  | succ n => rfl

/-- The region's invariant before position `n`: before the first point every scratch buffer holds anything; afterwards the
    three carried buffers hold what `st` says. -/
def PhiS (c : Dev nD) : (n : ℕ) → n ≤ cfg0.N → sProp 𝕄
  | 0, _ => Pipeline.ΦA spec0 c
  | n + 1, hn => iprop(iprop(owns (c : Thread nD τ) scM0_0 fullShare ((st m c n hn).1) ∗ owns (c : Thread nD τ) scM0_1 fullShare ((st m c n hn).2.1) ∗ owns (c : Thread nD τ) scM0_2 fullShare ((st m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` the carried scratch buffers hold that point's contents. -/
theorem PhiS_succ (c : Dev nD) (n : ℕ) (hn : n < cfg0.N) :
    PhiS m c (n + 1) hn = iprop(iprop(owns (c : Thread nD τ) scM0_0 fullShare ((st m c n hn).1) ∗ owns (c : Thread nD τ) scM0_1 fullShare ((st m c n hn).2.1) ∗ owns (c : Thread nD τ) scM0_2 fullShare ((st m c n hn).2.2)) ∗ (∃ r, prngReg c r)) := rfl

/-- Before a point that is not the first, the carried scratch buffers hold what the point before left. -/
theorem PhiS_pos (c : Dev nD) (n : ℕ) (h : n ≤ cfg0.N) (hz : n ≠ 0) :
    PhiS m c n h = iprop(iprop(owns (c : Thread nD τ) scM0_0 fullShare ((st m c (n - 1) (by omega)).1) ∗ owns (c : Thread nD τ) scM0_1 fullShare ((st m c (n - 1) (by omega)).2.1) ∗ owns (c : Thread nD τ) scM0_2 fullShare ((st m c (n - 1) (by omega)).2.2)) ∗ (∃ r, prngReg c r)) := by
  cases n with
  | zero => exact absurd rfl hz
  | succ n => rfl

/-! ## The pipeline's proof data -/

/-- The proof data of the pipeline on core `c`: each input's buffer holds its block; the tile of logits; and, in the last two
    windows, the two columns computed from the scratch buffers (they are written back at the last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileO (iblk m c 0 t) (iblk m c 2 t) (iblk m c 3 t)
    | ⟨5, _⟩ => k0_pay4 (st m c t.val t.isLt).1 (st m c t.val t.isLt).2.1
    | ⟨6, _⟩ => k0_pay5 (st m c t.val t.isLt).1 (st m c t.val t.isLt).2.1 (st m c t.val t.isLt).2.2
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tileO (iblk m c 0 t) (iblk m c 2 t) (iblk m c 3 t) := by dsimp only [dats]
theorem after0_5 (c : Dev nD) (t : Fin cfg0.N) : (dats m 0 c).after 5 t = k0_pay4 (st m c t.val t.isLt).1 (st m c t.val t.isLt).2.1 := by dsimp only [dats]
theorem after0_6 (c : Dev nD) (t : Fin cfg0.N) :
    (dats m 0 c).after 6 t = k0_pay5 (st m c t.val t.isLt).1 (st m c t.val t.isLt).2.1 (st m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the closed forms of the two branches say which case the point is in, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 200 = 0
  · by_cases h1 : t.val % 200 = 199
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [PhiS_castSucc m c t, PhiS_zero m c _ _ (by omega), PhiA0_eq, st_first m c t (by omega)]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _) ((hcond0_0 t).mpr h0) (fun h => h1 ((hcond0_1 t).mp h)) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val % 200 = 199
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [PhiS_castSucc m c t, PhiS_pos m c _ _ (by omega), st_next m c t (by omega)]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _) (fun h => h0 ((hcond0_0 t).mp h)) ((hcond0_1 t).mpr h1) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [PhiS_castSucc m c t, PhiS_pos m c _ _ (by omega), st_next m c t (by omega)]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _) (fun h => h0 ((hcond0_0 t).mp h)) (fun h => h1 ((hcond0_1 t).mp h)) (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program terminates, leaves its arguments as they were, and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Head

end
-- ==== Proof.Ideal.Points.lean ====
/- What the body's runs are stated over: the two branch conditions in closed form over the grid points, where the
   outputs are idle, the staging and scratch memrefs, and what the launch hands the region. -/
module

public import proofs.«01_k».proof.Proof.Gen.KernelIdeal.Frame
public import proofs.«01_k».proof.Proof.Gen.KernelIdeal.Skeleton

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 200 = 0 :=
  (fun t => by
    have ht : t.val < 200 := Nat.lt_of_lt_of_eq t.isLt N_0
    have e0 : (grid0.coords t 0).val = t.val / 1 % 200 := Pipeline.Grid.coords_val t 0 (by decide) rfl
    simp only [cond0_0, e0]
    word_cmp
   : ∀ t : Fin grid0.N, cond0_0 (grid0.coords t) ↔ t.val % 200 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 200 = 199 :=
  (fun t => by
    have ht : t.val < 200 := Nat.lt_of_lt_of_eq t.isLt N_0
    have e0 : (grid0.coords t 0).val = t.val / 1 % 200 := Pipeline.Grid.coords_val t 0 (by decide) rfl
    simp only [cond0_1, k0_cond2, e0]
    word_cmp
   : ∀ t : Fin grid0.N, cond0_1 (grid0.coords t) ↔ t.val % 200 = 199)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- Each window's current staging memref at point `t`, spelled as the pipeline passes it (`bodyAt0`), and its wholeness. -/
abbrev ms0_0 (t : Fin cfg0.N) : Memref sig .tc .vmem S768x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S28x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x4x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S768x128 .f32 := Memref.whole cc0_scratch0
abbrev scM0_1 : Memref sig .tc .vmem S768x128 .f32 := Memref.whole cc0_scratch1
abbrev scM0_2 : Memref sig .tc .vmem S768x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Head

end
-- ==== Proof.Ideal.Body.lean ====
/- The kernel body's triple: what one call of the body leaves in every buffer, as a term of the buffers' contents before it,
   in the three cases of its two branches. -/
module

public import proofs.«01_k».proof.Proof.Ideal.Points
public import Idealize.ShloMosaic.Lib.WritesUnit
public import Idealize.ShloMosaic.Lib.VecWindow
public import Idealize.ShloMosaic.Lib.Pointwise

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the body computes -/

/-- The vector of lane numbers the body compares the token's place with. -/
abbrev lane : IVec S768x128 32 := iota .tc S768x128 32 [1] iota_S768x128_d1_w32

/-- The logits of one vocabulary tile. -/
abbrev tileX (x0 : Vec F S768x3584 .bf16) (x2 : Vec F S3584x512 .fp8e4m3) (x3 : Vec F S28x512 .f32) : FVec F S768x512 .f32 := k0_pay9 x0 x2 x3

/-- The running maximum, per lane, after a tile `x`. -/
abbrev stepM (x : FVec F S768x512 .f32) (mm : Vec F S768x128 .f32) : Vec F S768x128 .f32 := k0_pay1 (k0_pay18 x mm)
/-- The running sum of exponentials, per lane, after a tile `x`. -/
abbrev stepL (x : FVec F S768x512 .f32) (mm ll : Vec F S768x128 .f32) : Vec F S768x128 .f32 := k0_pay2 (k0_pay21 x mm ll)
/-- The selected logits, per lane, after a tile `x`. -/
abbrev stepT (i : grid0.Coords) (x : FVec F S768x512 .f32) (tok : Vec F S768x1 .i32) (tt : Vec F S768x128 .f32) : Vec F S768x128 .f32 :=
  k0_pay3 (k0_pay17 x) (k0_pay19 (BitVec.ofNat 32 (i 0).val) tok) lane (k0_pay20 (BitVec.ofNat 32 (i 0).val) x tt tok) 384#32

/-- The index of a `192×1×512` piece below an index of the `192×4×512` block. -/
abbrev pieceIdx (y : S192x4x512.Idx) : S192x1x512.Idx := fun a => match a with
  | ⟨0, _⟩ => y 0
  | ⟨1, _⟩ => (⟨0, by decide⟩ : Fin 1)
  | ⟨2, _⟩ => y 2

/-- Four pieces stacked along the middle axis. -/
def stack4 (a0 a1 a2 a3 : Vec F S192x1x512 .bf16) : Vec F S192x4x512 .bf16 := fun y =>
  if (y 1).val = 0 then a0 (pieceIdx y) else if (y 1).val = 1 then a1 (pieceIdx y) else if (y 1).val = 2 then a2 (pieceIdx y) else a3 (pieceIdx y)

/-- The block of rounded logits one tile stores. -/
abbrev tileO (x0 : Vec F S768x3584 .bf16) (x2 : Vec F S3584x512 .fp8e4m3) (x3 : Vec F S28x512 .f32) : Vec F S192x4x512 .bf16 :=
  stack4 (k0_pay10 x0 x2 x3) (k0_pay11 x0 x2 x3) (k0_pay12 x0 x2 x3) (k0_pay13 x0 x2 x3)

/-! ## Reading back what the body stores -/

/-- A load of a whole memref that holds `x` reads `x`. -/
theorem load_unread {κ : Kind} {sp : Space} {s : Shape} {e : EltTy} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x := by
  rw [View.readAt_full, h.read_unread]

/-- A load of a rectangle just stored reads the payload. -/
theorem readCov_same {κ : Kind} {sp : Space} {s : Shape} {e : EltTy} (v : View sig κ sp s e) (r : Rect s) (w : r.shape.Idx → Elt F e)
    (L : List (View.Piece (Elt F) s e)) : v.readCov (⟨r, w⟩ :: L) r.toLoadRect = w :=
  funext fun z => View.read_writes_cons_emb v _ r w L z

/-- The index of a `192×2×512` pair of rows at an index `y` of the block, when `y`'s row is `o` or `o + 1`. -/
abbrev pairIdx (y : S192x4x512.Idx) (o : ℕ) (h : (y 1).val < o + 2) : S192x2x512.Idx := fun a => match a with
  | ⟨0, _⟩ => y 0
  | ⟨1, _⟩ => (⟨(y 1).val - o, by omega⟩ : Fin 2)
  | ⟨2, _⟩ => y 2

/-- Writing row `r` of a pair and reading the pair there gives the row. -/
theorem upd_in (x : S192x2x512.Idx → Elt F .bf16) (a : Vec F S192x1x512 .bf16) (r : ℕ) (h : S192x2x512.Slices ![0, r, 0] S192x1x512) (y : S192x4x512.Idx) (o : ℕ)
    (hy : (y 1).val < o + 2) (e : (y 1).val - o = r) : updateSlice x a ![0, r, 0] h (pairIdx y o hy) = a (pieceIdx y) := by
  have hy0 := (y 0).isLt; have hy2 := (y 2).isLt
  change (y 0).val < 192 at hy0; change (y 2).val < 512 at hy2
  rw [updateSlice_apply, dif_pos]
  · congr 1
    funext b
    match b with
    | ⟨0, _⟩ => exact Fin.ext (Nat.sub_zero _)
    | ⟨1, _⟩ => exact Fin.ext (by show (y 1).val - o - r = 0; omega)
    | ⟨2, _⟩ => exact Fin.ext (Nat.sub_zero _)
  · intro b
    match b with
    | ⟨0, _⟩ => exact ⟨Nat.zero_le _, by show (y 0).val < 0 + 192; omega⟩
    | ⟨1, _⟩ => exact ⟨e.ge, by show (y 1).val - o < r + 1; omega⟩
    | ⟨2, _⟩ => exact ⟨Nat.zero_le _, by show (y 2).val < 0 + 512; omega⟩

/-- Writing row `r` of a pair leaves the other row. -/
theorem upd_out (x : S192x2x512.Idx → Elt F .bf16) (a : Vec F S192x1x512 .bf16) (r : ℕ) (h : S192x2x512.Slices ![0, r, 0] S192x1x512) (y : S192x4x512.Idx) (o : ℕ)
    (hy : (y 1).val < o + 2) (e : (y 1).val - o < r) : updateSlice x a ![0, r, 0] h (pairIdx y o hy) = x (pairIdx y o hy) := by
  rw [updateSlice_apply, dif_neg]
  intro hall
  have h1 := (hall (1 : Fin 3)).1
  change r ≤ (y 1).val - o at h1
  omega

/-- Four stores of one row each, every one made by writing back the pair of rows that holds it, leave the four rows stacked:
    what the pairs held before is gone. -/
theorem read_pairs {κ : Kind} {sp : Space} (v : View sig κ sp S192x4x512 .bf16) (f : v.ty.Contents (Elt F))
    (i0 : ∀ a, (![0, 0, 0] : Fin 3 → ℕ) a + S192x2x512.size a ≤ S192x4x512.size a) (i2 : ∀ a, (![0, 2, 0] : Fin 3 → ℕ) a + S192x2x512.size a ≤ S192x4x512.size a)
    (h0 : S192x2x512.Slices ![0, 0, 0] S192x1x512) (h1 : S192x2x512.Slices ![0, 1, 0] S192x1x512)
    (a0 a1 a2 a3 : Vec F S192x1x512 .bf16) (o0 o2 : S192x2x512.Idx → Elt F .bf16)
    (L2 L0 : List (View.Piece (Elt F) S192x4x512 .bf16)) :
    v.read (Elt F) (v.writes (Elt F) f
      [⟨Rect.unit (s := S192x4x512) ![0, 2, 0] S192x2x512.size i2, updateSlice (v.readCov (⟨Rect.unit (s := S192x4x512) ![0, 2, 0] S192x2x512.size i2, updateSlice o2 a2 ![0, 0, 0] h0⟩ :: L2) (Rect.unit (s := S192x4x512) ![0, 2, 0] S192x2x512.size i2).toLoadRect) a3 ![0, 1, 0] h1⟩,
       ⟨Rect.unit (s := S192x4x512) ![0, 2, 0] S192x2x512.size i2, updateSlice o2 a2 ![0, 0, 0] h0⟩,
       ⟨Rect.unit (s := S192x4x512) ![0, 0, 0] S192x2x512.size i0, updateSlice (v.readCov (⟨Rect.unit (s := S192x4x512) ![0, 0, 0] S192x2x512.size i0, updateSlice o0 a0 ![0, 0, 0] h0⟩ :: L0) (Rect.unit (s := S192x4x512) ![0, 0, 0] S192x2x512.size i0).toLoadRect) a1 ![0, 1, 0] h1⟩,
       ⟨Rect.unit (s := S192x4x512) ![0, 0, 0] S192x2x512.size i0, updateSlice o0 a0 ![0, 0, 0] h0⟩]) = stack4 a0 a1 a2 a3 := by
  funext y
  have hy0 := (y 0).isLt; have hy1 := (y 1).isLt; have hy2 := (y 2).isLt
  change (y 0).val < 192 at hy0; change (y 1).val < 4 at hy1; change (y 2).val < 512 at hy2
  unfold stack4
  by_cases hlo : (y 1).val < 2
  · rw [View.read_writes_cons_unit_of_not_mem v f i2 _ _ y rfl (1 : Fin 3) (Or.inl hlo),
      View.read_writes_cons_unit_of_not_mem v f i2 _ _ y rfl (1 : Fin 3) (Or.inl hlo),
      View.read_writes_cons_unit_of_mem v f i0 _ _ y (pairIdx y 0 hlo) rfl (fun a => by
        match a with
        | ⟨0, _⟩ => exact (Nat.zero_add _).symm
        | ⟨1, _⟩ => show (y 1).val = 0 + ((y 1).val - 0); omega
        | ⟨2, _⟩ => exact (Nat.zero_add _).symm)]
    by_cases h : (y 1).val = 0
    · rw [if_pos h, upd_out _ _ 1 h1 y 0 hlo (by omega), readCov_same, upd_in _ _ 0 h0 y 0 hlo (by omega)]
    · rw [if_neg h, if_pos (by omega), upd_in _ _ 1 h1 y 0 hlo (by omega)]
  · have hlt : (y 1).val < 2 + 2 := hy1
    have hm : ∀ a : Fin 3, (y a).val = (![0, 2, 0] : Fin 3 → ℕ) a + (pairIdx y 2 hlt a).val := fun a => by
      match a with
      | ⟨0, _⟩ => exact (Nat.zero_add _).symm
      | ⟨1, _⟩ => show (y 1).val = 2 + ((y 1).val - 2); omega
      | ⟨2, _⟩ => exact (Nat.zero_add _).symm
    rw [View.read_writes_cons_unit_of_mem v f i2 _ _ y (pairIdx y 2 hlt) rfl hm, if_neg (by omega), if_neg (by omega)]
    by_cases h : (y 1).val = 2
    · rw [if_pos h, upd_out _ _ 1 h1 y 2 hlt (by omega), readCov_same, upd_in _ _ 0 h0 y 2 hlt (by omega)]
    · rw [if_neg h, upd_in _ _ 1 h1 y 2 hlt (by omega)]

/-! ## The triple, case by case -/

set_option maxHeartbeats 1200000 in
/-- The body at the first grid point: the scratch buffers are reset, then one tile is folded into them; the tile's logits are stored. -/
theorem run_A (c : Dev nD) (i : grid0.Coords) (arg1 : Memref sig .tc .vmem S768x3584 .bf16) (harg1 : arg1.IsWhole) (arg2 : Memref sig .tc .vmem S768x1 .i32) (harg2 : arg2.IsWhole)
    (arg3 : Memref sig .tc .vmem S3584x512 .fp8e4m3) (harg3 : arg3.IsWhole) (arg4 : Memref sig .tc .vmem S28x512 .f32) (harg4 : arg4.IsWhole)
    (arg5 : Memref sig .tc .vmem S192x4x512 .bf16) (harg5 : arg5.IsWhole) (arg6 : Memref sig .tc .vmem S768x1 .f32) (harg6 : arg6.IsWhole)
    (arg7 : Memref sig .tc .vmem S768x1 .f32) (harg7 : arg7.IsWhole) (arg8 : Memref sig .tc .vmem S768x128 .f32) (harg8 : arg8.IsWhole)
    (arg9 : Memref sig .tc .vmem S768x128 .f32) (harg9 : arg9.IsWhole) (arg10 : Memref sig .tc .vmem S768x128 .f32) (harg10 : arg10.IsWhole)
    (hc0 : cond0_0 i) (hc1 : ¬cond0_1 i)
    (x0 : Vec F S768x3584 .bf16) (x1 : Vec F S768x1 .i32) (x2 : Vec F S3584x512 .fp8e4m3) (x3 : Vec F S28x512 .f32)
    (xi5 xi6 : Vec F S768x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (tileO x0 x2 x3) ∗ owns (c : Thread nD τ) arg6 fullShare xi5 ∗ owns (c : Thread nD τ) arg7 fullShare xi6
            ∗ owns (c : Thread nD τ) arg8 fullShare (stepM (tileX x0 x2 x3) k0_pay6) ∗ owns (c : Thread nD τ) arg9 fullShare (stepL (tileX x0 x2 x3) k0_pay6 k0_pay7)
            ∗ owns (c : Thread nD τ) arg10 fullShare (stepT i (tileX x0 x2 x3) x1 k0_pay8)) -∗ K ⟨⟩))
      ⊢ wp frame (wpE (defs₀ (F := F)) Variants.none c none) E (cc0_vocab_head i arg1 harg1 arg2 harg2 arg3 harg3 arg4 harg4 arg5 harg5 arg6 harg6 arg7 harg7 arg8 harg8 arg9 harg9 arg10 harg10) K := by
  simp only [cc0_vocab_head_eq_skeleton]; unfold cc0_vocab_head_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    refine (read_pairs _ _ _ _ _ _ _ _ _ _ _ _ _ _).trans ?_
    rw [load_unread harg1, load_unread harg3, load_unread harg4]
  isplitl [H5]
  · iexists _; isplitr; · ipureintro; exact harg6.read_unread _
    iexact H5
  isplitl [H6]
  · iexists _; isplitr; · ipureintro; exact harg7.read_unread _
    iexact H6
  isplitl [HS0]
  · iexists _; isplitr
    swap; · iexact HS0
    ipureintro
    sl_unfold_run_names
    refine (View.read_writes_full _ _ _ _ _).trans ?_
    simp only [load_unread harg1, load_unread harg2, load_unread harg3, load_unread harg4]
    exact congrArg (fun z => k0_pay1 (k0_pay18 (k0_pay9 x0 x2 x3) z)) (readCov_same _ _ _ _)
  isplitl [HS1]
  · iexists _; isplitr
    swap; · iexact HS1
    ipureintro
    sl_unfold_run_names
    refine (View.read_writes_full _ _ _ _ _).trans ?_
    simp only [load_unread harg1, load_unread harg2, load_unread harg3, load_unread harg4]
    exact congrArg k0_pay2 (congr (congrArg (k0_pay21 (k0_pay9 x0 x2 x3)) (readCov_same _ _ _ _)) (readCov_same _ _ _ _))
  iexists _; isplitr
  swap; · iexact HS2
  ipureintro
  sl_unfold_run_names
  refine (View.read_writes_full _ _ _ _ _).trans ?_
  simp only [load_unread harg1, load_unread harg2, load_unread harg3, load_unread harg4]
  exact congrArg (fun z => stepT i (k0_pay9 x0 x2 x3) x1 z) (readCov_same _ _ _ _)

set_option maxHeartbeats 1200000 in
/-- The body at a point that is neither the first nor the last: one tile is folded into the scratch buffers; the tile's logits are stored. -/
theorem run_B (c : Dev nD) (i : grid0.Coords) (arg1 : Memref sig .tc .vmem S768x3584 .bf16) (harg1 : arg1.IsWhole) (arg2 : Memref sig .tc .vmem S768x1 .i32) (harg2 : arg2.IsWhole)
    (arg3 : Memref sig .tc .vmem S3584x512 .fp8e4m3) (harg3 : arg3.IsWhole) (arg4 : Memref sig .tc .vmem S28x512 .f32) (harg4 : arg4.IsWhole)
    (arg5 : Memref sig .tc .vmem S192x4x512 .bf16) (harg5 : arg5.IsWhole) (arg6 : Memref sig .tc .vmem S768x1 .f32) (harg6 : arg6.IsWhole)
    (arg7 : Memref sig .tc .vmem S768x1 .f32) (harg7 : arg7.IsWhole) (arg8 : Memref sig .tc .vmem S768x128 .f32) (harg8 : arg8.IsWhole)
    (arg9 : Memref sig .tc .vmem S768x128 .f32) (harg9 : arg9.IsWhole) (arg10 : Memref sig .tc .vmem S768x128 .f32) (harg10 : arg10.IsWhole)
    (hc0 : ¬cond0_0 i) (hc1 : ¬cond0_1 i)
    (x0 : Vec F S768x3584 .bf16) (x1 : Vec F S768x1 .i32) (x2 : Vec F S3584x512 .fp8e4m3) (x3 : Vec F S28x512 .f32)
    (xs0 xs1 xs2 : Vec F S768x128 .f32) (xi5 xi6 : Vec F S768x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6
        ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (tileO x0 x2 x3) ∗ owns (c : Thread nD τ) arg6 fullShare xi5 ∗ owns (c : Thread nD τ) arg7 fullShare xi6
            ∗ owns (c : Thread nD τ) arg8 fullShare (stepM (tileX x0 x2 x3) xs0) ∗ owns (c : Thread nD τ) arg9 fullShare (stepL (tileX x0 x2 x3) xs0 xs1)
            ∗ owns (c : Thread nD τ) arg10 fullShare (stepT i (tileX x0 x2 x3) x1 xs2)) -∗ K ⟨⟩))
      ⊢ wp frame (wpE (defs₀ (F := F)) Variants.none c none) E (cc0_vocab_head i arg1 harg1 arg2 harg2 arg3 harg3 arg4 harg4 arg5 harg5 arg6 harg6 arg7 harg7 arg8 harg8 arg9 harg9 arg10 harg10) K := by
  simp only [cc0_vocab_head_eq_skeleton]; unfold cc0_vocab_head_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    refine (read_pairs _ _ _ _ _ _ _ _ _ _ _ _ _ _).trans ?_
    rw [load_unread harg1, load_unread harg3, load_unread harg4]
  isplitl [H5]
  · iexists _; isplitr; · ipureintro; exact harg6.read_unread _
    iexact H5
  isplitl [H6]
  · iexists _; isplitr; · ipureintro; exact harg7.read_unread _
    iexact H6
  isplitl [HS0]
  · iexists _; isplitr
    swap; · iexact HS0
    ipureintro
    sl_unfold_run_names
    refine (View.read_writes_full _ _ _ _ _).trans ?_
    simp only [load_unread harg1, load_unread harg2, load_unread harg3, load_unread harg4, load_unread harg8, load_unread harg9, load_unread harg10, View.readCov_full]
  isplitl [HS1]
  · iexists _; isplitr
    swap; · iexact HS1
    ipureintro
    sl_unfold_run_names
    refine (View.read_writes_full _ _ _ _ _).trans ?_
    simp only [load_unread harg1, load_unread harg2, load_unread harg3, load_unread harg4, load_unread harg8, load_unread harg9, load_unread harg10, View.readCov_full]
  iexists _; isplitr
  swap; · iexact HS2
  ipureintro
  sl_unfold_run_names
  refine (View.read_writes_full _ _ _ _ _).trans ?_
  simp only [load_unread harg1, load_unread harg2, load_unread harg3, load_unread harg4, load_unread harg8, load_unread harg9, load_unread harg10, View.readCov_full]

set_option maxHeartbeats 1200000 in
/-- The body at the last point: one tile is folded into the scratch buffers, the tile's logits are stored, and the two columns are computed from the scratch buffers. -/
theorem run_C (c : Dev nD) (i : grid0.Coords) (arg1 : Memref sig .tc .vmem S768x3584 .bf16) (harg1 : arg1.IsWhole) (arg2 : Memref sig .tc .vmem S768x1 .i32) (harg2 : arg2.IsWhole)
    (arg3 : Memref sig .tc .vmem S3584x512 .fp8e4m3) (harg3 : arg3.IsWhole) (arg4 : Memref sig .tc .vmem S28x512 .f32) (harg4 : arg4.IsWhole)
    (arg5 : Memref sig .tc .vmem S192x4x512 .bf16) (harg5 : arg5.IsWhole) (arg6 : Memref sig .tc .vmem S768x1 .f32) (harg6 : arg6.IsWhole)
    (arg7 : Memref sig .tc .vmem S768x1 .f32) (harg7 : arg7.IsWhole) (arg8 : Memref sig .tc .vmem S768x128 .f32) (harg8 : arg8.IsWhole)
    (arg9 : Memref sig .tc .vmem S768x128 .f32) (harg9 : arg9.IsWhole) (arg10 : Memref sig .tc .vmem S768x128 .f32) (harg10 : arg10.IsWhole)
    (hc0 : ¬cond0_0 i) (hc1 : cond0_1 i)
    (x0 : Vec F S768x3584 .bf16) (x1 : Vec F S768x1 .i32) (x2 : Vec F S3584x512 .fp8e4m3) (x3 : Vec F S28x512 .f32)
    (xs0 xs1 xs2 : Vec F S768x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (tileO x0 x2 x3) ∗ owns (c : Thread nD τ) arg6 fullShare (k0_pay4 (stepM (tileX x0 x2 x3) xs0) (stepL (tileX x0 x2 x3) xs0 xs1)) ∗ owns (c : Thread nD τ) arg7 fullShare (k0_pay5 (stepM (tileX x0 x2 x3) xs0) (stepL (tileX x0 x2 x3) xs0 xs1) (stepT i (tileX x0 x2 x3) x1 xs2))
            ∗ owns (c : Thread nD τ) arg8 fullShare (stepM (tileX x0 x2 x3) xs0) ∗ owns (c : Thread nD τ) arg9 fullShare (stepL (tileX x0 x2 x3) xs0 xs1)
            ∗ owns (c : Thread nD τ) arg10 fullShare (stepT i (tileX x0 x2 x3) x1 xs2)) -∗ K ⟨⟩))
      ⊢ wp frame (wpE (defs₀ (F := F)) Variants.none c none) E (cc0_vocab_head i arg1 harg1 arg2 harg2 arg3 harg3 arg4 harg4 arg5 harg5 arg6 harg6 arg7 harg7 arg8 harg8 arg9 harg9 arg10 harg10) K := by
  simp only [cc0_vocab_head_eq_skeleton]; unfold cc0_vocab_head_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    refine (read_pairs _ _ _ _ _ _ _ _ _ _ _ _ _ _).trans ?_
    rw [load_unread harg1, load_unread harg3, load_unread harg4]
  isplitl [H5]
  · iexists _; isplitr
    swap; · iexact H5
    ipureintro
    sl_unfold_run_names
    refine (View.read_writes_full _ _ _ _ _).trans ?_
    simp only [load_unread harg1, load_unread harg2, load_unread harg3, load_unread harg4, load_unread harg8, load_unread harg9, load_unread harg10]
    exact congr (congrArg k0_pay4 (readCov_same _ _ _ _)) (readCov_same _ _ _ _)
  isplitl [H6]
  · iexists _; isplitr
    swap; · iexact H6
    ipureintro
    sl_unfold_run_names
    refine (View.read_writes_full _ _ _ _ _).trans ?_
    simp only [load_unread harg1, load_unread harg2, load_unread harg3, load_unread harg4, load_unread harg8, load_unread harg9, load_unread harg10]
    exact congr (congr (congrArg k0_pay5 (readCov_same _ _ _ _)) (readCov_same _ _ _ _)) (readCov_same _ _ _ _)
  isplitl [HS0]
  · iexists _; isplitr
    swap; · iexact HS0
    ipureintro
    sl_unfold_run_names
    refine (View.read_writes_full _ _ _ _ _).trans ?_
    simp only [load_unread harg1, load_unread harg2, load_unread harg3, load_unread harg4, load_unread harg8, load_unread harg9, load_unread harg10, View.readCov_full]
  isplitl [HS1]
  · iexists _; isplitr
    swap; · iexact HS1
    ipureintro
    sl_unfold_run_names
    refine (View.read_writes_full _ _ _ _ _).trans ?_
    simp only [load_unread harg1, load_unread harg2, load_unread harg3, load_unread harg4, load_unread harg8, load_unread harg9, load_unread harg10, View.readCov_full]
  iexists _; isplitr
  swap; · iexact HS2
  ipureintro
  sl_unfold_run_names
  refine (View.read_writes_full _ _ _ _ _).trans ?_
  simp only [load_unread harg1, load_unread harg2, load_unread harg3, load_unread harg4, load_unread harg8, load_unread harg9, load_unread harg10, View.readCov_full]

end Cert.KernelIdeal.Head

end
-- ==== Proof.Ideal.Frame.lean ====
/- The whole run of the pipelined call: the contents of every buffer before and after each grid point, the body's triple
   at a generic point, the launch, and the frame. -/
module

public import proofs.«01_k».proof.Proof.Ideal.Body
public import Idealize.ShloMosaic.Lib.Claim

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The tile of logits of point `t`. -/
abbrev tX (c : Dev nD) (t : Fin cfg0.N) : FVec F S768x512 .f32 := tileX (iblk m c 0 t) (iblk m c 2 t) (iblk m c 3 t)

/-- The three scratch buffers after the body at position `n`: running maximum, running sum of exponentials, selected logits. -/
def st (c : Dev nD) : (n : ℕ) → n < cfg0.N → Vec F S768x128 .f32 × Vec F S768x128 .f32 × Vec F S768x128 .f32
  | 0, hn => (stepM (tX m c ⟨0, hn⟩) k0_pay6, stepL (tX m c ⟨0, hn⟩) k0_pay6 k0_pay7,
      stepT (grid0.coords ⟨0, hn⟩) (tX m c ⟨0, hn⟩) (iblk m c 1 ⟨0, hn⟩) k0_pay8)
  | n + 1, hn => (stepM (tX m c ⟨n + 1, hn⟩) (st c n (by omega)).1, stepL (tX m c ⟨n + 1, hn⟩) (st c n (by omega)).1 (st c n (by omega)).2.1,
      stepT (grid0.coords ⟨n + 1, hn⟩) (tX m c ⟨n + 1, hn⟩) (iblk m c 1 ⟨n + 1, hn⟩) (st c n (by omega)).2.2)

/-- At the first point the tile is folded into the reset buffers. -/
theorem st_first (c : Dev nD) (t : Fin cfg0.N) (h : t.val = 0) :
    st m c t.val t.isLt = (stepM (tX m c t) k0_pay6, stepL (tX m c t) k0_pay6 k0_pay7, stepT (grid0.coords t) (tX m c t) (iblk m c 1 t) k0_pay8) := by
  obtain ⟨n, hn⟩ := t
  cases n with
  | zero => rfl
  | succ n => exact absurd h (Nat.succ_ne_zero n)

/-- At any other point the tile is folded into what the point before left. -/
theorem st_next (c : Dev nD) (t : Fin cfg0.N) (h : t.val ≠ 0) :
    st m c t.val t.isLt = (stepM (tX m c t) (st m c (t.val - 1) (by omega)).1, stepL (tX m c t) (st m c (t.val - 1) (by omega)).1 (st m c (t.val - 1) (by omega)).2.1,
      stepT (grid0.coords t) (tX m c t) (iblk m c 1 t) (st m c (t.val - 1) (by omega)).2.2) := by
  obtain ⟨n, hn⟩ := t
  cases n with
  | zero => exact absurd rfl h
  | succ n => rfl

/-- The region's invariant before position `n`: before the first point every scratch buffer holds anything; afterwards the
    three carried buffers hold what `st` says. -/
def PhiS (c : Dev nD) : (n : ℕ) → n ≤ cfg0.N → sProp 𝕄
  | 0, _ => Pipeline.ΦA spec0 c
  | n + 1, hn => iprop(iprop(owns (c : Thread nD τ) scM0_0 fullShare ((st m c n hn).1) ∗ owns (c : Thread nD τ) scM0_1 fullShare ((st m c n hn).2.1) ∗ owns (c : Thread nD τ) scM0_2 fullShare ((st m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` the carried scratch buffers hold that point's contents. -/
theorem PhiS_succ (c : Dev nD) (n : ℕ) (hn : n < cfg0.N) :
    PhiS m c (n + 1) hn = iprop(iprop(owns (c : Thread nD τ) scM0_0 fullShare ((st m c n hn).1) ∗ owns (c : Thread nD τ) scM0_1 fullShare ((st m c n hn).2.1) ∗ owns (c : Thread nD τ) scM0_2 fullShare ((st m c n hn).2.2)) ∗ (∃ r, prngReg c r)) := rfl

/-- Before a point that is not the first, the carried scratch buffers hold what the point before left. -/
theorem PhiS_pos (c : Dev nD) (n : ℕ) (h : n ≤ cfg0.N) (hz : n ≠ 0) :
    PhiS m c n h = iprop(iprop(owns (c : Thread nD τ) scM0_0 fullShare ((st m c (n - 1) (by omega)).1) ∗ owns (c : Thread nD τ) scM0_1 fullShare ((st m c (n - 1) (by omega)).2.1) ∗ owns (c : Thread nD τ) scM0_2 fullShare ((st m c (n - 1) (by omega)).2.2)) ∗ (∃ r, prngReg c r)) := by
  cases n with
  | zero => exact absurd rfl hz
  | succ n => rfl

/-! ## The pipeline's proof data -/

/-- The proof data of the pipeline on core `c`: each input's buffer holds its block; the tile of logits; and, in the last two
    windows, the two columns computed from the scratch buffers (they are written back at the last point only). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileO (iblk m c 0 t) (iblk m c 2 t) (iblk m c 3 t)
    | ⟨5, _⟩ => k0_pay4 (st m c t.val t.isLt).1 (st m c t.val t.isLt).2.1
    | ⟨6, _⟩ => k0_pay5 (st m c t.val t.isLt).1 (st m c t.val t.isLt).2.1 (st m c t.val t.isLt).2.2
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tileO (iblk m c 0 t) (iblk m c 2 t) (iblk m c 3 t) := by dsimp only [dats]
theorem after0_5 (c : Dev nD) (t : Fin cfg0.N) : (dats m 0 c).after 5 t = k0_pay4 (st m c t.val t.isLt).1 (st m c t.val t.isLt).2.1 := by dsimp only [dats]
theorem after0_6 (c : Dev nD) (t : Fin cfg0.N) :
    (dats m 0 c).after 6 t = k0_pay5 (st m c t.val t.isLt).1 (st m c t.val t.isLt).2.1 (st m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the closed forms of the two branches say which case the point is in, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 200 = 0
  · by_cases h1 : t.val % 200 = 199
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [PhiS_castSucc m c t, PhiS_zero m c _ _ (by omega), PhiA0_eq, st_first m c t (by omega)]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _) ((hcond0_0 t).mpr h0) (fun h => h1 ((hcond0_1 t).mp h)) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val % 200 = 199
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [PhiS_castSucc m c t, PhiS_pos m c _ _ (by omega), st_next m c t (by omega)]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _) (fun h => h0 ((hcond0_0 t).mp h)) ((hcond0_1 t).mpr h1) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [PhiS_castSucc m c t, PhiS_pos m c _ _ (by omega), st_next m c t (by omega)]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ (hs0_0 t) _ (hs0_1 t) _ (hs0_2 t) _ (hs0_3 t) _ (hs0_4 t) _ (hs0_5 t) _ (hs0_6 t) _ (Memref.isWhole_whole _) _ (Memref.isWhole_whole _) _ (Memref.isWhole_whole _) (fun h => h0 ((hcond0_0 t).mp h)) (fun h => h1 ((hcond0_1 t).mp h)) (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 200 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program terminates, leaves its arguments as they were, and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Head

end
-- ==== Proof.Ideal.Value.lean ====
/- What the three result arrays hold when the program ends: the reordered logits tile by tile, and the two columns that
   the last grid point computes from the scratch buffers. -/
module

public import proofs.«01_k».proof.Proof.Ideal.Frame
public import Idealize.ShloMosaic.Lib.Pipeline.Value
public import Idealize.ShloMosaic.Lib.Pointwise

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reordered logits -/

/-- The grid point whose tile holds vocabulary column `n`. -/
def ptOf (i : S192x4x102400.Idx) : Fin cfg0.N :=
  ⟨(i 2).val / 512, lt_of_lt_of_eq (by have : (i 2).val < 102400 := (i 2).isLt; omega) (show 200 = cfg0.N from N_0.symm)⟩

/-- The place of an index inside its tile. -/
def locOf (i : S192x4x102400.Idx) : S192x4x512.Idx :=
  ix3 (⟨(i 0).val, (i 0).isLt⟩ : Fin 192) (⟨(i 1).val, (i 1).isLt⟩ : Fin 4) (⟨(i 2).val % 512, Nat.mod_lt _ (by decide)⟩ : Fin 512)

/-- The array of reordered logits: each column's tile, stacked by the four steps. -/
def outLogits (c : Dev nD) : Vec F S192x4x102400 .bf16 := fun i =>
  tileO (iblk m c 0 (ptOf i)) (iblk m c 2 (ptOf i)) (iblk m c 3 (ptOf i)) (locOf i)

/-- The block indices of the logits' window, decided over the grid. -/
theorem idx_facts4 : ∀ t : Fin cfg0.N, win0_4.index t (0 : Fin 3) = 0 ∧ win0_4.index t (1 : Fin 3) = 0 ∧ win0_4.index t (2 : Fin 3) = t.val :=
  (by decide +kernel : ∀ t : Fin grid0.N, _)

/-- What a point writes back is its block of `outLogits`. -/
theorem flushed4_eq (c : Dev nD) (t : Fin cfg0.N) (hf : (cfg0.win 4).flush t = true) :
    (dats m 0 c).flushed 4 t = ((cfg0.win 4).blk t).view.read (Elt F) (outLogits m c) := by
  show (cfg0.win 4).cut (grid0.coords t) ((dats m 0 c).after 4 t) = _
  rw [after0_4]
  obtain ⟨e0, e1, e2⟩ := idx_facts4 t
  funext y
  have hy0 : (y 0).val < 192 := (y 0).isLt
  have hy1 : (y 1).val < 4 := (y 1).isLt
  have hy2 : (y 2).val < 512 := (y 2).isLt
  have hb0 : (((cfg0.win 4).blk t).view.emb y 0).val = win0_4.index t (0 : Fin 3) * 192 + 1 * (y 0).val := rfl
  have hb1 : (((cfg0.win 4).blk t).view.emb y 1).val = win0_4.index t (1 : Fin 3) * 4 + 1 * (y 1).val := rfl
  have hb2 : (((cfg0.win 4).blk t).view.emb y 2).val = win0_4.index t (2 : Fin 3) * 512 + 1 * (y 2).val := rfl
  have hl : locOf (((cfg0.win 4).blk t).view.emb y) = (cfg0.win 4).xinj (grid0.coords t) y := by
    funext a; apply Fin.ext
    match a with
    | ⟨0, _⟩ => show (((cfg0.win 4).blk t).view.emb y 0).val = (y 0).val; rw [hb0]; omega
    | ⟨1, _⟩ => show (((cfg0.win 4).blk t).view.emb y 1).val = (y 1).val; rw [hb1]; omega
    | ⟨2, _⟩ => show (((cfg0.win 4).blk t).view.emb y 2).val % 512 = (y 2).val; rw [hb2]; omega
  have hp : ptOf (((cfg0.win 4).blk t).view.emb y) = t := by
    apply Fin.ext
    show (((cfg0.win 4).blk t).view.emb y 2).val / 512 = t.val
    rw [hb2]; omega
  show tileO (iblk m c 0 t) (iblk m c 2 t) (iblk m c 3 t) ((cfg0.win 4).xinj (grid0.coords t) y) = outLogits m c (((cfg0.win 4).blk t).view.emb y)
  unfold outLogits
  rw [hp, hl]

/-- An index is in point `t`'s block iff each coordinate is in the block's range on its axis. -/
theorem mem_blk4 (t : Fin cfg0.N) (i : S192x4x102400.Idx) :
    i ∈ ((cfg0.win 4).blk t).view.set ↔ ∀ a : Fin 3, win0_4.index t a * S192x4x512.size a ≤ (i a).val ∧ (i a).val < win0_4.index t a * S192x4x512.size a + S192x4x512.size a := by
  show i ∈ ((View.whole main_v0_0).slice (win0_4.rect t)).set ↔ _
  rw [View.set_slice_whole, Rect.mem_set_unit]
  exact Iff.rfl

/-- The first result array when the program ends. -/
theorem final4 (c : Dev nD) : (dats m 0 c).arrAt 4 cfg0.N = outLogits m c :=
  (dats m 0 c).arrAt_eq_of_cover 4 (outLogits m c) (flushed4_eq m c) fun i =>
    ⟨ptOf i, flush0_4 _, (mem_blk4 (ptOf i) i).mpr fun a => by
      obtain ⟨e0, e1, e2⟩ := idx_facts4 (ptOf i)
      have h0 : (i 0).val < 192 := (i 0).isLt
      have h1 : (i 1).val < 4 := (i 1).isLt
      have h2 : (i 2).val < 102400 := (i 2).isLt
      have hp : (ptOf i).val = (i 2).val / 512 := rfl
      match a with
      | ⟨0, _⟩ => show win0_4.index (ptOf i) (0 : Fin 3) * 192 ≤ (i 0).val ∧ (i 0).val < win0_4.index (ptOf i) (0 : Fin 3) * 192 + 192; omega
      | ⟨1, _⟩ => show win0_4.index (ptOf i) (1 : Fin 3) * 4 ≤ (i 1).val ∧ (i 1).val < win0_4.index (ptOf i) (1 : Fin 3) * 4 + 4; omega
      | ⟨2, _⟩ => show win0_4.index (ptOf i) (2 : Fin 3) * 512 ≤ (i 2).val ∧ (i 2).val < win0_4.index (ptOf i) (2 : Fin 3) * 512 + 512; omega⟩

/-! ## The two columns -/

/-- The last grid point. -/
def tLast : Fin cfg0.N := ⟨199, lt_of_lt_of_eq (by decide) (show 200 = cfg0.N from N_0.symm)⟩

/-- A point that writes one of the columns back is the last one. -/
theorem eq_tLast (t : Fin cfg0.N) (h : t.val % 200 = 199) : t = tLast :=
  Fin.ext (by have : t.val < 200 := lt_of_lt_of_eq t.isLt (show cfg0.N = 200 from N_0); show t.val = 199; omega)

/-- The column of log-sum-exps less the constant. -/
def outLse (c : Dev nD) : Vec F S768x1 .f32 := k0_pay4 (st m c tLast.val tLast.isLt).1 (st m c tLast.val tLast.isLt).2.1

/-- The column of selected logits less that. -/
def outLogp (c : Dev nD) : Vec F S768x1 .f32 :=
  k0_pay5 (st m c tLast.val tLast.isLt).1 (st m c tLast.val tLast.isLt).2.1 (st m c tLast.val tLast.isLt).2.2

/-- The block indices of the two columns' windows: each window is its whole array. -/
theorem idx_facts56 : ∀ t : Fin cfg0.N, (win0_5.index t (0 : Fin 2) = 0 ∧ win0_5.index t (1 : Fin 2) = 0)
    ∧ win0_6.index t (0 : Fin 2) = 0 ∧ win0_6.index t (1 : Fin 2) = 0 :=
  (by decide +kernel : ∀ t : Fin grid0.N, _)

/-- What the last point writes back to the first column is the whole of `outLse`. -/
theorem flushed5_eq (c : Dev nD) (t : Fin cfg0.N) (hf : (cfg0.win 5).flush t = true) :
    (dats m 0 c).flushed 5 t = ((cfg0.win 5).blk t).view.read (Elt F) (outLse m c) := by
  show (cfg0.win 5).cut (grid0.coords t) ((dats m 0 c).after 5 t) = _
  rw [after0_5]
  obtain ⟨⟨e0, e1⟩, -⟩ := idx_facts56 t
  funext y
  have hb0 : (((cfg0.win 5).blk t).view.emb y 0).val = win0_5.index t (0 : Fin 2) * 768 + 1 * (y 0).val := rfl
  have hb1 : (((cfg0.win 5).blk t).view.emb y 1).val = win0_5.index t (1 : Fin 2) * 1 + 1 * (y 1).val := rfl
  have hl : ((cfg0.win 5).blk t).view.emb y = (cfg0.win 5).xinj (grid0.coords t) y := by
    funext a; apply Fin.ext
    match a with
    | ⟨0, _⟩ => show (((cfg0.win 5).blk t).view.emb y 0).val = (y 0).val; rw [hb0]; omega
    | ⟨1, _⟩ => show (((cfg0.win 5).blk t).view.emb y 1).val = (y 1).val; rw [hb1]; omega
  rw [eq_tLast t ((flush0_5 t).mp hf)] at hl ⊢
  show outLse m c ((cfg0.win 5).xinj (grid0.coords tLast) y) = outLse m c (((cfg0.win 5).blk tLast).view.emb y)
  rw [hl]

/-- What the last point writes back to the second column is the whole of `outLogp`. -/
theorem flushed6_eq (c : Dev nD) (t : Fin cfg0.N) (hf : (cfg0.win 6).flush t = true) :
    (dats m 0 c).flushed 6 t = ((cfg0.win 6).blk t).view.read (Elt F) (outLogp m c) := by
  show (cfg0.win 6).cut (grid0.coords t) ((dats m 0 c).after 6 t) = _
  rw [after0_6]
  obtain ⟨-, e0, e1⟩ := idx_facts56 t
  funext y
  have hb0 : (((cfg0.win 6).blk t).view.emb y 0).val = win0_6.index t (0 : Fin 2) * 768 + 1 * (y 0).val := rfl
  have hb1 : (((cfg0.win 6).blk t).view.emb y 1).val = win0_6.index t (1 : Fin 2) * 1 + 1 * (y 1).val := rfl
  have hl : ((cfg0.win 6).blk t).view.emb y = (cfg0.win 6).xinj (grid0.coords t) y := by
    funext a; apply Fin.ext
    match a with
    | ⟨0, _⟩ => show (((cfg0.win 6).blk t).view.emb y 0).val = (y 0).val; rw [hb0]; omega
    | ⟨1, _⟩ => show (((cfg0.win 6).blk t).view.emb y 1).val = (y 1).val; rw [hb1]; omega
  rw [eq_tLast t ((flush0_6 t).mp hf)] at hl ⊢
  show outLogp m c ((cfg0.win 6).xinj (grid0.coords tLast) y) = outLogp m c (((cfg0.win 6).blk tLast).view.emb y)
  rw [hl]

/-- An index is in the first column's block at `t` iff each coordinate is in the block's range on its axis. -/
theorem mem_blk5 (t : Fin cfg0.N) (i : S768x1.Idx) :
    i ∈ ((cfg0.win 5).blk t).view.set ↔ ∀ a : Fin 2, win0_5.index t a * S768x1.size a ≤ (i a).val ∧ (i a).val < win0_5.index t a * S768x1.size a + S768x1.size a := by
  show i ∈ ((View.whole main_v0_1).slice (win0_5.rect t)).set ↔ _
  rw [View.set_slice_whole, Rect.mem_set_unit]
  exact Iff.rfl

/-- The same for the second column. -/
theorem mem_blk6 (t : Fin cfg0.N) (i : S768x1.Idx) :
    i ∈ ((cfg0.win 6).blk t).view.set ↔ ∀ a : Fin 2, win0_6.index t a * S768x1.size a ≤ (i a).val ∧ (i a).val < win0_6.index t a * S768x1.size a + S768x1.size a := by
  show i ∈ ((View.whole main_v0_2).slice (win0_6.rect t)).set ↔ _
  rw [View.set_slice_whole, Rect.mem_set_unit]
  exact Iff.rfl

/-- The second result array when the program ends. -/
theorem final5 (c : Dev nD) : (dats m 0 c).arrAt 5 cfg0.N = outLse m c :=
  (dats m 0 c).arrAt_eq_of_cover 5 (outLse m c) (flushed5_eq m c) fun i =>
    ⟨tLast, (flush0_5 tLast).mpr rfl, (mem_blk5 tLast i).mpr fun a => by
      obtain ⟨⟨e0, e1⟩, -⟩ := idx_facts56 tLast
      have h0 : (i 0).val < 768 := (i 0).isLt
      have h1 : (i 1).val < 1 := (i 1).isLt
      match a with
      | ⟨0, _⟩ => show win0_5.index tLast (0 : Fin 2) * 768 ≤ (i 0).val ∧ (i 0).val < win0_5.index tLast (0 : Fin 2) * 768 + 768; omega
      | ⟨1, _⟩ => show win0_5.index tLast (1 : Fin 2) * 1 ≤ (i 1).val ∧ (i 1).val < win0_5.index tLast (1 : Fin 2) * 1 + 1; omega⟩

/-- The third result array when the program ends. -/
theorem final6 (c : Dev nD) : (dats m 0 c).arrAt 6 cfg0.N = outLogp m c :=
  (dats m 0 c).arrAt_eq_of_cover 6 (outLogp m c) (flushed6_eq m c) fun i =>
    ⟨tLast, (flush0_6 tLast).mpr rfl, (mem_blk6 tLast i).mpr fun a => by
      obtain ⟨-, e0, e1⟩ := idx_facts56 tLast
      have h0 : (i 0).val < 768 := (i 0).isLt
      have h1 : (i 1).val < 1 := (i 1).isLt
      match a with
      | ⟨0, _⟩ => show win0_6.index tLast (0 : Fin 2) * 768 ≤ (i 0).val ∧ (i 0).val < win0_6.index tLast (0 : Fin 2) * 768 + 768; omega
      | ⟨1, _⟩ => show win0_6.index tLast (1 : Fin 2) * 1 ≤ (i 1).val ∧ (i 1).val < win0_6.index tLast (1 : Fin 2) * 1 + 1; omega⟩

/-! ## The run -/

/-- The program terminates with the three result arrays as named above and its arguments unchanged. -/
theorem run : θ_run defs (onTc (τ := τ) (main (F := F))) ⟨m, fun _ => 0, ρ⟩ fun r => ∀ c : Dev nD,
      r.2.mem ((c : Thread nD τ).loc main_v0_0) = outLogits m c
      ∧ r.2.mem ((c : Thread nD τ).loc main_v0_1) = outLse m c
      ∧ r.2.mem ((c : Thread nD τ).loc main_v0_2) = outLogp m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Head

end
-- ==== Proof.LogSumExp.lean ====
/- The arithmetic of an online log-sum-exp over the extended reals: a running maximum and a running sum of exponentials,
   rescaled whenever the maximum moves, end at the sum of exponentials taken relative to any later upper bound. -/
module

public import Idealize.ShloMosaic.PureOps.Ideal

@[expose] public section

noncomputable section

namespace Cert.LogSumExp

open Idealize.ShloMosaic

/-- The exponential is never negative. -/
theorem exp_nonneg (x : EReal) : 0 ≤ Ideal.exp x := by
  induction x using EReal.rec with
  | bot => simp
  | top => simp
  | coe r => rw [Ideal.exp_coe]; exact_mod_cast (Real.exp_pos r).le

/-- Rescaling: for `x ≤ p ≤ q` with `q` not `+∞`, the exponential relative to `p` times the change from `p` to `q` is the
    exponential relative to `q`. -/
theorem exp_rescale {x p q : EReal} (hx : x ≤ p) (hp : p ≤ q) (hq : q ≠ ⊤) :
    Ideal.exp (x - p) * Ideal.exp (p - q) = Ideal.exp (x - q) := by
  have hpt : p ≠ ⊤ := fun h => hq (top_le_iff.mp (h ▸ hp))
  have hxt : x ≠ ⊤ := fun h => hpt (top_le_iff.mp (h ▸ hx))
  rcases eq_or_ne x ⊥ with rfl | hxb
  · simp [EReal.bot_sub]
  have hpb : p ≠ ⊥ := fun h => hxb (le_bot_iff.mp (h ▸ hx))
  have hqb : q ≠ ⊥ := fun h => hpb (le_bot_iff.mp (h ▸ hp))
  lift x to ℝ using ⟨hxt, hxb⟩
  lift p to ℝ using ⟨hpt, hpb⟩
  lift q to ℝ using ⟨hq, hqb⟩
  rw [← EReal.coe_sub, ← EReal.coe_sub, ← EReal.coe_sub, Ideal.exp_coe, Ideal.exp_coe, Ideal.exp_coe, ← EReal.coe_mul, ← Real.exp_add]
  congr 2; ring

/-- Relative to `+∞` every exponential is zero. -/
theorem exp_sub_top (x : EReal) : Ideal.exp (x - ⊤) = 0 := by
  rw [sub_eq_add_neg, EReal.neg_top, EReal.add_bot, Ideal.exp_bot]

variable {ι : Type*}

/-- A finite sum of nonnegative terms multiplied through. -/
theorem sum_mul_of_nonneg (s : Finset ι) (f : ι → EReal) (hf : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi, EReal.right_distrib_of_nonneg (hf i) (Finset.sum_nonneg fun j _ => hf j), ih]

/-- The running maximum after the first `n` groups of four. -/
def mx (x : ℕ → ℕ → EReal) : ℕ → EReal
  | 0 => ⊥
  | n + 1 => max (max (max (max (mx x n) (x n 0)) (x n 1)) (x n 2)) (x n 3)

/-- The running sum of exponentials after the first `n` groups of four, rescaled at each group. -/
def sm (x : ℕ → ℕ → EReal) : ℕ → EReal
  | 0 => 0
  | n + 1 => sm x n * Ideal.exp (mx x n - mx x (n + 1)) + Ideal.exp (x n 0 - mx x (n + 1)) + Ideal.exp (x n 1 - mx x (n + 1))
      + Ideal.exp (x n 2 - mx x (n + 1)) + Ideal.exp (x n 3 - mx x (n + 1))

/-- The running maximum does not decrease from one group to the next. -/
theorem mx_le_succ (x : ℕ → ℕ → EReal) (n : ℕ) : mx x n ≤ mx x (n + 1) := by
  show mx x n ≤ max (max (max (max (mx x n) (x n 0)) (x n 1)) (x n 2)) (x n 3)
  simp

/-- A group's values are below the maximum after it. -/
theorem le_mx_succ (x : ℕ → ℕ → EReal) (n : ℕ) (j : ℕ) (hj : j < 4) : x n j ≤ mx x (n + 1) := by
  show x n j ≤ max (max (max (max (mx x n) (x n 0)) (x n 1)) (x n 2)) (x n 3)
  have : j = 0 ∨ j = 1 ∨ j = 2 ∨ j = 3 := by omega
  rcases this with rfl | rfl | rfl | rfl <;> simp

/-- Every value of an earlier group is below the running maximum. -/
theorem le_mx (x : ℕ → ℕ → EReal) (n : ℕ) : ∀ k < n, ∀ j < 4, x k j ≤ mx x n := by
  induction n with
  | zero => intro k hk; omega
  | succ n ih =>
    intro k hk j hj
    rcases Nat.lt_succ_iff_lt_or_eq.mp hk with h | rfl
    · exact (ih k h j hj).trans (mx_le_succ x n)
    · exact le_mx_succ x k j hj

/-- The running maximum is below every common upper bound of the values. -/
theorem mx_le (x : ℕ → ℕ → EReal) (n : ℕ) (b : EReal) (h : ∀ k < n, ∀ j < 4, x k j ≤ b) : mx x n ≤ b := by
  induction n with
  | zero => exact bot_le
  | succ n ih =>
    show max (max (max (max (mx x n) (x n 0)) (x n 1)) (x n 2)) (x n 3) ≤ b
    have ih' := ih fun k hk => h k (by omega)
    have hn := h n (by omega)
    exact max_le (max_le (max_le (max_le ih' (hn 0 (by omega))) (hn 1 (by omega))) (hn 2 (by omega))) (hn 3 (by omega))

/-- The sum of a group's exponentials relative to `r`. -/
def grp (x : ℕ → ℕ → EReal) (k : ℕ) (r : EReal) : EReal := ∑ j ∈ Finset.range 4, Ideal.exp (x k j - r)

theorem grp_nonneg (x : ℕ → ℕ → EReal) (k : ℕ) (r : EReal) : 0 ≤ grp x k r := Finset.sum_nonneg fun _ _ => exp_nonneg _

/-- A group's exponentials rescaled. -/
theorem grp_rescale (x : ℕ → ℕ → EReal) (k : ℕ) {p q : EReal} (hx : ∀ j < 4, x k j ≤ p) (hp : p ≤ q) (hq : q ≠ ⊤) :
    grp x k p * Ideal.exp (p - q) = grp x k q := by
  unfold grp
  rw [sum_mul_of_nonneg _ _ fun _ => exp_nonneg _]
  exact Finset.sum_congr rfl fun j hj => exp_rescale (hx j (Finset.mem_range.mp hj)) hp hq

/-- While the running maximum is not `+∞`, the running sum rescaled to any upper bound `r ≠ +∞` is the sum of the
    exponentials relative to `r`. -/
theorem sm_rescale (x : ℕ → ℕ → EReal) (n : ℕ) (r : EReal) (hr : mx x n ≤ r) (ht : r ≠ ⊤) :
    sm x n * Ideal.exp (mx x n - r) = ∑ k ∈ Finset.range n, grp x k r := by
  induction n generalizing r with
  | zero => simp [sm]
  | succ n ih =>
    have hmt : mx x (n + 1) ≠ ⊤ := fun h => ht (top_le_iff.mp (h ▸ hr))
    have hs : sm x (n + 1) = ∑ k ∈ Finset.range (n + 1), grp x k (mx x (n + 1)) := by
      rw [Finset.sum_range_succ, ← ih (mx x (n + 1)) (mx_le_succ x n) hmt]
      show sm x n * Ideal.exp (mx x n - mx x (n + 1)) + Ideal.exp (x n 0 - mx x (n + 1)) + Ideal.exp (x n 1 - mx x (n + 1))
        + Ideal.exp (x n 2 - mx x (n + 1)) + Ideal.exp (x n 3 - mx x (n + 1)) = _
      simp only [grp, Finset.sum_range_succ, Finset.sum_range_zero, zero_add, add_assoc]
    rw [hs, sum_mul_of_nonneg _ _ fun k => grp_nonneg x k _]
    refine Finset.sum_congr rfl fun k hk => grp_rescale x k (fun j hj => ?_) hr ht
    exact le_mx x (n + 1) k (Finset.mem_range.mp hk) j hj

/-- The running sum rescaled to any upper bound is the sum of the exponentials relative to it: at `+∞` both are zero. -/
theorem sm_total (x : ℕ → ℕ → EReal) (n : ℕ) (r : EReal) (hr : mx x n ≤ r) :
    sm x n * Ideal.exp (mx x n - r) = ∑ k ∈ Finset.range n, grp x k r := by
  rcases eq_or_ne r ⊤ with rfl | ht
  · rw [exp_sub_top, mul_zero]
    refine (Finset.sum_eq_zero fun k _ => ?_).symm
    exact Finset.sum_eq_zero fun j _ => exp_sub_top _
  · exact sm_rescale x n r hr ht

/-! ## A row of 102400 values, taken lane by lane -/

/-- A row of 102400 values, as a function of any number. -/
def row (L : Fin 102400 → EReal) (n : ℕ) : EReal := if h : n < 102400 then L ⟨n, h⟩ else 0

theorem row_val (L : Fin 102400 → EReal) (n : Fin 102400) : row L n.val = L n := by
  unfold row; rw [dif_pos n.isLt]

/-- The values one lane meets: group `n`'s four values lie 128 apart, from `512 n + ℓ`. -/
def laneOf (L : Fin 102400 → EReal) (ℓ n j : ℕ) : EReal := row L (512 * n + 128 * j + ℓ)

/-- The greatest of the lanes' maxima is the greatest value of the row. -/
theorem sup_lanes_of (L : Fin 102400 → EReal) (N : ℕ) (hN : N = 200) :
    Finset.univ.sup (fun ℓ : Fin 128 => mx (laneOf L ℓ) N) = Finset.univ.sup L := by
  apply le_antisymm
  · refine Finset.sup_le fun ℓ _ => mx_le _ _ _ fun k hk j hj => ?_
    have h : 512 * k + 128 * j + ℓ.val < 102400 := by omega
    show row L (512 * k + 128 * j + ℓ.val) ≤ _
    rw [show row L (512 * k + 128 * j + ℓ.val) = L ⟨_, h⟩ from row_val L ⟨_, h⟩]
    exact Finset.le_sup (Finset.mem_univ _)
  · refine Finset.sup_le fun n _ => ?_
    have hn := n.isLt
    have e : L n = laneOf L (n.val % 128) (n.val / 512) (n.val % 512 / 128) := by
      rw [← row_val L n]
      show row L n.val = row L (512 * (n.val / 512) + 128 * (n.val % 512 / 128) + n.val % 128)
      congr 1; omega
    rw [e]
    refine le_trans (le_mx (laneOf L (n.val % 128)) N (n.val / 512) (by omega) (n.val % 512 / 128) (by omega)) ?_
    exact Finset.le_sup (f := fun ℓ : Fin 128 => mx (laneOf L ℓ) N) (Finset.mem_univ (⟨n.val % 128, Nat.mod_lt _ (by decide)⟩ : Fin 128))

/-- The same at the 200 groups of the row. -/
theorem sup_lanes (L : Fin 102400 → EReal) : Finset.univ.sup (fun ℓ : Fin 128 => mx (laneOf L ℓ) 200) = Finset.univ.sup L :=
  sup_lanes_of L 200 rfl

/-- A sum over `a · b` consecutive numbers, by blocks of `b`. -/
theorem sum_blocks (g : ℕ → EReal) (a b : ℕ) : ∑ n ∈ Finset.range (b * a), g n = ∑ i ∈ Finset.range a, ∑ j ∈ Finset.range b, g (b * i + j) := by
  induction a with
  | zero => simp
  | succ a ih => rw [Nat.mul_succ, Finset.sum_range_add, ih, Finset.sum_range_succ]

/-- A sum over `d · b · a` numbers, by residue, block and sub-block. -/
theorem sum_by_residue (g : ℕ → EReal) (a b d e N : ℕ) (he : e = d * b) (hN : N = e * a) :
    ∑ ℓ ∈ Finset.range d, ∑ k ∈ Finset.range a, ∑ j ∈ Finset.range b, g (e * k + d * j + ℓ) = ∑ n ∈ Finset.range N, g n := by
  subst hN he
  rw [Finset.sum_comm, sum_blocks g a (d * b)]
  refine Finset.sum_congr rfl fun k _ => ?_
  rw [Finset.sum_comm, sum_blocks (fun j => g (d * b * k + j)) b d]
  exact Finset.sum_congr rfl fun j _ => Finset.sum_congr rfl fun ℓ _ => by rw [add_assoc]

/-- A sum over the row, lane by lane. -/
theorem sum_lanes (g : ℕ → EReal) :
    ∑ ℓ : Fin 128, ∑ k ∈ Finset.range 200, ∑ j ∈ Finset.range 4, g (512 * k + 128 * j + ℓ.val) = ∑ n : Fin 102400, g n.val := by
  rw [Fin.sum_univ_eq_sum_range (fun ℓ => ∑ k ∈ Finset.range 200, ∑ j ∈ Finset.range 4, g (512 * k + 128 * j + ℓ)) 128,
    Fin.sum_univ_eq_sum_range g 102400]
  exact sum_by_residue g 200 4 128 512 102400 (by norm_num) (by norm_num)

/-- The lanes' sums, rescaled to the greatest value of the row, add up to the row's sum of exponentials relative to it. -/
theorem total_sum_of (L : Fin 102400 → EReal) (N : ℕ) (hN : N = 200) :
    ∑ ℓ : Fin 128, sm (laneOf L ℓ) N * Ideal.exp (mx (laneOf L ℓ) N - Finset.univ.sup L) = ∑ n : Fin 102400, Ideal.exp (L n - Finset.univ.sup L) := by
  have e : ∀ ℓ : Fin 128, sm (laneOf L ℓ) N * Ideal.exp (mx (laneOf L ℓ) N - Finset.univ.sup L)
      = ∑ k ∈ Finset.range N, ∑ j ∈ Finset.range 4, Ideal.exp (row L (512 * k + 128 * j + ℓ.val) - Finset.univ.sup L) := fun ℓ =>
    sm_total _ _ _ (by
      rw [← sup_lanes_of L N hN]
      exact Finset.le_sup (f := fun ℓ : Fin 128 => mx (laneOf L ℓ) N) (Finset.mem_univ ℓ))
  rw [Finset.sum_congr rfl fun ℓ _ => e ℓ, hN, sum_lanes fun n => Ideal.exp (row L n - Finset.univ.sup L)]
  exact Finset.sum_congr rfl fun n _ => by rw [row_val]

/-- The same at the 200 groups of the row. -/
theorem total_sum (L : Fin 102400 → EReal) :
    ∑ ℓ : Fin 128, sm (laneOf L ℓ) 200 * Ideal.exp (mx (laneOf L ℓ) 200 - Finset.univ.sup L) = ∑ n : Fin 102400, Ideal.exp (L n - Finset.univ.sup L) :=
  total_sum_of L 200 rfl

end Cert.LogSumExp

end
-- ==== Proof.Ideal.Tile.lean ====
/- The body's values over the extended reals, read at an index: a tile of logits is the product of the activations with the
   weight codes times their block's scale, and each tile is folded into three columns of 128 lanes. -/
module

public import proofs.«01_k».proof.Proof.Ideal.Value
public import proofs.«01_k».proof.Proof.LogSumExp
public import Idealize.ShloMosaic.PureOps.Ideal.Laws
public import Idealize.ShloMosaic.Lib.MatmulPlain

@[expose] public section

set_option maxRecDepth 16384

noncomputable section

namespace Cert.KernelIdeal.Head

open Cert.KernelIdeal Cert.KernelIdeal.Gen
open Idealize.ShloMosaic Idealize.ShloMosaic.TcCoe Idealize.ShloMosaic.Tactic

/-- The logit of a row and a column of one tile. -/
theorem tileX_apply (x0 : Vec Ideal S768x3584 .bf16) (x2 : Vec Ideal S3584x512 .fp8e4m3) (x3 : Vec Ideal S28x512 .f32) (r : Fin 768) (j : Fin 512) :
    (tileX x0 x2 x3 (ix2 r j) : EReal) = ∑ k : Fin 3584, x0 (ix2 r k) * (x2 (ix2 k j) * x3 (ix2 (⟨k.val / 128, by omega⟩ : Fin 28) j)) := by
  unfold tileX
  unfold_payloads
  pointwise

/-- The running maximum of a row and a lane after a tile. -/
theorem stepM_apply (x : FVec Ideal S768x512 .f32) (mm : Vec Ideal S768x128 .f32) (r : Fin 768) (ℓ : Fin 128) :
    (stepM x mm (ix2 r ℓ) : EReal) = max (max (max (max (mm (ix2 r ℓ)) (x (ix2 r (⟨ℓ.val, by omega⟩ : Fin 512)))) (x (ix2 r (⟨128 + ℓ.val, by omega⟩ : Fin 512))))
      (x (ix2 r (⟨256 + ℓ.val, by omega⟩ : Fin 512)))) (x (ix2 r (⟨384 + ℓ.val, by omega⟩ : Fin 512))) := by
  unfold stepM
  unfold_payloads
  pointwise

/-- The running sum of a row and a lane after a tile. -/
theorem stepL_apply (x : FVec Ideal S768x512 .f32) (mm ll : Vec Ideal S768x128 .f32) (r : Fin 768) (ℓ : Fin 128) :
    (stepL x mm ll (ix2 r ℓ) : EReal) = ll (ix2 r ℓ) * Ideal.exp (mm (ix2 r ℓ) - stepM x mm (ix2 r ℓ))
      + Ideal.exp (x (ix2 r (⟨ℓ.val, by omega⟩ : Fin 512)) - stepM x mm (ix2 r ℓ))
      + Ideal.exp (x (ix2 r (⟨128 + ℓ.val, by omega⟩ : Fin 512)) - stepM x mm (ix2 r ℓ))
      + Ideal.exp (x (ix2 r (⟨256 + ℓ.val, by omega⟩ : Fin 512)) - stepM x mm (ix2 r ℓ))
      + Ideal.exp (x (ix2 r (⟨384 + ℓ.val, by omega⟩ : Fin 512)) - stepM x mm (ix2 r ℓ)) := by
  rw [stepM_apply]
  unfold stepL
  unfold_payloads
  pointwise

/-- The word of −∞ stands for the least extended real. -/
theorem ofBits_neg_inf : Ideal.ofBits .f32 0xFF800000#32 = (⊥ : EReal) := by
  show Ideal.ieee 8 23 0xFF800000#32 = (⊥ : EReal)
  simp [Ideal.ieee]

/-- The running maximum starts at −∞. -/
theorem pay6_apply (r : Fin 768) (ℓ : Fin 128) : (k0_pay6 (F := Ideal) (ix2 r ℓ) : EReal) = ⊥ := by
  unfold_payloads
  pointwise
  exact ofBits_neg_inf

/-- The running sum starts at zero. -/
theorem pay7_apply (r : Fin 768) (ℓ : Fin 128) : (k0_pay7 (F := Ideal) (ix2 r ℓ) : EReal) = 0 := by
  unfold_payloads
  pointwise

/-- The selected logits start at zero. -/
theorem pay8_apply (r : Fin 768) (ℓ : Fin 128) : (k0_pay8 (F := Ideal) (ix2 r ℓ) : EReal) = 0 := by
  unfold_payloads
  pointwise

/-- The column of selected logits less the log-sum-exp. -/
theorem pay5_apply (mm ll tt : Vec Ideal S768x128 .f32) (r : Fin 768) :
    (k0_pay5 mm ll tt (ix2 r (0 : Fin 1)) : EReal) = (∑ ℓ : Fin 128, (tt (ix2 r ℓ) : EReal)) - k0_pay4 mm ll (ix2 r (0 : Fin 1)) := by
  unfold k0_pay5
  pointwise

/-- The column of log-sum-exps: the maximum over the lanes, plus the logarithm of the lanes' sums rescaled to it, less the constant. -/
theorem pay4_apply (mm ll : Vec Ideal S768x128 .f32) (r : Fin 768) :
    (k0_pay4 mm ll (ix2 r (0 : Fin 1)) : EReal) = Finset.univ.sup (fun ℓ : Fin 128 => (mm (ix2 r ℓ) : EReal))
      + Ideal.log (∑ ℓ : Fin 128, (ll (ix2 r ℓ) : EReal) * Ideal.exp (mm (ix2 r ℓ) - Finset.univ.sup fun ℓ : Fin 128 => (mm (ix2 r ℓ) : EReal)))
      - Ideal.ofBits .f32 0x41389616#32 := by
  unfold_payloads
  pointwise
  rw [ofBits_neg_inf]
  rfl

/-- A lane number equals the token's place in group `c` of tile `n`, as 32-bit words, exactly when the column it stands for is the
    token. -/
theorem select_place {α : Type} (tok : BitVec 32) (n c ℓ : ℕ) (hT : tok.toNat < 102400) (hn : n < 200) (hc : c ≤ 384) (hl : ℓ < 128) (x y : α) :
    Scalar.select (IntOp.cmpi .eq (BitVec.ofNat 32 ℓ) (IntOp.subi (IntOp.subi tok (Scalar.muli (BitVec.ofNat 32 n) 512#32)) (BitVec.ofNat 32 c))) x y
      = if 512 * n + c + ℓ = tok.toNat then x else y := by
  have key : (BitVec.ofNat 32 ℓ = tok - BitVec.ofNat 32 n * 512#32 - BitVec.ofNat 32 c) ↔ 512 * n + c + ℓ = tok.toNat := by
    rw [← BitVec.toNat_inj]
    simp only [BitVec.toNat_sub, BitVec.toNat_mul, BitVec.toNat_ofNat]
    omega
  show (if BitVec.ofBool (BitVec.ofNat 32 ℓ == tok - BitVec.ofNat 32 n * 512#32 - BitVec.ofNat 32 c) = 1 then x else y) = _
  by_cases h : 512 * n + c + ℓ = tok.toNat
  · rw [if_pos h, beq_iff_eq.mpr (key.mpr h)]; exact if_pos rfl
  · rw [if_neg h, beq_eq_false_iff_ne.mpr (fun e => h (key.mp e)), if_neg (by decide)]

/-- The selected logits of a row and a lane after a tile: the tile's logit at the token, where the token is in this lane of the tile. -/
theorem stepT_apply (i : grid0.Coords) (x : FVec Ideal S768x512 .f32) (tok : Vec Ideal S768x1 .i32) (tt : Vec Ideal S768x128 .f32) (r : Fin 768) (ℓ : Fin 128)
    (hT : (tok (ix2 r (0 : Fin 1))).toNat < 102400) :
    (stepT i x tok tt (ix2 r ℓ) : EReal) =
      if 512 * (i 0).val + 384 + ℓ.val = (tok (ix2 r (0 : Fin 1))).toNat then x (ix2 r (⟨384 + ℓ.val, by omega⟩ : Fin 512))
      else if 512 * (i 0).val + 256 + ℓ.val = (tok (ix2 r (0 : Fin 1))).toNat then x (ix2 r (⟨256 + ℓ.val, by omega⟩ : Fin 512))
      else if 512 * (i 0).val + 128 + ℓ.val = (tok (ix2 r (0 : Fin 1))).toNat then x (ix2 r (⟨128 + ℓ.val, by omega⟩ : Fin 512))
      else if 512 * (i 0).val + ℓ.val = (tok (ix2 r (0 : Fin 1))).toNat then x (ix2 r (⟨ℓ.val, by omega⟩ : Fin 512))
      else tt (ix2 r ℓ) := by
  have hn : (i 0).val < 200 := (i 0).isLt
  unfold stepT
  unfold_payloads
  pointwise [lane]
  have e0 := fun a b : EReal => select_place (tok (ix2 r (0 : Fin 1))) (i 0).val 0 ℓ.val hT hn (by omega) ℓ.isLt a b
  simp only [Nat.add_zero] at e0
  rw [select_place (tok (ix2 r (0 : Fin 1))) (i 0).val 384 ℓ.val hT hn (by omega) ℓ.isLt,
    select_place (tok (ix2 r (0 : Fin 1))) (i 0).val 256 ℓ.val hT hn (by omega) ℓ.isLt,
    select_place (tok (ix2 r (0 : Fin 1))) (i 0).val 128 ℓ.val hT hn (by omega) ℓ.isLt, e0]

/-- The block of rounded logits holds, at step `a` and lane `b`, the tile's row `192 a + b`. -/
theorem tileO_apply (x0 : Vec Ideal S768x3584 .bf16) (x2 : Vec Ideal S3584x512 .fp8e4m3) (x3 : Vec Ideal S28x512 .f32) (b : Fin 192) (a : Fin 4) (j : Fin 512) :
    (tileO x0 x2 x3 (ix3 b a j) : EReal) = tileX x0 x2 x3 (ix2 (⟨a.val * 192 + b.val, by omega⟩ : Fin 768) j) := by
  have e : ∀ p : ℕ, ∀ h : p < 768, p = a.val * 192 + b.val →
      k0_pay9 x0 x2 x3 (ix2 (⟨p, h⟩ : Fin 768) j) = k0_pay9 x0 x2 x3 (ix2 (⟨a.val * 192 + b.val, by omega⟩ : Fin 768) j) := fun p h hp => by subst hp; rfl
  unfold tileO stack4 pieceIdx k0_pay10 k0_pay11 k0_pay12 k0_pay13
  pointwise
  unfold tileX
  split
  · exact e _ _ (by omega)
  split
  · exact e _ _ (by omega)
  split
  · exact e _ _ (by omega)
  · exact e _ _ (by omega)

/-- The block of activations is the whole array. -/
theorem iblk0_apply (m : (ℓ : Loc nD τ sig) → Buf (Elt Ideal) ℓ) (c : Dev nD) (t : Fin cfg0.N) (r : Fin 768) (k : Fin 3584) :
    iblk m c 0 t (ix2 r k) = m ((c : Thread nD τ).loc main_arg0) (ix2 r k) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r k)) = _
  congr 1
  funext a; apply Fin.ext
  match a with
  | ⟨0, _⟩ => show win0_0.index t (0 : Fin 2) * 768 + 1 * r.val = r.val; omega
  | ⟨1, _⟩ => show win0_0.index t (1 : Fin 2) * 3584 + 1 * k.val = k.val; omega

/-- The block of token numbers is the whole array. -/
theorem iblk1_apply (m : (ℓ : Loc nD τ sig) → Buf (Elt Ideal) ℓ) (c : Dev nD) (t : Fin cfg0.N) (r : Fin 768) :
    iblk m c 1 t (ix2 r (0 : Fin 1)) = m ((c : Thread nD τ).loc main_arg1) (ix2 r (0 : Fin 1)) := by
  rw [← V_main_arg1 m c]
  have hi : ∀ t : Fin cfg0.N, win0_1.index t (0 : Fin 2) = 0 ∧ win0_1.index t (1 : Fin 2) = 0 := (by decide +kernel : ∀ t : Fin grid0.N, _)
  obtain ⟨e0, e1⟩ := hi t
  show V m c main_arg1 (((cfg0.win 1).blk t).view.emb (ix2 r (0 : Fin 1))) = _
  congr 1
  funext a; apply Fin.ext
  match a with
  | ⟨0, _⟩ => show win0_1.index t (0 : Fin 2) * 768 + 1 * r.val = r.val; omega
  | ⟨1, _⟩ => show win0_1.index t (1 : Fin 2) * 1 + 1 * 0 = 0; omega

/-- The column of the whole vocabulary that is column `j` of tile `t`. -/
def colOf (t : Fin cfg0.N) (j : Fin 512) : Fin 102400 :=
  ⟨512 * t.val + j.val, by have : t.val < 200 := lt_of_lt_of_eq t.isLt (show cfg0.N = 200 from N_0); omega⟩

/-- The block of weight codes is the tile's columns. -/
theorem iblk2_apply (m : (ℓ : Loc nD τ sig) → Buf (Elt Ideal) ℓ) (c : Dev nD) (t : Fin cfg0.N) (k : Fin 3584) (j : Fin 512) :
    iblk m c 2 t (ix2 k j) = m ((c : Thread nD τ).loc main_arg2) (ix2 k (colOf t j)) := by
  rw [← V_main_arg2 m c]
  have hi : ∀ t : Fin cfg0.N, win0_2.index t (0 : Fin 2) = 0 ∧ win0_2.index t (1 : Fin 2) = t.val := (by decide +kernel : ∀ t : Fin grid0.N, _)
  obtain ⟨e0, e1⟩ := hi t
  show V m c main_arg2 (((cfg0.win 2).blk t).view.emb (ix2 k j)) = _
  congr 1
  funext a; apply Fin.ext
  match a with
  | ⟨0, _⟩ => show win0_2.index t (0 : Fin 2) * 3584 + 1 * k.val = k.val; omega
  | ⟨1, _⟩ => show win0_2.index t (1 : Fin 2) * 512 + 1 * j.val = 512 * t.val + j.val; omega

/-- The block of scales is the tile's columns. -/
theorem iblk3_apply (m : (ℓ : Loc nD τ sig) → Buf (Elt Ideal) ℓ) (c : Dev nD) (t : Fin cfg0.N) (k : Fin 28) (j : Fin 512) :
    iblk m c 3 t (ix2 k j) = m ((c : Thread nD τ).loc main_arg3) (ix2 k (colOf t j)) := by
  rw [← V_main_arg3 m c]
  have hi : ∀ t : Fin cfg0.N, win0_3.index t (0 : Fin 2) = 0 ∧ win0_3.index t (1 : Fin 2) = t.val := (by decide +kernel : ∀ t : Fin grid0.N, _)
  obtain ⟨e0, e1⟩ := hi t
  show V m c main_arg3 (((cfg0.win 3).blk t).view.emb (ix2 k j)) = _
  congr 1
  funext a; apply Fin.ext
  match a with
  | ⟨0, _⟩ => show win0_3.index t (0 : Fin 2) * 28 + 1 * k.val = k.val; omega
  | ⟨1, _⟩ => show win0_3.index t (1 : Fin 2) * 512 + 1 * j.val = 512 * t.val + j.val; omega

end Cert.KernelIdeal.Head

end
-- ==== Proof.Logit.lean ====
/- The product both programs compute, as a function of the arguments: a logit is the dot product of a row of activations with
   a column of weights, each weight a code times the scale of its block of 128 rows. -/
module

public import Idealize.ShloMosaic.PureOps.Ideal
public import Idealize.ShloMosaic.Lib.Pointwise

@[expose] public section

noncomputable section

namespace Cert

open Idealize.ShloMosaic

/-- The logit of row `r` and vocabulary column `n`. -/
def logit (h : (⟨2, ![768, 3584]⟩ : Shape).Idx → EReal) (w : (⟨2, ![3584, 102400]⟩ : Shape).Idx → EReal) (s : (⟨2, ![28, 102400]⟩ : Shape).Idx → EReal)
    (r : Fin 768) (n : Fin 102400) : EReal :=
  ∑ k : Fin 3584, h (ix2 r k) * (w (ix2 k n) * s (ix2 (⟨k.val / 128, by omega⟩ : Fin 28) n))

end Cert

end
-- ==== Proof.Ideal.Fold.lean ====
/- The kernel's three results over the extended reals, as functions of the arguments: the fold over the tiles is the row's
   log-sum-exp, and the selected logit is the one at the token. -/
module

public import proofs.«01_k».proof.Proof.Ideal.Tile
public import proofs.«01_k».proof.Proof.Logit

@[expose] public section

set_option maxRecDepth 16384

noncomputable section

namespace Cert.KernelIdeal.Head

open Cert.KernelIdeal Cert.KernelIdeal.Gen
open Idealize.ShloMosaic Idealize.ShloMosaic.TcCoe Idealize.ShloMosaic.Tactic

open Cert.LogSumExp

variable (m : (ℓ : Loc nD τ sig) → Buf (Elt Ideal) ℓ)

/-- The logits of the arguments as launched. -/
abbrev L (c : Dev nD) (r : Fin 768) (n : Fin 102400) : EReal :=
  logit (m ((c : Thread nD τ).loc main_arg0)) (m ((c : Thread nD τ).loc main_arg2)) (m ((c : Thread nD τ).loc main_arg3)) r n

/-- A row's token number. -/
abbrev token (c : Dev nD) (r : Fin 768) : ℕ := BitVec.toNat (w := 32) (m ((c : Thread nD τ).loc main_arg1) (ix2 r (0 : Fin 1)))

/-- A tile holds its columns of the logits. -/
theorem tX_apply (c : Dev nD) (t : Fin cfg0.N) (r : Fin 768) (j : Fin 512) : (tX m c t (ix2 r j) : EReal) = L m c r (colOf t j) := by
  unfold tX
  rw [tileX_apply]
  unfold L logit
  refine Finset.sum_congr rfl fun k _ => ?_
  rw [iblk0_apply, iblk2_apply, iblk3_apply]

/-- The same, as an entry of the row. -/
theorem tX_row (c : Dev nD) (t : Fin cfg0.N) (r : Fin 768) (p : ℕ) (hp : p < 512) :
    (tX m c t (ix2 r (⟨p, hp⟩ : Fin 512)) : EReal) = row (L m c r) (512 * t.val + p) := by
  rw [tX_apply, ← row_val (L m c r) (colOf t ⟨p, hp⟩)]; rfl

/-- The four values a lane meets in a tile. -/
theorem tX_lane (c : Dev nD) (t : Fin cfg0.N) (r : Fin 768) (ℓ : Fin 128) :
    (tX m c t (ix2 r (⟨ℓ.val, by omega⟩ : Fin 512)) : EReal) = laneOf (L m c r) ℓ t.val 0
    ∧ (tX m c t (ix2 r (⟨128 + ℓ.val, by omega⟩ : Fin 512)) : EReal) = laneOf (L m c r) ℓ t.val 1
    ∧ (tX m c t (ix2 r (⟨256 + ℓ.val, by omega⟩ : Fin 512)) : EReal) = laneOf (L m c r) ℓ t.val 2
    ∧ (tX m c t (ix2 r (⟨384 + ℓ.val, by omega⟩ : Fin 512)) : EReal) = laneOf (L m c r) ℓ t.val 3 := by
  unfold laneOf
  refine ⟨?_, ?_, ?_, ?_⟩ <;> rw [tX_row] <;> congr 1 <;> omega

/-- After point `n` each row and lane holds the running maximum and the running sum of its values. -/
theorem st_sums (c : Dev nD) (r : Fin 768) (ℓ : Fin 128) : ∀ (n : ℕ) (hn : n < cfg0.N),
    ((st m c n hn).1 (ix2 r ℓ) : EReal) = mx (laneOf (L m c r) ℓ) (n + 1) ∧ ((st m c n hn).2.1 (ix2 r ℓ) : EReal) = sm (laneOf (L m c r) ℓ) (n + 1) := by
  intro n
  induction n with
  | zero =>
    intro hn
    obtain ⟨x0, x1, x2, x3⟩ := tX_lane m c ⟨0, hn⟩ r ℓ
    have hm : (stepM (tX m c ⟨0, hn⟩) (k0_pay6 (F := Ideal)) (ix2 r ℓ) : EReal) = mx (laneOf (L m c r) ℓ) 1 := by
      rw [stepM_apply, x0, x1, x2, x3, pay6_apply]; rfl
    refine ⟨hm, ?_⟩
    show (stepL (tX m c ⟨0, hn⟩) (k0_pay6 (F := Ideal)) (k0_pay7 (F := Ideal)) (ix2 r ℓ) : EReal) = _
    rw [stepL_apply, hm, x0, x1, x2, x3, pay6_apply, pay7_apply]; rfl
  | succ n ih =>
    intro hn
    obtain ⟨x0, x1, x2, x3⟩ := tX_lane m c ⟨n + 1, hn⟩ r ℓ
    obtain ⟨i0, i1⟩ := ih (by omega)
    have hm : (stepM (tX m c ⟨n + 1, hn⟩) (st m c n (by omega)).1 (ix2 r ℓ) : EReal) = mx (laneOf (L m c r) ℓ) (n + 1 + 1) := by
      rw [stepM_apply, x0, x1, x2, x3, i0]; rfl
    refine ⟨hm, ?_⟩
    show (stepL (tX m c ⟨n + 1, hn⟩) (st m c n _).1 (st m c n _).2.1 (ix2 r ℓ) : EReal) = _
    rw [stepL_apply, hm, x0, x1, x2, x3, i0, i1]; rfl

/-- A point's number is its grid coordinate. -/
theorem coord_val (t : Fin cfg0.N) : (grid0.coords t 0).val = t.val := by
  have ht : t.val < 200 := Nat.lt_of_lt_of_eq t.isLt N_0
  have e0 : (grid0.coords t 0).val = t.val / 1 % 200 := Pipeline.Grid.coords_val t 0 (by decide) rfl
  omega

/-- One tile's selection, over a row and a lane whose selected logit is zero unless the token came earlier. -/
theorem sel_step (c : Dev nD) (t : Fin cfg0.N) (r : Fin 768) (ℓ : Fin 128) (hT : token m c r < 102400) (tt : Vec Ideal S768x128 .f32)
    (h : (tt (ix2 r ℓ) : EReal) = if token m c r < 512 * t.val ∧ token m c r % 128 = ℓ.val then row (L m c r) (token m c r) else 0) :
    (stepT (grid0.coords t) (tX m c t) (iblk m c 1 t) tt (ix2 r ℓ) : EReal)
      = if token m c r < 512 * (t.val + 1) ∧ token m c r % 128 = ℓ.val then row (L m c r) (token m c r) else 0 := by
  have hℓ := ℓ.isLt
  have e1 : (iblk m c 1 t (ix2 r (0 : Fin 1)) : BitVec 32) = m ((c : Thread nD τ).loc main_arg1) (ix2 r (0 : Fin 1)) := iblk1_apply m c t r
  have e2 : BitVec.toNat (iblk m c 1 t (ix2 r (0 : Fin 1)) : BitVec 32) = token m c r := congrArg BitVec.toNat e1
  rw [stepT_apply _ _ _ _ _ _ (lt_of_eq_of_lt e2 hT), e2, coord_val, h, tX_row, tX_row, tX_row, tX_row]
  generalize token m c r = T at hT ⊢
  by_cases h3 : 512 * t.val + 384 + ℓ.val = T
  · rw [if_pos h3, if_pos (by omega), ← h3, add_assoc]
  rw [if_neg h3]
  by_cases h2 : 512 * t.val + 256 + ℓ.val = T
  · rw [if_pos h2, if_pos (by omega), ← h2, add_assoc]
  rw [if_neg h2]
  by_cases h1 : 512 * t.val + 128 + ℓ.val = T
  · rw [if_pos h1, if_pos (by omega), ← h1, add_assoc]
  rw [if_neg h1]
  by_cases h0 : 512 * t.val + ℓ.val = T
  · rw [if_pos h0, if_pos (by omega), ← h0]
  rw [if_neg h0]
  by_cases hb : T < 512 * t.val ∧ T % 128 = ℓ.val
  · rw [if_pos hb, if_pos (by omega)]
  · rw [if_neg hb, if_neg (by omega)]

/-- After point `n` each row and lane holds the token's logit, if the token came in this lane by then, and zero otherwise. -/
theorem st_sel (c : Dev nD) (r : Fin 768) (ℓ : Fin 128) (hT : token m c r < 102400) : ∀ (n : ℕ) (hn : n < cfg0.N),
    ((st m c n hn).2.2 (ix2 r ℓ) : EReal) = if token m c r < 512 * (n + 1) ∧ token m c r % 128 = ℓ.val then row (L m c r) (token m c r) else 0 := by
  intro n
  induction n with
  | zero =>
    intro hn
    exact sel_step m c ⟨0, hn⟩ r ℓ hT (k0_pay8 (F := Ideal)) (by rw [pay8_apply, if_neg (by simp)])
  | succ n ih =>
    intro hn
    exact sel_step m c ⟨n + 1, hn⟩ r ℓ hT _ (ih (by omega))

/-! ## The results -/

/-- The log-sum-exp of a row of logits less the constant. -/
def lse (c : Dev nD) (r : Fin 768) : EReal :=
  Finset.univ.sup (L m c r) + Ideal.log (∑ n : Fin 102400, Ideal.exp (L m c r n - Finset.univ.sup (L m c r))) - Ideal.ofBits .f32 0x41389616#32

/-- The first result: logits by beam, step and column. -/
theorem outLogits_apply (c : Dev nD) (b : Fin 192) (a : Fin 4) (n : Fin 102400) :
    (outLogits m c (ix3 b a n) : EReal) = L m c (⟨a.val * 192 + b.val, by omega⟩ : Fin 768) n := by
  show (tileO (iblk m c 0 (ptOf (ix3 b a n))) (iblk m c 2 (ptOf (ix3 b a n))) (iblk m c 3 (ptOf (ix3 b a n)))
    (ix3 b a (⟨n.val % 512, Nat.mod_lt _ (by decide)⟩ : Fin 512)) : EReal) = _
  rw [tileO_apply]
  show (tX m c (ptOf (ix3 b a n)) (ix2 (⟨a.val * 192 + b.val, by omega⟩ : Fin 768) (⟨n.val % 512, Nat.mod_lt _ (by decide)⟩ : Fin 512)) : EReal) = _
  rw [tX_apply]
  congr 1
  apply Fin.ext
  show 512 * (n.val / 512) + n.val % 512 = n.val
  omega

/-- The second result: each row's log-sum-exp less the constant. -/
theorem outLse_apply (c : Dev nD) (r : Fin 768) : (outLse m c (ix2 r (0 : Fin 1)) : EReal) = lse m c r := by
  unfold outLse lse
  rw [pay4_apply]
  have e0 : ∀ ℓ : Fin 128, ((st m c tLast.val tLast.isLt).1 (ix2 r ℓ) : EReal) = mx (laneOf (L m c r) ℓ) 200 := fun ℓ => (st_sums m c r ℓ tLast.val tLast.isLt).1
  have e1 : ∀ ℓ : Fin 128, ((st m c tLast.val tLast.isLt).2.1 (ix2 r ℓ) : EReal) = sm (laneOf (L m c r) ℓ) 200 := fun ℓ => (st_sums m c r ℓ tLast.val tLast.isLt).2
  simp only [e0, e1]
  rw [sup_lanes, total_sum]

/-- The third result: each row's logit at its token, less that. -/
theorem outLogp_apply (c : Dev nD) (r : Fin 768) (hT : token m c r < 102400) :
    (outLogp m c (ix2 r (0 : Fin 1)) : EReal) = L m c r ⟨token m c r, hT⟩ - lse m c r := by
  rw [← outLse_apply m c r]
  unfold outLogp outLse
  rw [pay5_apply]
  have e : ∀ ℓ : Fin 128, ((st m c tLast.val tLast.isLt).2.2 (ix2 r ℓ) : EReal)
      = if ℓ = (⟨token m c r % 128, Nat.mod_lt _ (by decide)⟩ : Fin 128) then row (L m c r) (token m c r) else 0 := fun ℓ => by
    rw [st_sel m c r ℓ hT tLast.val tLast.isLt]
    have h199 : tLast.val = 199 := rfl
    rw [h199]
    by_cases h : token m c r % 128 = ℓ.val
    · rw [if_pos ⟨by omega, h⟩, if_pos (Fin.ext h.symm)]
    · rw [if_neg (fun h' => h h'.2), if_neg (fun h' => h (by rw [h']))]
  simp only [e]
  rw [Finset.sum_ite_eq' Finset.univ, if_pos (Finset.mem_univ _), row_val (L m c r) ⟨token m c r, hT⟩]

end Cert.KernelIdeal.Head

end
-- ==== Proof.Reference.lean ====
/- The reference's three results over the extended reals, as functions of the arguments. -/
module

public import proofs.«01_k».proof.Proof.Gen.ReferenceIdeal.Run
public import proofs.«01_k».proof.Proof.Gen.ReferenceIdeal.Read
public import proofs.«01_k».proof.Proof.Logit
public import Idealize.ShloMosaic.Lib.Pointwise
public import Idealize.ShloMosaic.Lib.KernelVsHost
public import Idealize.ShloMosaic.Lib.WordCmp
public import Idealize.ShloMosaic.Lib.Pipeline.ValueKit

@[expose] public section

set_option maxRecDepth 16384

noncomputable section

namespace Cert.ReferenceIdeal.Head

open Cert.ReferenceIdeal Cert.ReferenceIdeal.Gen Cert.ReferenceIdeal.Read
open Idealize.ShloMosaic Idealize.ShloMosaic.TcCoe Idealize.ShloMosaic.Tactic

variable (x0 : (⟨S768x3584, .bf16⟩ : BufTy).Contents (Elt Ideal)) (x1 : (⟨S768x1, .i32⟩ : BufTy).Contents (Elt Ideal))
  (x3 : (⟨S28x102400, .f32⟩ : BufTy).Contents (Elt Ideal)) (r0 : (⟨S3584x102400, .bf16⟩ : BufTy).Contents (Elt Ideal))

/-- The word of −∞ stands for the least extended real. -/
theorem ofBits_neg_inf : Ideal.ofBits .f32 0xFF800000#32 = (⊥ : EReal) := by
  show Ideal.ieee 8 23 0xFF800000#32 = (⊥ : EReal)
  simp [Ideal.ieee]

/-- The product is the logits. -/
theorem v7_apply (r : Fin 768) (n : Fin 102400) : (val_main_v7 x0 x3 r0 (ix2 r n) : EReal) = logit x0 r0 x3 r n := by
  unfold logit val_main_v7 val_main_v6 val_main_v5 val_main_v4 val_main_v3 val_main_v2 val_main_v1
  pointwise

/-- The row maximum. -/
theorem v8_apply (r : Fin 768) : (val_main_v8 x0 x3 r0 (ix1 r) : EReal) = Finset.univ.sup (logit x0 r0 x3 r) := by
  unfold val_main_v8 val_main_cst
  have e := v7_apply x0 x3 r0 r
  generalize val_main_v7 x0 x3 r0 = y at e ⊢
  pointwise
  rw [ofBits_neg_inf]
  simp only [e]
  rfl

/-- The row sum of exponentials relative to the maximum. -/
theorem v13_apply (r : Fin 768) : (val_main_v13 x0 x3 r0 (ix1 r) : EReal) = ∑ n : Fin 102400, Ideal.exp (logit x0 r0 x3 r n - Finset.univ.sup (logit x0 r0 x3 r)) := by
  unfold val_main_v13 val_main_cst_0 val_main_v12 val_main_v11 val_main_v10 val_main_v9
  have e := v7_apply x0 x3 r0 r
  have e' := v8_apply x0 x3 r0 r
  generalize val_main_v7 x0 x3 r0 = y at e ⊢
  generalize val_main_v8 x0 x3 r0 = z at e' ⊢
  pointwise
  simp only [e, e']

/-- The column of log-sum-exps less the constant. -/
theorem v19_apply (r : Fin 768) : (val_main_v19 x0 x3 r0 (ix2 r (0 : Fin 1)) : EReal)
    = Finset.univ.sup (logit x0 r0 x3 r) + Ideal.log (∑ n : Fin 102400, Ideal.exp (logit x0 r0 x3 r n - Finset.univ.sup (logit x0 r0 x3 r))) - Ideal.ofBits .f32 0x41389616#32 := by
  unfold val_main_v19 val_main_v18 val_main_cst_1 val_main_v16 val_main_v15 val_main_v14 val_main_v9
  have e := v13_apply x0 x3 r0 r
  have e' := v8_apply x0 x3 r0 r
  generalize val_main_v13 x0 x3 r0 = y at e ⊢
  generalize val_main_v8 x0 x3 r0 = z at e' ⊢
  pointwise
  simp only [e, e']
  rw [add_comm (Ideal.log _)]

/-- The logits by beam, step and column. -/
theorem v22_apply (b : Fin 192) (a : Fin 4) (n : Fin 102400) :
    (val_main_v22 x0 x3 r0 (ix3 b a n) : EReal) = logit x0 r0 x3 (⟨a.val * 192 + b.val, by omega⟩ : Fin 768) n := by
  rw [← v7_apply]
  unfold val_main_v22 val_main_v21 val_main_v20
  generalize val_main_v7 x0 x3 r0 = y
  pointwise

/-! ## The token's logit -/

/-- The gather's start index for a row: the row, and nothing on the two unit axes. -/
theorem takeIdx_eq (r : Fin 768) : ValueIdx.takeIdx (ix2 r (0 : Fin 1)) = (ix3 r (0 : Fin 1) (0 : Fin 1) : S768x1x1.Idx) := by
  funext b; apply Fin.ext
  match b with
  | ⟨0, _⟩ => rfl
  | ⟨1, _⟩ => rfl
  | ⟨2, _⟩ => rfl

/-- A gather along the columns, one column index per row, reads the row's element at that index, taken as a signed number and
    clamped into the row. -/
theorem gather_columns (x : S768x102400.Idx → EReal) (idx : IVec S768x1x1 32) (r : Fin 768) :
    Host.gather gather_S768x102400_S768x1x1_S768x1_n_1_0_0_1_2_11 x idx (ix2 r (0 : Fin 1))
      = x (ix2 r (⟨min (idx (ix3 r (0 : Fin 1) (0 : Fin 1))).toInt.toNat (102400 - 1), by omega⟩ : Fin 102400)) := by
  unfold Host.gather
  congr 1
  funext a
  refine Fin.ext ?_
  show (gather_S768x102400_S768x1x1_S768x1_n_1_0_0_1_2_11).start (ix2 r (0 : Fin 1)) idx a + (gather_S768x102400_S768x1x1_S768x1_n_1_0_0_1_2_11).batchCoord (ix2 r (0 : Fin 1)) a
      + (gather_S768x102400_S768x1x1_S768x1_n_1_0_0_1_2_11).offCoord (ix2 r (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S768x102400_S768x1x1_S768x1_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S768x102400_S768x1x1_S768x1_n_1_0_0_1_2_11).startIndexMap from List.mem_singleton.mpr rfl)]
    have hsi : (gather_S768x102400_S768x1x1_S768x1_n_1_0_0_1_2_11).siIdx (ix2 r (0 : Fin 1)) ⟨List.idxOf (1 : Fin 2) (gather_S768x102400_S768x1x1_S768x1_n_1_0_0_1_2_11).startIndexMap,
        List.idxOf_lt_length_iff.2 (List.mem_singleton.mpr rfl)⟩ = (ix3 r (0 : Fin 1) (0 : Fin 1) : S768x1x1.Idx) := by
      funext b; refine Fin.ext ?_
      match b with
      | ⟨0, _⟩ => rfl
      | ⟨1, _⟩ => rfl
      | ⟨2, _⟩ => rfl
    rw [hsi]
    rfl

/-- A token number in range, as a signed word, is its unsigned value. -/
theorem toInt_of_lt (t : BitVec 32) (h : t.toNat < 102400) : t.toInt = t.toNat := by
  rw [BitVec.toInt_eq_toNat_of_lt (by omega)]

/-- The normalised index of a token in range is the token: it is not negative. -/
theorem v5_apply (r : Fin 768) (h : BitVec.toNat (w := 32) (x1 (ix2 r (0 : Fin 1))) < 102400) :
    (val_main_call0_v5 (F := Ideal) x1 (ix3 r (0 : Fin 1) (0 : Fin 1)) : BitVec 32) = x1 (ix2 r (0 : Fin 1)) := by
  unfold val_main_call0_v5 val_main_call0_v4 val_main_call0_v3 val_main_call0_v2 val_main_call0_v1 val_main_call0_v0 val_main_call0_c val_main_call0_c_0
  pointwise
  rw [WordCmp.cmpi_slt_eq, toInt_of_lt _ h, decide_eq_false (by simp)]
  exact ValueIdx.select_zero _ _

/-- The range check of a token in range holds. -/
theorem v12_apply (r : Fin 768) (h : BitVec.toNat (w := 32) (x1 (ix2 r (0 : Fin 1))) < 102400) :
    (val_main_call0_v12 (F := Ideal) x1 (ix2 r (0 : Fin 1)) : BitVec 1) = 1#1 := by
  have e := v5_apply x1 r h
  unfold val_main_call0_v12 val_main_call0_v11 val_main_call0_v10 val_main_call0_v9 val_main_call0_v8 val_main_call0_v7 val_main_call0_v6 val_main_call0_c_1 val_main_call0_c_2 val_main_call0_c_3
  generalize val_main_call0_v5 (F := Ideal) x1 = y at e ⊢
  pointwise
  have hu : (Finset.univ : Finset (Fin 1)) = {0} := rfl
  rw [hu, Finset.fold_singleton, e, WordCmp.cmpi_sge_eq, WordCmp.cmpi_sle_eq, toInt_of_lt _ h, decide_eq_true (by simp), decide_eq_true (by simp; omega)]
  rfl

/-- The token's logit. -/
theorem v17_apply (r : Fin 768) (h : BitVec.toNat (w := 32) (x1 (ix2 r (0 : Fin 1))) < 102400) :
    (val_main_v17 x0 x1 x3 r0 (ix2 r (0 : Fin 1)) : EReal) = logit x0 r0 x3 r ⟨BitVec.toNat (w := 32) (x1 (ix2 r (0 : Fin 1))), h⟩ := by
  rw [val_main_v17_apply, v12_apply x1 r h, ValueIdx.select_one, ← v7_apply]
  unfold val_main_call0_v13
  rw [gather_columns]
  congr 2
  apply Fin.ext
  show min (BitVec.toInt (n := 32) (val_main_call0_v5 (F := Ideal) x1 (ix3 r (0 : Fin 1) (0 : Fin 1)))).toNat (102400 - 1) = _
  rw [v5_apply x1 r h]
  show min (BitVec.toInt (n := 32) (x1 (ix2 r (0 : Fin 1)))).toNat (102400 - 1) = BitVec.toNat (w := 32) (x1 (ix2 r (0 : Fin 1)))
  rw [toInt_of_lt _ h]
  omega

/-- The widened codes are the codes: widening a format changes no value here. -/
theorem reg_apply (m : (ℓ : Loc nD τ sig) → Buf (Elt Ideal) ℓ) (c : Dev nD) (k : Fin 3584) (n : Fin 102400) :
    (Value.reg_main_v0 m c (ix2 k n) : EReal) = m ((c : Thread nD τ).loc main_arg2) (ix2 k n) := by
  unfold Value.reg_main_v0
  have hG := (Gen.dats m 0 c).arrAt_eq_of_covers 1 (fun i => (m ((c : Thread nD τ).loc main_arg2) i : EReal)) (by decide +kernel) (fun t hf y => by
    blk_simp
    rw [Gen.after0_1]
    frame_out
    show iblk m c 0 t y = _
    exact congrFun (V_main_arg2 m c) (((cfg0.win 0).blk t).view.emb y))
  exact congrFun hG _

end Cert.ReferenceIdeal.Head

end
-- ==== Proof.Algebra.lean ====
/- The two programs over the extended reals end with the same three results. -/
module

public import proofs.«01_k».proof.Defs
public import proofs.«01_k».proof.Proof.Ideal.Fold
public import proofs.«01_k».proof.Proof.Reference

@[expose] public section

set_option maxRecDepth 16384

noncomputable section

namespace Cert.Algebra

open Idealize.ShloMosaic Idealize.ShloMosaic.TcCoe Idealize.ShloMosaic.Tactic Idealize.SL.Sem

/-- The shape fact of the precondition's program. -/
theorem facts : Cert.Pre_tok_in_range.Facts := ⟨by decide⟩

/-- A word that is at least zero and below the number of columns, compared as signed words, is below that number unsigned. -/
theorem lt_of_cmpi (t : BitVec 32) (h : IntOp.andi (IntOp.cmpi .sge t 0#32) (IntOp.cmpi .slt t 102400#32) = 1#1) : t.toNat < 102400 := by
  rw [WordCmp.cmpi_sge_eq, WordCmp.cmpi_slt_eq, WordCmp.andi_ofBool] at h
  have hb : (decide ((0#32).toInt ≤ t.toInt) && decide (t.toInt < (102400#32).toInt)) = true := by
    revert h; cases (decide ((0#32).toInt ≤ t.toInt) && decide (t.toInt < (102400#32).toInt)) <;> simp
  rw [Bool.and_eq_true, decide_eq_true_eq, decide_eq_true_eq] at hb
  have e0 : (0#32).toInt = 0 := rfl
  have e1 : (102400#32).toInt = 102400 := rfl
  rw [e0, e1] at hb
  have := BitVec.toInt_eq_toNat_cond t
  split at this <;> omega

section
variable [Cert.Pre_tok_in_range.Facts]
variable (m : (ℓ : Loc Cert.KernelIdeal.nD Cert.KernelIdeal.τ Cert.KernelIdeal.sig) → Buf (Elt Ideal) ℓ)

/-- The precondition bounds every row's token. -/
theorem token_lt (h : Cert.Pre_KernelIdeal_tok_in_range m) (c : Dev Cert.KernelIdeal.nD) (r : Fin 768) :
    Cert.KernelIdeal.Head.token m c r < 102400 :=
  lt_of_cmpi _ (congrFun (h c) (ix2 r (0 : Fin 1)))

variable (m' : (ℓ : Loc Cert.ReferenceIdeal.nD Cert.ReferenceIdeal.τ Cert.ReferenceIdeal.sig) → Buf (Elt Ideal) ℓ)

/-- The two memories hold the same four arguments. -/
def Agree : Prop := ∀ c : Dev Cert.KernelIdeal.nD,
    m' ((c : Thread Cert.ReferenceIdeal.nD Cert.ReferenceIdeal.τ).loc Cert.ReferenceIdeal.main_arg0) = m ((c : Thread Cert.KernelIdeal.nD Cert.KernelIdeal.τ).loc Cert.KernelIdeal.main_arg0)
    ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
    ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
    ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)

/-- With the same arguments the two programs' logits are the same. -/
theorem logit_eq (hag : Agree m m') (c : Dev Cert.KernelIdeal.nD) (r : Fin 768) :
    logit (m' ((c : Thread Cert.ReferenceIdeal.nD Cert.ReferenceIdeal.τ).loc Cert.ReferenceIdeal.main_arg0)) (Cert.ReferenceIdeal.Value.reg_main_v0 m' c)
      (m' ((c : Thread Cert.ReferenceIdeal.nD Cert.ReferenceIdeal.τ).loc Cert.ReferenceIdeal.main_arg3)) r = Cert.KernelIdeal.Head.L m c r := by
  obtain ⟨h0, -, h2, h3⟩ := hag c
  funext n
  unfold Cert.KernelIdeal.Head.L logit
  simp only [Cert.ReferenceIdeal.Head.reg_apply, h0, h2, h3]

/-- The reference's first result is the kernel's. -/
theorem logits_eq (hag : Agree m m') (c : Dev Cert.KernelIdeal.nD) :
    Cert.ReferenceIdeal.Read.val_main_v22 (F := Ideal) (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg3)) (Cert.ReferenceIdeal.Value.reg_main_v0 m' c)
      = Cert.KernelIdeal.Head.outLogits m c := by
  funext i
  obtain ⟨b, a, n, rfl⟩ : ∃ (b : Fin 192) (a : Fin 4) (n : Fin 102400), i = ix3 b a n := ⟨i 0, i 1, i 2, eq_ix3 i⟩
  exact (Cert.ReferenceIdeal.Head.v22_apply _ _ _ b a n).trans ((congrFun (logit_eq m m' hag c _) n).trans (Cert.KernelIdeal.Head.outLogits_apply m c b a n).symm)

/-- The reference's second result is the kernel's. -/
theorem lse_eq (hag : Agree m m') (c : Dev Cert.KernelIdeal.nD) :
    Cert.ReferenceIdeal.Read.val_main_v19 (F := Ideal) (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg3)) (Cert.ReferenceIdeal.Value.reg_main_v0 m' c)
      = Cert.KernelIdeal.Head.outLse m c := by
  funext i
  obtain ⟨r, rfl⟩ : ∃ r : Fin 768, i = ix2 r (0 : Fin 1) := ⟨i 0, (eq_ix2 i).trans (by congr 1; exact Subsingleton.elim (α := Fin 1) _ _)⟩
  refine (Cert.ReferenceIdeal.Head.v19_apply _ _ _ r).trans (Eq.trans ?_ (Cert.KernelIdeal.Head.outLse_apply m c r).symm)
  rw [logit_eq m m' hag c r]
  rfl

/-- The reference's third result is the kernel's. -/
theorem logp_eq (hpre : Cert.Pre_KernelIdeal_tok_in_range m) (hag : Agree m m') (c : Dev Cert.KernelIdeal.nD) :
    Cert.ReferenceIdeal.Read.val_main_v23 (F := Ideal) (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg3)) (Cert.ReferenceIdeal.Value.reg_main_v0 m' c)
      = Cert.KernelIdeal.Head.outLogp m c := by
  funext i
  obtain ⟨r, rfl⟩ : ∃ r : Fin 768, i = ix2 r (0 : Fin 1) := ⟨i 0, (eq_ix2 i).trans (by congr 1; exact Subsingleton.elim (α := Fin 1) _ _)⟩
  have hT := token_lt m hpre c r
  refine Eq.trans ?_ (Cert.KernelIdeal.Head.outLogp_apply m c r hT).symm
  rw [Cert.ReferenceIdeal.Read.val_main_v23_apply]
  rw [lse_eq m m' hag c, Cert.KernelIdeal.Head.outLse_apply m c r, (hag c).2.1, Cert.ReferenceIdeal.Head.v17_apply _ _ _ _ r hT, logit_eq m m' hag c r]
  rfl

end

/-- THE VALUE CLAIM: from memories with the same arguments, the tokens in range, both programs end with the same results. -/
theorem algebraic [Cert.Pre_tok_in_range.Facts] : Cert.algebraic_KernelIdeal_ReferenceIdeal_pre_tok_in_range := by
  intro m ρ m' ρ' hpre hag
  have hag' : Agree m m' := hag
  refine ⟨fun c => Cert.KernelIdeal.Head.outLogits m c, fun c => Cert.KernelIdeal.Head.outLse m c, fun c => Cert.KernelIdeal.Head.outLogp m c, Cert.KernelIdeal.Head.run m ρ, ?_⟩
  refine (θ_run _ _ _).mono (fun r h c => ?_) (Cert.ReferenceIdeal.Value.run m' ρ')
  obtain ⟨h22, h19, h23, ha⟩ := h c
  have e0 := Cert.ReferenceIdeal.Value.exit_main_arg0 m' c
  have e1 := Cert.ReferenceIdeal.Value.exit_main_arg1 m' c
  have e3 := Cert.ReferenceIdeal.Value.exit_main_arg3 m' c
  have ev := Cert.ReferenceIdeal.Value.exit_main_v0 m' c
  have q22 := Cert.ReferenceIdeal.Read.val_main_v22_eq (Cert.ReferenceIdeal.Value.exitV m' c)
  have q19 := Cert.ReferenceIdeal.Read.val_main_v19_eq (Cert.ReferenceIdeal.Value.exitV m' c)
  have q23 := Cert.ReferenceIdeal.Read.val_main_v23_eq (Cert.ReferenceIdeal.Value.exitV m' c)
  rw [e0, e3, ev] at q22 q19
  rw [e0, e1, e3, ev] at q23
  exact ⟨h22.trans (q22.trans (logits_eq m m' hag' c)), h19.trans (q19.trans (lse_eq m m' hag' c)), h23.trans (q23.trans (logp_eq m m' hpre hag' c)), ha⟩

end Cert.Algebra

end
-- ==== Proof.Quant.lean ====
/- The exponent of the block quantiser, for one block: the value `v` is the block's largest magnitude over 448, and the block's scale
   is the power of two above it. The kernel finds the exponent by comparing `v` with the powers of two, the reference by the
   logarithm; the two agree at every extended real. -/
module

public import Idealize.ShloMosaic.PureOps.Ideal
public import Idealize.ShloMosaic.Lib.Pointwise
public import Idealize.ShloMosaic.Lib.WordCmp

@[expose] public section

noncomputable section

namespace Cert.Quant

open Idealize.ShloMosaic

/-! ## The two exponents -/

/-- The power of two the kernel compares with, for a biased exponent: the float whose exponent field is `t`. -/
def pow (t : Fin 253) : EReal := Ideal.ofBits .f32 (IntOp.shli .vector (BitVec.ofNat 32 t.val) 23#32)

/-- The kernel's biased exponent: the largest `t` whose power is at most `v`, zero when there is none and when `v` is infinite. -/
def field (v : EReal) : BitVec 32 :=
  Finset.univ.fold IntOp.maxsi 2147483648#32 fun t : Fin 253 =>
    Scalar.select (IntOp.andi (BitVec.ofBool (decide (pow t ≤ v))) (BitVec.ofBool (decide (v < Ideal.ofBits .f32 0x7F800000#32)))) (BitVec.ofNat 32 t.val) 0#32

/-- The kernel's exponent, from the biased one. -/
def expoOf (n : BitVec 32) : BitVec 32 := Scalar.select (IntOp.ori (IntOp.cmpi .eq n 0#32) (IntOp.cmpi .eq n 255#32)) 0#32 (IntOp.subi n 126#32)

/-- The reference's exponent. -/
def expo (v : EReal) : EReal :=
  if v < Ideal.ofBits .f32 0x00800000#32 ∨ v = Ideal.ofBits .f32 0x7F800000#32 then Ideal.ofBits .f32 0x00000000#32
  else min (Ideal.ofBits .f32 0x42FC0000#32) (max (Ideal.ofBits .f32 0xC2FA0000#32)
    (Ideal.liftRound Int.floor (Ideal.div (Ideal.log v) (Ideal.log (Ideal.ofBits .f32 0x40000000#32))) + Ideal.ofBits .f32 0x3F800000#32))

/-! ## The constants -/

theorem shifted_fields : ∀ n : Fin 255, (IntOp.shli .vector (BitVec.ofNat 32 n.val) 23#32).extractLsb' 31 1 = 0#1
    ∧ (IntOp.shli .vector (BitVec.ofNat 32 n.val) 23#32).extractLsb' 23 8 = BitVec.ofNat 8 n.val ∧ (IntOp.shli .vector (BitVec.ofNat 32 n.val) 23#32).extractLsb' 0 23 = 0#23 := by
  decide +kernel

/-- The float with exponent field `n` and an empty fraction is a power of two. -/
theorem ofBits_shifted (n : ℕ) (h1 : 1 ≤ n) (h2 : n < 255) : Ideal.ofBits .f32 (IntOp.shli .vector (BitVec.ofNat 32 n) 23#32) = (((2 : ℝ) ^ ((n : ℤ) - 127) : ℝ) : EReal) := by
  obtain ⟨a, b, c⟩ := shifted_fields ⟨n, h2⟩
  show Ideal.ieee 8 23 _ = _
  simp only at a b c
  unfold Ideal.ieee
  simp only [Nat.reduceAdd, a, b, c]
  have hn : (BitVec.ofNat 8 n).toNat = n := by rw [BitVec.toNat_ofNat]; exact Nat.mod_eq_of_lt (by omega)
  rw [hn, if_neg (by omega), if_neg (by omega)]
  congr 1
  have e : ((n : ℤ) - 127) = 23 + ((n : ℤ) - (2 ^ (8 - 1) - 1) - (23 : ℕ)) := by push_cast; ring
  rw [e, zpow_add₀ (by norm_num)]
  norm_num

theorem ofBits_zero : Ideal.ofBits .f32 0x00000000#32 = (0 : EReal) := by
  unfold Ideal.ofBits
  simp [Ideal.ieee]

theorem ofBits_top : Ideal.ofBits .f32 0x7F800000#32 = (⊤ : EReal) := by
  unfold Ideal.ofBits
  simp [Ideal.ieee]

theorem ofBits_tiny : Ideal.ofBits .f32 0x00800000#32 = (((2 : ℝ) ^ (-126 : ℤ) : ℝ) : EReal) := ofBits_shifted 1 (by omega) (by omega)

theorem ofBits_one : Ideal.ofBits .f32 0x3F800000#32 = ((1 : ℝ) : EReal) := by
  have h := ofBits_shifted 127 (by omega) (by omega)
  simpa using h

theorem ofBits_two : Ideal.ofBits .f32 0x40000000#32 = ((2 : ℝ) : EReal) := by
  have h := ofBits_shifted 128 (by omega) (by omega)
  rw [show IntOp.shli .vector (BitVec.ofNat 32 128) 23#32 = 0x40000000#32 from by decide] at h
  rw [h]; norm_num

theorem ofBits_126 : Ideal.ofBits .f32 0x42FC0000#32 = ((126 : ℝ) : EReal) := by
  unfold Ideal.ofBits
  simp [Ideal.ieee]
  rw [← EReal.coe_mul]
  norm_num

theorem ofBits_neg_125 : Ideal.ofBits .f32 0xC2FA0000#32 = ((-125 : ℝ) : EReal) := by
  unfold Ideal.ofBits
  simp [Ideal.ieee]
  rw [← EReal.coe_mul]
  norm_num

/-! ## The largest of a family of words -/

theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

theorem le_fold_maxsi {ι : Type} [DecidableEq ι] (b : BitVec 32) (f : ι → BitVec 32) (s : Finset ι) :
    ∀ t ∈ s, (f t).toInt ≤ (s.fold IntOp.maxsi b f).toInt := by
  induction s using Finset.induction_on with
  | empty => simp
  | insert a s ha ih =>
    intro t ht
    rw [Finset.fold_insert ha, toInt_maxsi]
    rcases Finset.mem_insert.mp ht with rfl | h
    · exact le_max_left _ _
    · exact le_trans (ih t h) (le_max_right _ _)

theorem fold_maxsi_le {ι : Type} [DecidableEq ι] (b : BitVec 32) (f : ι → BitVec 32) (N : ℤ) (s : Finset ι) (hb : b.toInt ≤ N)
    (h : ∀ t ∈ s, (f t).toInt ≤ N) : (s.fold IntOp.maxsi b f).toInt ≤ N := by
  induction s using Finset.induction_on with
  | empty => simpa using hb
  | insert a s ha ih =>
    rw [Finset.fold_insert ha, toInt_maxsi]
    exact max_le (h a (Finset.mem_insert_self _ _)) (ih fun t ht => h t (Finset.mem_insert_of_mem ht))

/-- A word that one member attains and no member exceeds is the largest. -/
theorem fold_maxsi_eq {ι : Type} [DecidableEq ι] (b : BitVec 32) (f : ι → BitVec 32) (s : Finset ι) (n : BitVec 32) (hb : b.toInt ≤ n.toInt)
    (t : ι) (ht : t ∈ s) (hn : f t = n) (h : ∀ t ∈ s, (f t).toInt ≤ n.toInt) : s.fold IntOp.maxsi b f = n :=
  BitVec.eq_of_toInt_eq (le_antisymm (fold_maxsi_le b f _ s hb h) (hn ▸ le_fold_maxsi b f s t ht))

theorem toInt_ofNat (n : ℕ) (h : n < 256) : (BitVec.ofNat 32 n).toInt = n := by
  exact WordCmp.toInt_ofNat_of_lt (by omega)

/-! ## The exponents agree -/

theorem pow_zero : pow 0 = 0 := by
  rw [← ofBits_zero]; rfl

theorem pow_pos (t : Fin 253) (h : 1 ≤ t.val) : pow t = (((2 : ℝ) ^ ((t.val : ℤ) - 127) : ℝ) : EReal) := ofBits_shifted t.val h (by omega)

theorem select_and (p q : Prop) [Decidable p] [Decidable q] (x y : BitVec 32) :
    Scalar.select (IntOp.andi (BitVec.ofBool (decide p)) (BitVec.ofBool (decide q))) x y = if p ∧ q then x else y := by
  by_cases hp : p <;> by_cases hq : q <;> simp [hp, hq, IntOp.andi, Scalar.select]

/-- Below the smallest normal number, and at infinity, the kernel's biased exponent is zero. -/
theorem field_eq_zero (v : EReal) (h : v < Ideal.ofBits .f32 0x00800000#32 ∨ v = Ideal.ofBits .f32 0x7F800000#32) : field v = 0#32 := by
  have hz : ∀ t : Fin 253, (if pow t ≤ v ∧ v < Ideal.ofBits .f32 0x7F800000#32 then BitVec.ofNat 32 t.val else 0#32) = 0#32 := by
    intro t
    by_cases h0 : t.val = 0
    · rw [h0]; simp
    · rw [if_neg]
      rintro ⟨h1, h2⟩
      rcases h with h | h
      · rw [pow_pos t (by omega)] at h1
        rw [ofBits_tiny] at h
        have h3 := lt_of_le_of_lt h1 h
        rw [EReal.coe_lt_coe_iff] at h3
        exact absurd h3 (not_lt.mpr (zpow_le_zpow_right₀ (by norm_num) (by omega)))
      · exact absurd h2 (by rw [h]; exact lt_irrefl _)
  unfold field
  simp only [select_and]
  exact fold_maxsi_eq _ _ _ _ (by decide) 0 (Finset.mem_univ _) (hz 0) fun t _ => by rw [hz t]

/-- At a finite normal number the kernel's biased exponent is that of the number, capped at 252. -/
theorem field_eq (x : ℝ) (h : (2 : ℝ) ^ (-126 : ℤ) ≤ x) : ∃ n : ℕ, 1 ≤ n ∧ n ≤ 252 ∧ field (x : EReal) = BitVec.ofNat 32 n
    ∧ (n : ℤ) = min 252 (⌊Real.log x / Real.log 2⌋ + 127) := by
  have hx : 0 < x := lt_of_lt_of_le (by positivity) h
  have key : ∀ z : ℤ, (2 : ℝ) ^ z ≤ x ↔ z ≤ ⌊Real.log x / Real.log 2⌋ := by
    intro z
    rw [Int.le_floor, le_div_iff₀ (Real.log_pos (by norm_num)), ← Real.log_zpow, Real.log_le_log_iff (by positivity) hx]
  have hL := (key (-126)).mp h
  set L := ⌊Real.log x / Real.log 2⌋ with hLdef
  refine ⟨(min 252 (L + 127)).toNat, by omega, by omega, ?_, by omega⟩
  set n := (min 252 (L + 127)).toNat with hn
  have hv : ∀ t : Fin 253, (if pow t ≤ (x : EReal) ∧ (x : EReal) < Ideal.ofBits .f32 0x7F800000#32 then BitVec.ofNat 32 t.val else 0#32)
      = if t.val ≤ n then BitVec.ofNat 32 t.val else 0#32 := by
    intro t
    rw [ofBits_top]
    by_cases h0 : t.val = 0
    · rw [h0]; simp
    · have hiff : (pow t ≤ (x : EReal) ∧ (x : EReal) < ⊤) ↔ t.val ≤ n := by
        rw [pow_pos t (by omega), EReal.coe_le_coe_iff, key]
        constructor
        · rintro ⟨h1, -⟩; have := t.isLt; omega
        · intro h1; exact ⟨by omega, EReal.coe_lt_top _⟩
      simp only [hiff]
  unfold field
  simp only [select_and]
  refine fold_maxsi_eq _ _ _ _ ?_ ⟨n, by omega⟩ (Finset.mem_univ _) ?_ ?_
  · rw [toInt_ofNat n (by omega)]
    have : (2147483648#32).toInt < 0 := by decide
    omega
  · rw [hv]; exact if_pos le_rfl
  · intro t _
    rw [hv]
    split
    · rw [toInt_ofNat _ (by omega), toInt_ofNat _ (by omega)]; omega
    · rw [toInt_ofNat n (by omega)]
      have : (0#32).toInt = 0 := by decide
      omega

/-- The biased exponent of the kernel and the exponent of the reference, by the same number. -/
theorem field_expo (v : EReal) : ∃ n : ℕ, n ≤ 252 ∧ field v = BitVec.ofNat 32 n ∧ expo v = (((if n = 0 then 0 else (n : ℤ) - 126 : ℤ) : ℝ) : EReal) := by
  by_cases h : v < Ideal.ofBits .f32 0x00800000#32 ∨ v = Ideal.ofBits .f32 0x7F800000#32
  · refine ⟨0, by omega, field_eq_zero v h, ?_⟩
    unfold expo
    rw [if_pos h, ofBits_zero]
    simp
  · have hh := h
    rw [not_or, not_lt, ofBits_tiny, ofBits_top] at h
    obtain ⟨h1, h2⟩ := h
    induction v using EReal.rec with
    | bot => exact absurd h1 (by simp)
    | top => exact absurd rfl h2
    | coe x =>
      rw [EReal.coe_le_coe_iff] at h1
      have hx : 0 < x := lt_of_lt_of_le (by positivity) h1
      obtain ⟨n, hn1, hn2, hf, hn⟩ := field_eq x h1
      refine ⟨n, hn2, hf, ?_⟩
      unfold expo
      rw [if_neg hh, ofBits_two, ofBits_126, ofBits_neg_125, ofBits_one, if_neg (by omega)]
      have hlog : ∀ y : ℝ, 0 < y → Ideal.log (y : EReal) = (Real.log y : EReal) := by
        intro y hy
        show (if y ≤ 0 then (⊥ : EReal) else (Real.log y : EReal)) = _
        exact if_neg (not_le.mpr hy)
      rw [hlog x hx, hlog 2 (by norm_num)]
      have hd : Ideal.div (Real.log x : EReal) (Real.log 2 : EReal) = ((Real.log x / Real.log 2 : ℝ) : EReal) := by
        unfold Ideal.div
        have : Real.log 2 ≠ 0 := (Real.log_pos (by norm_num)).ne'
        rw [if_neg (by rw [← EReal.coe_zero, EReal.coe_eq_coe_iff]; exact this), ← EReal.coe_inv, ← EReal.coe_mul,
          div_eq_mul_inv]
      rw [hd]
      show min ((126 : ℝ) : EReal) (max ((-125 : ℝ) : EReal) (((⌊Real.log x / Real.log 2⌋ : ℝ) : EReal) + ((1 : ℝ) : EReal))) = _
      rw [← EReal.coe_add, ← EReal.coe_strictMono.monotone.map_max, ← EReal.coe_strictMono.monotone.map_min, hn]
      congr 1
      have e : ((min 252 (⌊Real.log x / Real.log 2⌋ + 127) - 126 : ℤ)) = min 126 (max (-125) (⌊Real.log x / Real.log 2⌋ + 1)) := by omega
      rw [e]
      push_cast
      rfl

theorem words : ∀ n : Fin 253, IntOp.addi (expoOf (BitVec.ofNat 32 n.val)) 127#32 = BitVec.ofNat 32 (if n.val = 0 then 127 else n.val + 1)
    ∧ IntOp.subi 127#32 (expoOf (BitVec.ofNat 32 n.val)) = BitVec.ofNat 32 (if n.val = 0 then 127 else 253 - n.val) := by
  decide +kernel

theorem exp2_intCast (z : ℤ) : Ideal.exp2 ((z : ℝ) : EReal) = (((2 : ℝ) ^ z : ℝ) : EReal) := by
  show ((Real.rpow 2 (z : ℝ) : ℝ) : EReal) = _
  rw [Real.rpow_eq_pow, Real.rpow_intCast]

/-- The scale: the kernel's power of two, from the word of its exponent, is the reference's. -/
theorem scale_eq (v : EReal) : Ideal.ofBits .f32 (IntOp.shli .vector (IntOp.addi (expoOf (field v)) 127#32) 23#32) = Ideal.exp2 (expo v) := by
  obtain ⟨n, hn, hf, he⟩ := field_expo v
  rw [hf, he, exp2_intCast, (words ⟨n, by omega⟩).1]
  by_cases h0 : n = 0
  · subst h0
    rw [if_pos rfl, if_pos rfl, ofBits_shifted 127 (by omega) (by omega)]
    rfl
  · rw [if_neg h0, if_neg h0, ofBits_shifted _ (by omega) (by omega)]
    congr 2
    push_cast; ring

/-- The factor a block is multiplied with: the inverse of the scale, by the negated exponent. -/
theorem inv_eq (v : EReal) : Ideal.ofBits .f32 (IntOp.shli .vector (IntOp.subi 127#32 (expoOf (field v))) 23#32) = Ideal.exp2 (Ideal.ofBits .f32 0x00000000#32 - expo v) := by
  obtain ⟨n, hn, hf, he⟩ := field_expo v
  rw [hf, he, ofBits_zero, zero_sub, ← EReal.coe_neg, ← Int.cast_neg, exp2_intCast, (words ⟨n, by omega⟩).2]
  by_cases h0 : n = 0
  · subst h0
    rw [if_pos rfl, if_pos rfl, ofBits_shifted 127 (by omega) (by omega)]
    rfl
  · rw [if_neg h0, if_neg h0, ofBits_shifted _ (by omega) (by omega)]
    congr 2
    push_cast [Nat.cast_sub (show n ≤ 253 by omega)]; ring

/-! ## One block -/

/-- A block's largest magnitude over 448. -/
def level (w : Fin 128 → EReal) : EReal :=
  Finset.univ.fold max (Ideal.ofBits .f32 0xFF800000#32) (fun k => (FloatOps.absf (F := Ideal) (φ := .f32) (w k) : Ideal .f32)) * Ideal.ofBits .f32 0x3B124925#32

/-- A block's scale. -/
def scale (w : Fin 128 → EReal) : EReal := Ideal.exp2 (expo (level w))

/-- A block's code: the value times the inverse scale, clipped at 448. -/
def code (w : Fin 128 → EReal) (k : Fin 128) : EReal :=
  min (Ideal.ofBits .f32 0x43E00000#32) (max (Ideal.ofBits .f32 0xC3E00000#32) (w k * Ideal.exp2 (Ideal.ofBits .f32 0x00000000#32 - expo (level w))))

/-- A block's widened value: the code times the scale. -/
def wide (w : Fin 128 → EReal) (k : Fin 128) : EReal := code w k * scale w

end Cert.Quant

end
-- ==== Proof.Mlp.lean ====
/- What a layer of the decoder's perceptron computes, as functions of the arguments: the layer's value before the quantiser, and
   the codes, the scales and the widened values of its blocks of 128 columns. -/
module

public import proofs.«01_k».proof.Proof.Quant

@[expose] public section

noncomputable section

namespace Cert.Mlp

open Idealize.ShloMosaic

/-- A value times its logistic. -/
def silu (z : EReal) : EReal := z * Ideal.logistic z

/-- A row of activations times a column of weights, each weight a code times the scale of its block of 128 rows. -/
def dot {N : ℕ} (a : (⟨2, ![N, 3584]⟩ : Shape).Idx → EReal) (w : (⟨2, ![3584, 3584]⟩ : Shape).Idx → EReal) (s : (⟨2, ![28, 3584]⟩ : Shape).Idx → EReal)
    (r : Fin N) (n : Fin 3584) : EReal :=
  ∑ k : Fin 3584, a (ix2 r k) * (w (ix2 k n) * s (ix2 (⟨k.val / 128, by omega⟩ : Fin 28) n))

/-- The first layer before the quantiser; the rows are in the order step, batch, beam, and one row of `p` serves a batch element's rows. -/
def first (a : (⟨2, ![768, 3584]⟩ : Shape).Idx → EReal) (p : (⟨2, ![24, 3584]⟩ : Shape).Idx → EReal) (c : (⟨1, ![3584]⟩ : Shape).Idx → EReal)
    (w : (⟨2, ![3584, 3584]⟩ : Shape).Idx → EReal) (s : (⟨2, ![28, 3584]⟩ : Shape).Idx → EReal) (r : Fin 768) (n : Fin 3584) : EReal :=
  silu (p (ix2 (⟨r.val / 8 % 24, by omega⟩ : Fin 24) n) + dot a w s r n + c (ix1 n))

/-- The second layer before the quantiser. -/
def second (a : (⟨2, ![768, 3584]⟩ : Shape).Idx → EReal) (h : (⟨2, ![768, 3584]⟩ : Shape).Idx → EReal) (c : (⟨1, ![3584]⟩ : Shape).Idx → EReal)
    (w : (⟨2, ![3584, 3584]⟩ : Shape).Idx → EReal) (s : (⟨2, ![28, 3584]⟩ : Shape).Idx → EReal) (r : Fin 768) (n : Fin 3584) : EReal :=
  h (ix2 r n) + silu (dot a w s r n + c (ix1 n))

/-- A layer's values by index. -/
def whole {N : ℕ} (f : Fin N → Fin 3584 → EReal) (i : (⟨2, ![N, 3584]⟩ : Shape).Idx) : EReal := f (i 0) (i 1)

/-- One row's block of 128 columns. -/
def block {N : ℕ} (f : Fin N → Fin 3584 → EReal) (r : Fin N) (b : Fin 28) (k : Fin 128) : EReal := f r ⟨b.val * 128 + k.val, by omega⟩

/-- The codes of a layer. -/
def codes {N : ℕ} (f : Fin N → Fin 3584 → EReal) (i : (⟨2, ![N, 3584]⟩ : Shape).Idx) : EReal :=
  Quant.code (block f (i 0) ⟨(i 1).val / 128, Nat.div_lt_of_lt_mul (i 1).isLt⟩) ⟨(i 1).val % 128, Nat.mod_lt _ (by omega)⟩

/-- The widened values of a layer. -/
def wide {N : ℕ} (f : Fin N → Fin 3584 → EReal) (i : (⟨2, ![N, 3584]⟩ : Shape).Idx) : EReal :=
  Quant.wide (block f (i 0) ⟨(i 1).val / 128, Nat.div_lt_of_lt_mul (i 1).isLt⟩) ⟨(i 1).val % 128, Nat.mod_lt _ (by omega)⟩

/-- The scales of a layer. -/
def scales {N : ℕ} (f : Fin N → Fin 3584 → EReal) (i : (⟨2, ![N, 28]⟩ : Shape).Idx) : EReal := Quant.scale (block f (i 0) (i 1))

end Cert.Mlp

end
-- ==== Proof.QuantTile.lean ====
/- The block quantiser as the kernel's body computes it: for a tile of rows and one block of 128 columns, the scales, the codes
   and the widened values, read at an index. -/
module

public import proofs.«01_k».proof.Proof.Mlp
public import Idealize.ShloMosaic.Lib.Pointwise
public import Idealize.ShloMosaic.Lib.Affine
public import Idealize.ShloMosaic.Lib.Pipeline.ValueKit

@[expose] public section

set_option maxRecDepth 16384

noncomputable section

namespace Cert.QuantTile

open Idealize.ShloMosaic Idealize.ShloMosaic.TcCoe Idealize.ShloMosaic.Tactic

/-- Rows of `k` columns. -/
abbrev Rows (N k : ℕ) : Shape := ⟨2, ![N, k]⟩
/-- One number of each row. -/
abbrev Col (N : ℕ) : Shape := ⟨1, ![N]⟩

/-! The shapes' facts. -/

theorem reduces (N k : ℕ) : (Rows N k).Reduces [1] (Col N) := ⟨rfl, Nat.one_pos, fun b => match b with | ⟨0, _⟩ => rfl⟩
theorem casts_col (N : ℕ) : (Col N).ShapeCasts (Rows N 1) := by simp [Shape.ShapeCasts, Shape.numel, Fin.prod_univ_succ]
theorem casts_same (N : ℕ) : (Rows N 1).ShapeCasts (Rows N 1) := rfl
theorem iotas (N k : ℕ) : (Rows N k).Iotas .tc 32 [1] := ⟨List.nodup_singleton _, fun _ => ⟨.inr rfl, le_refl 2⟩, fun h => absurd rfl h⟩
theorem spreads (N k : ℕ) : (Rows N 1).Broadcasts (Rows N k) :=
  ⟨le_refl 2, fun a => match a with | ⟨0, _⟩ => .inr fun _ => rfl | ⟨1, _⟩ => .inl rfl⟩
theorem bitsLt_fp8e4m3_f32 : FTy.bits .fp8e4m3 < FTy.bits .f32 := by decide
theorem bitsLt_fp8e4m3_bf16 : FTy.bits .fp8e4m3 < FTy.bits .bf16 := by decide
theorem bitsLt_bf16_f32 : FTy.bits .bf16 < FTy.bits .f32 := by decide

/-! ## The body's terms -/

variable {N : ℕ} (u : FVec Ideal (Rows N 128) .f32)

/-- A row's largest magnitude over 448. -/
def levelV : FVec Ideal (Rows N 1) .f32 :=
  mulf (shapeCast (Rows N 1) (multiReduction .maximumf [1] (Col N) (absf u) 0xFF800000#32 (reduces N 128) (.inl rfl) rfl) (casts_col N))
    (broadcast (Rows N 1) (Scalar.ofBits .f32 0x3B124925#32))

/-- A row's biased exponent, by comparing with the powers of two. -/
def fieldV : IVec (Rows N 1) 32 :=
  shapeCast (Rows N 1) (multiReductionI .maxsi [1] (Col N)
    (select (andi (cmpf .oge (broadcastTo (Rows N 253) (levelV u) (spreads N 253))
        (bitcastToFloat .f32 (shli (iota .tc (Rows N 253) 32 [1] (iotas N 253)) (broadcast (Rows N 253) 23#32))))
      (broadcastTo (Rows N 253) (cmpf .olt (levelV u) (broadcast (Rows N 1) (Scalar.ofBits .f32 0x7F800000#32))) (spreads N 253)))
      (iota .tc (Rows N 253) 32 [1] (iotas N 253)) (broadcast (Rows N 253) 0#32))
    2147483648#32 (reduces N 253) rfl) (casts_col N)

/-- A row's exponent. -/
def expoV : IVec (Rows N 1) 32 :=
  select (ori (cmpi .eq (fieldV u) (broadcast (Rows N 1) 0#32)) (cmpi .eq (fieldV u) (broadcast (Rows N 1) 255#32)))
    (broadcast (Rows N 1) 0#32) (subi (fieldV u) (broadcast (Rows N 1) 126#32))

/-- A row's scale. -/
def scaleV : FVec Ideal (Rows N 1) .f32 :=
  bitcastToFloat .f32 (shli (addi (expoV u) (broadcast (Rows N 1) 127#32)) (broadcast (Rows N 1) 23#32))

/-- The codes. -/
def codesV : FVec Ideal (Rows N 128) .fp8e4m3 :=
  truncf .fp8e4m3 (minimumf (broadcast (Rows N 128) (Scalar.ofBits .f32 0x43E00000#32)) (maximumf (broadcast (Rows N 128) (Scalar.ofBits .f32 0xC3E00000#32))
    (mulf u (broadcastTo (Rows N 128) (bitcastToFloat .f32 (shli (subi (broadcast (Rows N 1) 127#32) (expoV u)) (broadcast (Rows N 1) 23#32))) (spreads N 128)))))
    bitsLt_fp8e4m3_f32

/-- The widened values. -/
def wideV : FVec Ideal (Rows N 128) .bf16 :=
  mulf (extf .bf16 (codesV u) bitsLt_fp8e4m3_bf16) (broadcastTo (Rows N 128) (truncf .bf16 (scaleV u) bitsLt_bf16_f32) (spreads N 128))

/-- One column of the array of scales replaced by the scales of a block. -/
def putV (col : BitVec 32) (old : FVec Ideal (Rows N 28) .f32) : FVec Ideal (Rows N 28) .f32 :=
  select (cmpi .eq (iota .tc (Rows N 28) 32 [1] (iotas N 28)) (broadcast (Rows N 28) col))
    (broadcastTo (Rows N 28) (shapeCast (Rows N 1) (scaleV u) (casts_same N)) (spreads N 28)) old

/-! ## Their readings -/

/-- A column spread over a row's places reads that row. -/
theorem spread_apply {α : Type} {k : ℕ} (v : (Rows N 1).Idx → α) (r : Fin N) (c : Fin k) :
    broadcastTo (Rows N k) v (spreads N k) (ix2 r c) = v (ix2 r (0 : Fin 1)) := by
  refine broadcastTo_apply v (spreads N k) _ _ fun a => ?_
  match a with
  | ⟨0, _⟩ =>
    show r.val = if N = 1 then 0 else r.val
    have := r.isLt
    split <;> omega
  | ⟨1, _⟩ => rfl

/-- A row's number as a column of one place. -/
theorem col_apply {α : Type} (v : (Col N).Idx → α) (r : Fin N) : shapeCast (Rows N 1) v (casts_col N) (ix2 r (0 : Fin 1)) = v (ix1 r) := by
  refine shapeCast_apply v (casts_col N) _ _ ?_
  rw [Shape.rowMajor_val_two, Shape.rowMajor_val_one]
  show r.val = r.val * 1 + 0
  omega

/-- The index a reduction over a row's places puts back. -/
theorem lift_eq {k : ℕ} (r : Fin N) (c : Fin k) : (reduces N k).lift (ix1 r) c = ix2 r c := by
  funext a
  match a with
  | ⟨0, _⟩ => rfl
  | ⟨1, _⟩ => rfl

/-- The largest magnitude of a row. -/
theorem max_apply (r : Fin N) : (multiReduction .maximumf [1] (Col N) (absf u) 0xFF800000#32 (reduces N 128) (.inl rfl) rfl (ix1 r) : EReal)
    = Finset.univ.fold max (Ideal.ofBits .f32 0xFF800000#32) (fun k : Fin 128 => (FloatOps.absf (F := Ideal) (φ := .f32) (u (ix2 r k)) : Ideal .f32)) := by
  refine (Ideal.multiReduction_maximumf_single _ _ (reduces N 128) _ _ (ix1 r)).trans ?_
  refine Finset.fold_congr fun k _ => ?_
  exact congrArg (fun i => (FloatOps.absf (F := Ideal) (φ := .f32) (u i) : Ideal .f32)) (lift_eq r k)

/-- The largest word of a row. -/
theorem maxI_apply (v : IVec (Rows N 253) 32) (r : Fin N) : multiReductionI .maxsi [1] (Col N) v 2147483648#32 (reduces N 253) rfl (ix1 r)
    = Finset.univ.fold IntOp.maxsi 2147483648#32 (fun k : Fin 253 => v (ix2 r k)) := by
  refine (multiReductionI_eq_fold .maxsi v _ (reduces N 253) rfl (ix1 r)).trans ?_
  refine ((reduces N 253).fold_filter_drop_single IntOp.maxsi 2147483648#32 v (ix1 r)).trans ?_
  refine Finset.fold_congr fun k _ => ?_
  exact congrArg v (lift_eq r k)

theorem levelV_apply (r : Fin N) : (levelV u (ix2 r (0 : Fin 1)) : EReal) = Quant.level fun k => u (ix2 r k) := by
  unfold levelV
  have e := col_apply (multiReduction .maximumf [1] (Col N) (absf u) 0xFF800000#32 (reduces N 128) (.inl rfl) rfl) r
  generalize shapeCast (Rows N 1) _ (casts_col N) = z at e ⊢
  show (z (ix2 r (0 : Fin 1)) : EReal) * Ideal.ofBits .f32 0x3B124925#32 = _
  rw [e, max_apply]
  rfl

/-- The comparison of a column of numbers with the powers of two, at one place. -/
theorem compare_apply (y : FVec Ideal (Rows N 1) .f32) (r : Fin N) (t : Fin 253) :
    (select (andi (cmpf .oge (broadcastTo (Rows N 253) y (spreads N 253))
        (bitcastToFloat .f32 (shli (iota .tc (Rows N 253) 32 [1] (iotas N 253)) (broadcast (Rows N 253) 23#32))))
      (broadcastTo (Rows N 253) (cmpf .olt y (broadcast (Rows N 1) (Scalar.ofBits .f32 0x7F800000#32))) (spreads N 253)))
      (iota .tc (Rows N 253) 32 [1] (iotas N 253)) (broadcast (Rows N 253) 0#32)) (ix2 r t)
    = Scalar.select (IntOp.andi (BitVec.ofBool (decide (Quant.pow t ≤ y (ix2 r (0 : Fin 1))))) (BitVec.ofBool (decide ((y (ix2 r (0 : Fin 1)) : EReal) < Ideal.ofBits .f32 0x7F800000#32))))
        (BitVec.ofNat 32 t.val) 0#32 := by
  have e := spread_apply (k := 253) y r t
  have e' := spread_apply (k := 253) (cmpf .olt y (broadcast (Rows N 1) (Scalar.ofBits (F := Ideal) .f32 0x7F800000#32))) r t
  generalize broadcastTo (Rows N 253) y (spreads N 253) = A at e ⊢
  generalize broadcastTo (Rows N 253) (cmpf .olt y (broadcast (Rows N 1) (Scalar.ofBits (F := Ideal) .f32 0x7F800000#32))) (spreads N 253) = B at e' ⊢
  unfold Quant.pow
  replace e' : B (ix2 r t) = BitVec.ofBool (decide ((y (ix2 r (0 : Fin 1)) : EReal) < Ideal.ofBits .f32 0x7F800000#32)) := e'
  rw [← e', ← e]
  pointwise

theorem fieldV_apply (r : Fin N) : fieldV u (ix2 r (0 : Fin 1)) = Quant.field (Quant.level fun k => u (ix2 r k)) := by
  unfold fieldV
  have e := levelV_apply u r
  generalize levelV u = y at e ⊢
  refine (col_apply _ r).trans ?_
  refine (maxI_apply _ r).trans ?_
  rw [← e]
  unfold Quant.field
  exact Finset.fold_congr fun t _ => compare_apply y r t

theorem expoV_apply (r : Fin N) : expoV u (ix2 r (0 : Fin 1)) = Quant.expoOf (Quant.field (Quant.level fun k => u (ix2 r k))) := by
  unfold expoV
  have e := fieldV_apply u r
  generalize fieldV u = y at e ⊢
  rw [← e]
  rfl

theorem scaleV_apply (r : Fin N) : (scaleV u (ix2 r (0 : Fin 1)) : EReal) = Quant.scale fun k => u (ix2 r k) := by
  unfold scaleV
  have e := expoV_apply u r
  generalize expoV u = y at e ⊢
  refine Eq.trans ?_ (Quant.scale_eq _)
  rw [← e]
  rfl

theorem codesV_apply (r : Fin N) (k : Fin 128) : (codesV u (ix2 r k) : EReal) = Quant.code (fun k => u (ix2 r k)) k := by
  unfold codesV
  have e := expoV_apply u r
  generalize expoV u = y at e ⊢
  have e' := spread_apply (k := 128) (bitcastToFloat (F := Ideal) .f32 (shli (subi (broadcast (Rows N 1) 127#32) y) (broadcast (Rows N 1) 23#32))) r k
  generalize broadcastTo (Rows N 128) _ (spreads N 128) = B at e' ⊢
  have e2 : (B (ix2 r k) : EReal) = Ideal.ofBits .f32 (IntOp.shli .vector (IntOp.subi 127#32 (y (ix2 r (0 : Fin 1)))) 23#32) := e'
  rw [e, Quant.inv_eq] at e2
  show min (Ideal.ofBits .f32 0x43E00000#32) (max (Ideal.ofBits .f32 0xC3E00000#32) ((u (ix2 r k) : EReal) * B (ix2 r k))) = _
  rw [e2]
  rfl

theorem wideV_apply (r : Fin N) (k : Fin 128) : (wideV u (ix2 r k) : EReal) = Quant.wide (fun k => u (ix2 r k)) k := by
  unfold wideV Quant.wide
  rw [← codesV_apply, ← scaleV_apply]
  generalize scaleV u = y
  generalize codesV u = z
  have e := spread_apply (k := 128) (truncf (F := Ideal) .bf16 y bitsLt_bf16_f32) r k
  show z (ix2 r k) * broadcastTo (Rows N 128) _ (spreads N 128) (ix2 r k) = _
  rw [e]
  rfl

theorem putV_apply (col : BitVec 32) (old : FVec Ideal (Rows N 28) .f32) (r : Fin N) (b : Fin 28) :
    (putV u col old (ix2 r b) : EReal) = if BitVec.ofNat 32 b.val = col then Quant.scale (fun k => u (ix2 r k)) else old (ix2 r b) := by
  unfold putV
  rw [← scaleV_apply, shapeCast_self]
  generalize scaleV u = y
  have e := spread_apply (k := 28) y r b
  generalize broadcastTo (Rows N 28) y (spreads N 28) = B at e ⊢
  rw [← e]
  pointwise
  by_cases h : BitVec.ofNat 32 b.val = col
  · rw [if_pos h, h]; simp [Scalar.select, IntOp.cmpi]
  · rw [if_neg h]; simp [Scalar.select, IntOp.cmpi, beq_eq_false_iff_ne.mpr h]

/-- The words of the four columns of a grid point. -/
theorem col_eq : ∀ (i : Fin 7) (q : Fin 4) (b : Fin 28),
    (BitVec.ofNat 32 b.val = Scalar.addi (Scalar.muli (BitVec.ofNat 32 i.val) 4#32) (BitVec.ofNat 32 q.val)) ↔ b.val = i.val * 4 + q.val := by
  decide +kernel

/-! ## Four blocks of 128 columns make a tile of 512 -/

abbrev S768x128 : Shape := ⟨2, ![768, 128]⟩
abbrev S768x28 : Shape := ⟨2, ![768, 28]⟩
abbrev S768x512 : Shape := ⟨2, ![768, 512]⟩

theorem inb_0 : ∀ a, (![0, 0] : Fin 2 → Nat) a + (![768, 128] : Fin 2 → Nat) a ≤ S768x512.size a := by decide
theorem inb_1 : ∀ a, (![0, 128] : Fin 2 → Nat) a + (![768, 128] : Fin 2 → Nat) a ≤ S768x512.size a := by decide
theorem inb_2 : ∀ a, (![0, 256] : Fin 2 → Nat) a + (![768, 128] : Fin 2 → Nat) a ≤ S768x512.size a := by decide
theorem inb_3 : ∀ a, (![0, 384] : Fin 2 → Nat) a + (![768, 128] : Fin 2 → Nat) a ≤ S768x512.size a := by decide
theorem slices_0 : S768x512.Slices ![0, 0] S768x128 := by decide
theorem slices_1 : S768x512.Slices ![0, 128] S768x128 := by decide
theorem slices_2 : S768x512.Slices ![0, 256] S768x128 := by decide
theorem slices_3 : S768x512.Slices ![0, 384] S768x128 := by decide

/-- The four blocks of a tile. -/
def part (V : FVec Ideal S768x512 .f32) : Fin 4 → FVec Ideal S768x128 .f32
  | 0 => extractStridedSlice S768x128 ![0, 0] V slices_0
  | 1 => extractStridedSlice S768x128 ![0, 128] V slices_1
  | 2 => extractStridedSlice S768x128 ![0, 256] V slices_2
  | 3 => extractStridedSlice S768x128 ![0, 384] V slices_3

theorem part_apply (V : FVec Ideal S768x512 .f32) (q : Fin 4) (r : Fin 768) (k : Fin 128) :
    (part V q (ix2 r k) : EReal) = V (ix2 r (⟨q.val * 128 + k.val, by omega⟩ : Fin 512)) := by
  match q with
  | 0 => unfold part; pointwise
  | 1 => unfold part; pointwise
  | 2 => unfold part; pointwise
  | 3 => unfold part; pointwise

/-- The pieces of a tile stored block by block. -/
def pieces {e : EltTy} (p : Fin 4 → Vec Ideal S768x128 e) : List (View.Piece (Elt Ideal) S768x512 e) :=
  [⟨Rect.unit ![0, 384] ![768, 128] inb_3, p 3⟩, ⟨Rect.unit ![0, 256] ![768, 128] inb_2, p 2⟩,
    ⟨Rect.unit ![0, 128] ![768, 128] inb_1, p 1⟩, ⟨Rect.unit ![0, 0] ![768, 128] inb_0, p 0⟩]

/-- A tile stored block by block is, at an index, its block there. -/
theorem canon_pieces {e : EltTy} (p : Fin 4 → Vec Ideal S768x128 e) (G : S768x512.Idx → Elt Ideal e)
    (h : ∀ (q : Fin 4) (r : Fin 768) (k : Fin 128), p q (ix2 r k) = G (ix2 r (⟨q.val * 128 + k.val, by omega⟩ : Fin 512))) :
    View.canon (pieces p) = G := by
  have key : ∀ (q : Fin 4) (z : Fin 2 → ℕ) (hz : z 0 = 0 ∧ z 1 = q.val * 128) (inb : ∀ a, z a + (![768, 128] : Fin 2 → Nat) a ≤ S768x512.size a)
      (x : (Rect.unit (s := S768x512) z ![768, 128] inb).shape.Idx), p q x = G ((Rect.unit (s := S768x512) z ![768, 128] inb).emb x) := by
    intro q z hz inb x
    have e := h q (x 0) (x 1)
    have e1 : (ix2 (x 0) (x 1) : S768x128.Idx) = x := (eq_ix2 x).symm
    rw [e1] at e
    rw [e]
    congr 1
    funext a; apply Fin.ext
    match a with
    | ⟨0, _⟩ => show (x 0).val = z 0 + 1 * (x 0).val; omega
    | ⟨1, _⟩ => show q.val * 128 + (x 1).val = z 1 + 1 * (x 1).val; omega
  have mem : ∀ (q : Fin 4) (z : Fin 2 → ℕ) (hz : z 0 = 0 ∧ z 1 = q.val * 128) (inb : ∀ a, z a + (![768, 128] : Fin 2 → Nat) a ≤ S768x512.size a)
      (y : S768x512.Idx) (hy : (y 1).val / 128 = q.val), y ∈ (Rect.unit (s := S768x512) z ![768, 128] inb).set := by
    intro q z hz inb y hy
    rw [Rect.mem_set_unit]
    have h0 : (y 0).val < 768 := (y 0).isLt
    have h1 : (y 1).val < 512 := (y 1).isLt
    intro a
    match a with
    | ⟨0, _⟩ => show z 0 ≤ (y 0).val ∧ (y 0).val < z 0 + 768; omega
    | ⟨1, _⟩ => show z 1 ≤ (y 1).val ∧ (y 1).val < z 1 + 128; omega
  funext y
  refine View.canon_apply_of_pieces G _ ?_ y ?_
  · intro w hw x
    unfold pieces at hw
    simp only [List.mem_cons, List.not_mem_nil, or_false] at hw
    rcases hw with rfl | rfl | rfl | rfl
    · exact key 3 ![0, 384] ⟨rfl, rfl⟩ inb_3 x
    · exact key 2 ![0, 256] ⟨rfl, rfl⟩ inb_2 x
    · exact key 1 ![0, 128] ⟨rfl, rfl⟩ inb_1 x
    · exact key 0 ![0, 0] ⟨rfl, rfl⟩ inb_0 x
  · have h1 : (y 1).val < 512 := (y 1).isLt
    rcases (by omega : (y 1).val / 128 = 0 ∨ (y 1).val / 128 = 1 ∨ (y 1).val / 128 = 2 ∨ (y 1).val / 128 = 3) with hq | hq | hq | hq
    · exact ⟨⟨Rect.unit ![0, 0] ![768, 128] inb_0, p 0⟩, List.mem_cons_of_mem _ (List.mem_cons_of_mem _ (List.mem_cons_of_mem _ List.mem_cons_self)),
        mem 0 ![0, 0] ⟨rfl, rfl⟩ inb_0 y hq⟩
    · exact ⟨⟨Rect.unit ![0, 128] ![768, 128] inb_1, p 1⟩, List.mem_cons_of_mem _ (List.mem_cons_of_mem _ List.mem_cons_self),
        mem 1 ![0, 128] ⟨rfl, rfl⟩ inb_1 y hq⟩
    · exact ⟨⟨Rect.unit ![0, 256] ![768, 128] inb_2, p 2⟩, List.mem_cons_of_mem _ List.mem_cons_self, mem 2 ![0, 256] ⟨rfl, rfl⟩ inb_2 y hq⟩
    · exact ⟨⟨Rect.unit ![0, 384] ![768, 128] inb_3, p 3⟩, List.mem_cons_self, mem 3 ![0, 384] ⟨rfl, rfl⟩ inb_3 y hq⟩

/-! ## A grid point's tile of a layer -/

/-- The tile `t` of a layer `f`: its columns from `512 t`. -/
def IsTile (f : Fin 768 → Fin 3584 → EReal) (t : Fin 7) (V : FVec Ideal S768x512 .f32) : Prop :=
  ∀ (r : Fin 768) (n : Fin 512), (V (ix2 r n) : EReal) = f r ⟨t.val * 512 + n.val, by omega⟩

variable {f : Fin 768 → Fin 3584 → EReal} {t : Fin 7} {V : FVec Ideal S768x512 .f32}

/-- Each part of a tile is a block of the layer. -/
theorem IsTile.part_eq (h : IsTile f t V) (q : Fin 4) (r : Fin 768) :
    (fun k : Fin 128 => (part V q (ix2 r k) : EReal)) = Mlp.block f r ⟨t.val * 4 + q.val, by omega⟩ := by
  funext k
  rw [part_apply, h r]
  unfold Mlp.block
  congr 1
  apply Fin.ext
  show t.val * 512 + (q.val * 128 + k.val) = (t.val * 4 + q.val) * 128 + k.val
  omega

/-- The codes of a tile, stored block by block, are the layer's. -/
theorem IsTile.codes_eq (h : IsTile f t V) (r : Fin 768) (n : Fin 512) :
    (View.canon (pieces (e := .fp8e4m3) fun q => codesV (part V q)) (ix2 r n) : EReal) = Mlp.codes f (ix2 r (⟨t.val * 512 + n.val, by omega⟩ : Fin 3584)) := by
  rw [canon_pieces (e := .fp8e4m3) (fun q => codesV (part V q)) (fun y => Mlp.codes f (ix2 (y 0) (⟨t.val * 512 + (y 1).val, by have : (y 1).val < 512 := (y 1).isLt; omega⟩ : Fin 3584)))]
  · rfl
  intro q r k
  show (codesV (part V q) (ix2 r k) : EReal) = _
  rw [codesV_apply, h.part_eq q r]
  unfold Mlp.codes
  congr 1
  · congr 1; apply Fin.ext; show t.val * 4 + q.val = (t.val * 512 + (q.val * 128 + k.val)) / 128; omega
  · apply Fin.ext; show k.val = (t.val * 512 + (q.val * 128 + k.val)) % 128; omega

/-- The widened values of a tile, stored block by block, are the layer's. -/
theorem IsTile.wide_eq (h : IsTile f t V) (r : Fin 768) (n : Fin 512) :
    (View.canon (pieces (e := .bf16) fun q => wideV (part V q)) (ix2 r n) : EReal) = Mlp.wide f (ix2 r (⟨t.val * 512 + n.val, by omega⟩ : Fin 3584)) := by
  rw [canon_pieces (e := .bf16) (fun q => wideV (part V q)) (fun y => Mlp.wide f (ix2 (y 0) (⟨t.val * 512 + (y 1).val, by have : (y 1).val < 512 := (y 1).isLt; omega⟩ : Fin 3584)))]
  · rfl
  intro q r k
  show (wideV (part V q) (ix2 r k) : EReal) = _
  rw [wideV_apply, h.part_eq q r]
  unfold Mlp.wide
  congr 1
  · congr 1; apply Fin.ext; show t.val * 4 + q.val = (t.val * 512 + (q.val * 128 + k.val)) / 128; omega
  · apply Fin.ext; show k.val = (t.val * 512 + (q.val * 128 + k.val)) % 128; omega

/-- The array of scales after a grid point: the four columns of its tile replaced. -/
def put4 (V : FVec Ideal S768x512 .f32) (i : BitVec 32) (old : FVec Ideal S768x28 .f32) : FVec Ideal S768x28 .f32 :=
  putV (part V 3) (Scalar.addi (Scalar.muli i 4#32) 3#32) (putV (part V 2) (Scalar.addi (Scalar.muli i 4#32) 2#32)
    (putV (part V 1) (Scalar.addi (Scalar.muli i 4#32) 1#32) (putV (part V 0) (Scalar.addi (Scalar.muli i 4#32) 0#32) old)))

/-- It holds the layer's scales in those four columns and what it held in the others. -/
theorem IsTile.put4_apply (h : IsTile f t V) (old : FVec Ideal S768x28 .f32) (r : Fin 768) (b : Fin 28) :
    (put4 V (BitVec.ofNat 32 t.val) old (ix2 r b) : EReal) = if b.val / 4 = t.val then Mlp.scales f (ix2 r b) else old (ix2 r b) := by
  unfold put4
  rw [putV_apply, putV_apply, putV_apply, putV_apply]
  simp only [h.part_eq]
  have c3 := col_eq t 3 b
  have c2 := col_eq t 2 b
  have c1 := col_eq t 1 b
  have c0 := col_eq t 0 b
  have key : ∀ q : Fin 4, b.val = t.val * 4 + q.val → (⟨t.val * 4 + q.val, by omega⟩ : Fin 28) = b := fun q hq => Fin.ext hq.symm
  simp only [show BitVec.ofNat 32 (3 : Fin 4).val = 3#32 from rfl, show BitVec.ofNat 32 (2 : Fin 4).val = 2#32 from rfl,
    show BitVec.ofNat 32 (1 : Fin 4).val = 1#32 from rfl, show BitVec.ofNat 32 (0 : Fin 4).val = 0#32 from rfl] at c0 c1 c2 c3
  simp only [c0, c1, c2, c3]
  unfold Mlp.scales
  by_cases h3 : b.val = t.val * 4 + (3 : Fin 4).val
  · rw [if_pos h3, key 3 h3, if_pos (by rw [h3]; show (t.val * 4 + 3) / 4 = t.val; omega)]
    rfl
  rw [if_neg h3]
  by_cases h2 : b.val = t.val * 4 + (2 : Fin 4).val
  · rw [if_pos h2, key 2 h2, if_pos (by rw [h2]; show (t.val * 4 + 2) / 4 = t.val; omega)]
    rfl
  rw [if_neg h2]
  by_cases h1 : b.val = t.val * 4 + (1 : Fin 4).val
  · rw [if_pos h1, key 1 h1, if_pos (by rw [h1]; show (t.val * 4 + 1) / 4 = t.val; omega)]
    rfl
  rw [if_neg h1]
  by_cases h0 : b.val = t.val * 4 + (0 : Fin 4).val
  · rw [if_pos h0, key 0 h0, if_pos (by rw [h0]; show (t.val * 4 + 0) / 4 = t.val; omega)]
    rfl
  rw [if_neg h0, if_neg]
  have e3 : (3 : Fin 4).val = 3 := rfl
  have e2 : (2 : Fin 4).val = 2 := rfl
  have e1 : (1 : Fin 4).val = 1 := rfl
  have e0 : (0 : Fin 4).val = 0 := rfl
  omega

end Cert.QuantTile

end
-- ==== Proof.Mlp2.Kernel.lean ====
/- The second layer's call over the extended reals: each grid point computes its tile of 512 columns, and the three arrays at the end
   are the layer's codes, scales and widened values. -/
module

public import proofs.«01_k».proof.Proof.Gen.Mlp2Ideal.Value
public import proofs.«01_k».proof.Proof.QuantTile
public import Idealize.ShloMosaic.Lib.Claim

@[expose] public section

set_option maxRecDepth 16384

noncomputable section

namespace Cert.Mlp2Ideal.Layer

open Cert.Mlp2Ideal Cert.Mlp2Ideal.Gen Cert.QuantTile
open Idealize.ShloMosaic Idealize.ShloMosaic.TcCoe Idealize.ShloMosaic.Tactic
open Idealize.SL.Sem

variable (m : (ℓ : Loc nD τ sig) → Buf (Elt Ideal) ℓ)

/-- The layer before the quantiser, of the arguments. -/
def layer (c : Dev nD) : Fin 768 → Fin 3584 → EReal :=
  Mlp.second (m ((c : Thread nD τ).loc main_arg0)) (m ((c : Thread nD τ).loc main_arg1)) (m ((c : Thread nD τ).loc main_arg2))
    (m ((c : Thread nD τ).loc main_arg3)) (m ((c : Thread nD τ).loc main_arg4))

/-- A grid point's number. -/
def num (t : Fin cfg0.N) : Fin 7 := ⟨t.val, lt_of_lt_of_eq t.isLt N_0⟩

/-- A grid point's tile. -/
def tile (c : Dev nD) (t : Fin cfg0.N) : FVec Ideal Cert.Mlp2Ideal.S768x512 .f32 :=
  k0_pay3 (iblk m c 1 t) (iblk m c 0 t) (iblk m c 3 t) (iblk m c 4 t) (iblk m c 2 t)

/-! ## The blocks a grid point reads -/

theorem iblk0_apply (c : Dev nD) (t : Fin cfg0.N) (r : Fin 768) (k : Fin 3584) :
    iblk m c 0 t (ix2 r k) = m ((c : Thread nD τ).loc main_arg0) (ix2 r k) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r k)) = _
  congr 1
  funext a; apply Fin.ext
  match a with
  | ⟨0, _⟩ => show win0_0.index t (0 : Fin 2) * 768 + 1 * r.val = r.val; omega
  | ⟨1, _⟩ => show win0_0.index t (1 : Fin 2) * 3584 + 1 * k.val = k.val; omega

theorem iblk1_apply (c : Dev nD) (t : Fin cfg0.N) (r : Fin 768) (n : Fin 512) :
    iblk m c 1 t (ix2 r n) = m ((c : Thread nD τ).loc main_arg1) (ix2 r (⟨(num t).val * 512 + n.val, by have := (num t).isLt; omega⟩ : Fin 3584)) := by
  rw [← V_main_arg1 m c]
  have hi : ∀ t : Fin cfg0.N, win0_1.index t (0 : Fin 2) = 0 ∧ win0_1.index t (1 : Fin 2) = t.val := (by decide +kernel : ∀ t : Fin grid0.N, _)
  obtain ⟨e0, e1⟩ := hi t
  show V m c main_arg1 (((cfg0.win 1).blk t).view.emb (ix2 r n)) = _
  congr 1
  funext a; apply Fin.ext
  match a with
  | ⟨0, _⟩ => show win0_1.index t (0 : Fin 2) * 768 + 1 * r.val = r.val; omega
  | ⟨1, _⟩ => show win0_1.index t (1 : Fin 2) * 512 + 1 * n.val = t.val * 512 + n.val; omega

theorem row_apply (c : Dev nD) (n : Fin 3584) : V m c main_v0 (ix2 (0 : Fin 1) n) = m ((c : Thread nD τ).loc main_arg2) (ix1 n) := by
  entry_read
  pointwise

theorem iblk2_apply (c : Dev nD) (t : Fin cfg0.N) (n : Fin 512) :
    iblk m c 2 t (ix2 (0 : Fin 1) n) = m ((c : Thread nD τ).loc main_arg2) (ix1 (⟨(num t).val * 512 + n.val, by have := (num t).isLt; omega⟩ : Fin 3584)) := by
  rw [← row_apply m c]
  have hi : ∀ t : Fin cfg0.N, win0_2.index t (0 : Fin 2) = 0 ∧ win0_2.index t (1 : Fin 2) = t.val := (by decide +kernel : ∀ t : Fin grid0.N, _)
  obtain ⟨e0, e1⟩ := hi t
  show V m c main_v0 (((cfg0.win 2).blk t).view.emb (ix2 (0 : Fin 1) n)) = _
  congr 1
  funext a; apply Fin.ext
  match a with
  | ⟨0, _⟩ => show win0_2.index t (0 : Fin 2) * 1 + 1 * 0 = 0; omega
  | ⟨1, _⟩ => show win0_2.index t (1 : Fin 2) * 512 + 1 * n.val = t.val * 512 + n.val; omega

theorem iblk3_apply (c : Dev nD) (t : Fin cfg0.N) (k : Fin 3584) (n : Fin 512) :
    iblk m c 3 t (ix2 k n) = m ((c : Thread nD τ).loc main_arg3) (ix2 k (⟨(num t).val * 512 + n.val, by have := (num t).isLt; omega⟩ : Fin 3584)) := by
  rw [← V_main_arg3 m c]
  have hi : ∀ t : Fin cfg0.N, win0_3.index t (0 : Fin 2) = 0 ∧ win0_3.index t (1 : Fin 2) = t.val := (by decide +kernel : ∀ t : Fin grid0.N, _)
  obtain ⟨e0, e1⟩ := hi t
  show V m c main_arg3 (((cfg0.win 3).blk t).view.emb (ix2 k n)) = _
  congr 1
  funext a; apply Fin.ext
  match a with
  | ⟨0, _⟩ => show win0_3.index t (0 : Fin 2) * 3584 + 1 * k.val = k.val; omega
  | ⟨1, _⟩ => show win0_3.index t (1 : Fin 2) * 512 + 1 * n.val = t.val * 512 + n.val; omega

theorem iblk4_apply (c : Dev nD) (t : Fin cfg0.N) (k : Fin 28) (n : Fin 512) :
    iblk m c 4 t (ix2 k n) = m ((c : Thread nD τ).loc main_arg4) (ix2 k (⟨(num t).val * 512 + n.val, by have := (num t).isLt; omega⟩ : Fin 3584)) := by
  rw [← V_main_arg4 m c]
  have hi : ∀ t : Fin cfg0.N, win0_4.index t (0 : Fin 2) = 0 ∧ win0_4.index t (1 : Fin 2) = t.val := (by decide +kernel : ∀ t : Fin grid0.N, _)
  obtain ⟨e0, e1⟩ := hi t
  show V m c main_arg4 (((cfg0.win 4).blk t).view.emb (ix2 k n)) = _
  congr 1
  funext a; apply Fin.ext
  match a with
  | ⟨0, _⟩ => show win0_4.index t (0 : Fin 2) * 28 + 1 * k.val = k.val; omega
  | ⟨1, _⟩ => show win0_4.index t (1 : Fin 2) * 512 + 1 * n.val = t.val * 512 + n.val; omega

/-! ## The tile -/

theorem pay3_apply (v3 : Vec Ideal Cert.Mlp2Ideal.S768x512 .f32) (v4 : Vec Ideal S768x3584 .bf16) (v5 : Vec Ideal S3584x512 .fp8e4m3) (v6 : Vec Ideal S28x512 .f32)
    (v15 : Vec Ideal S1x512 .f32) (r : Fin 768) (n : Fin 512) :
    (k0_pay3 v3 v4 v5 v6 v15 (ix2 r n) : EReal)
      = v3 (ix2 r n) + Mlp.silu (∑ k : Fin 3584, v4 (ix2 r k) * (v5 (ix2 k n) * v6 (ix2 (⟨k.val / 128, by omega⟩ : Fin 28) n)) + v15 (ix2 (0 : Fin 1) n)) := by
  unfold k0_pay3
  pointwise
  rfl

theorem isTile (c : Dev nD) (t : Fin cfg0.N) : IsTile (layer m c) (num t) (tile m c t) := by
  intro r n
  unfold tile
  rw [pay3_apply]
  simp only [iblk0_apply, iblk1_apply, iblk2_apply, iblk3_apply, iblk4_apply]
  rfl

/-! ## What a grid point leaves -/

theorem coords_eq (t : Fin cfg0.N) : (grid0.coords t 0).val = (num t).val :=
  (by decide +kernel : ∀ t : Fin grid0.N, (grid0.coords t 0).val = t.val) t

theorem codes_at (c : Dev nD) (t : Fin cfg0.N) : (outsAt0 m c t.val t.isLt).1 = View.canon (pieces (e := .fp8e4m3) fun q => codesV (part (tile m c t) q)) := by
  by_cases h0 : t.val % 7 = 0
  · rw [outsAt0_A m c t h0]; dsimp only; frame_out; rfl
  · rw [outsAt0_B m c t h0]; dsimp only; frame_out; rfl

theorem wide_at (c : Dev nD) (t : Fin cfg0.N) : (outsAt0 m c t.val t.isLt).2.2 = View.canon (pieces (e := .bf16) fun q => wideV (part (tile m c t) q)) := by
  by_cases h0 : t.val % 7 = 0
  · rw [outsAt0_A m c t h0]; dsimp only; frame_out; rfl
  · rw [outsAt0_B m c t h0]; dsimp only; frame_out; rfl

theorem scales_at_first (c : Dev nD) (t : Fin cfg0.N) (h0 : t.val % 7 = 0) :
    (outsAt0 m c t.val t.isLt).2.1 = put4 (tile m c t) (BitVec.ofNat 32 (grid0.coords t 0).val) (k0_pay4 (k0_pay2 (F := Ideal))) := by
  rw [outsAt0_A m c t h0]; dsimp only; frame_out; rfl

theorem scales_at_next (c : Dev nD) (t : Fin cfg0.N) (h0 : ¬ t.val % 7 = 0) :
    (outsAt0 m c t.val t.isLt).2.1 = put4 (tile m c t) (BitVec.ofNat 32 (grid0.coords t 0).val)
      (k0_pay4 (outsAt0 m c (t.val - 1) (Nat.lt_of_le_of_lt (Nat.sub_le _ _) t.isLt)).2.1) := by
  rw [outsAt0_B m c t h0]; dsimp only; frame_out; rfl

theorem pay4_apply (v : Vec Ideal Cert.Mlp2Ideal.S768x28 .f32) (r : Fin 768) (b : Fin 28) : k0_pay4 v (ix2 r b) = v (ix2 r b) := by
  unfold k0_pay4
  pointwise

/-- After grid point `n` the array of scales holds the layer's scales in its first `4 (n + 1)` columns. -/
theorem scales_upto (c : Dev nD) : ∀ (n : ℕ) (hn : n < cfg0.N) (r : Fin 768) (b : Fin 28), b.val / 4 ≤ n →
    ((outsAt0 m c n hn).2.1 (ix2 r b) : EReal) = Mlp.scales (layer m c) (ix2 r b) := by
  intro n
  induction n with
  | zero =>
    intro hn r b hb
    rw [scales_at_first m c ⟨0, hn⟩ rfl, coords_eq, (isTile m c ⟨0, hn⟩).put4_apply, if_pos]
    show b.val / 4 = 0
    omega
  | succ n ih =>
    intro hn r b hb
    have hN : n + 1 < 7 := lt_of_lt_of_eq hn N_0
    rw [scales_at_next m c ⟨n + 1, hn⟩ (by show ¬ (n + 1) % 7 = 0; omega), coords_eq, (isTile m c ⟨n + 1, hn⟩).put4_apply]
    by_cases h : b.val / 4 = n + 1
    · rw [if_pos (show b.val / 4 = (num ⟨n + 1, hn⟩).val from h)]
    · rw [if_neg (show ¬ b.val / 4 = (num ⟨n + 1, hn⟩).val from h), pay4_apply]
      exact ih _ r b (by omega)

end Cert.Mlp2Ideal.Layer

end
-- ==== Proof.Mlp2.Value.lean ====
/- What the second layer's three result arrays hold when the kernel ends. -/
module

public import proofs.«01_k».proof.Proof.Mlp2.Kernel

@[expose] public section

set_option maxRecDepth 16384

noncomputable section

namespace Cert.Mlp2Ideal.Layer

open Cert.Mlp2Ideal Cert.Mlp2Ideal.Gen Cert.QuantTile
open Idealize.ShloMosaic Idealize.ShloMosaic.TcCoe Idealize.ShloMosaic.Tactic
open Idealize.SL.Sem

variable (m : (ℓ : Loc nD τ sig) → Buf (Elt Ideal) ℓ) (ρ : Dev nD → PrngReg)

/-- The grid point whose tile holds column `n`. -/
def ptOf (i : Cert.Mlp2Ideal.S768x3584.Idx) : Fin cfg0.N :=
  ⟨(i 1).val / 512, lt_of_lt_of_eq (by have : (i 1).val < 3584 := (i 1).isLt; omega) (show 7 = cfg0.N from N_0.symm)⟩

/-- The block indices of the windows of the codes and the widened values. -/
theorem idx_facts57 : ∀ t : Fin cfg0.N, (win0_5.index t (0 : Fin 2) = 0 ∧ win0_5.index t (1 : Fin 2) = t.val)
    ∧ win0_7.index t (0 : Fin 2) = 0 ∧ win0_7.index t (1 : Fin 2) = t.val :=
  (by decide +kernel : ∀ t : Fin grid0.N, _)

/-- The window of the scales is its whole array. -/
theorem idx_facts6 : ∀ t : Fin cfg0.N, win0_6.index t (0 : Fin 2) = 0 ∧ win0_6.index t (1 : Fin 2) = 0 :=
  (by decide +kernel : ∀ t : Fin grid0.N, _)

theorem mem_blk5 (t : Fin cfg0.N) (i : Cert.Mlp2Ideal.S768x3584.Idx) :
    i ∈ ((cfg0.win 5).blk t).view.set ↔ ∀ a : Fin 2, win0_5.index t a * Cert.Mlp2Ideal.S768x512.size a ≤ (i a).val ∧ (i a).val < win0_5.index t a * Cert.Mlp2Ideal.S768x512.size a + Cert.Mlp2Ideal.S768x512.size a := by
  show i ∈ ((View.whole main_v1_0).slice (win0_5.rect t)).set ↔ _
  rw [View.set_slice_whole, Rect.mem_set_unit]
  exact Iff.rfl

theorem mem_blk6 (t : Fin cfg0.N) (i : Cert.Mlp2Ideal.S768x28.Idx) :
    i ∈ ((cfg0.win 6).blk t).view.set ↔ ∀ a : Fin 2, win0_6.index t a * Cert.Mlp2Ideal.S768x28.size a ≤ (i a).val ∧ (i a).val < win0_6.index t a * Cert.Mlp2Ideal.S768x28.size a + Cert.Mlp2Ideal.S768x28.size a := by
  show i ∈ ((View.whole main_v1_1).slice (win0_6.rect t)).set ↔ _
  rw [View.set_slice_whole, Rect.mem_set_unit]
  exact Iff.rfl

theorem mem_blk7 (t : Fin cfg0.N) (i : Cert.Mlp2Ideal.S768x3584.Idx) :
    i ∈ ((cfg0.win 7).blk t).view.set ↔ ∀ a : Fin 2, win0_7.index t a * Cert.Mlp2Ideal.S768x512.size a ≤ (i a).val ∧ (i a).val < win0_7.index t a * Cert.Mlp2Ideal.S768x512.size a + Cert.Mlp2Ideal.S768x512.size a := by
  show i ∈ ((View.whole main_v1_2).slice (win0_7.rect t)).set ↔ _
  rw [View.set_slice_whole, Rect.mem_set_unit]
  exact Iff.rfl

/-- What a point writes back of the codes is its block of the layer's codes. -/
theorem flushed5_eq (c : Dev nD) (t : Fin cfg0.N) :
    (dats m 0 c).flushed 5 t = ((cfg0.win 5).blk t).view.read (Elt Ideal) (Mlp.codes (layer m c)) := by
  rw [Value.flushed5, codes_at]
  obtain ⟨⟨e0, e1⟩, -⟩ := idx_facts57 t
  funext y
  refine Eq.trans (?_ : _ = View.canon (pieces (e := .fp8e4m3) fun q => codesV (part (tile m c t) q)) (ix2 (⟨(y 0).val, (y 0).isLt⟩ : Fin 768) (⟨(y 1).val, (y 1).isLt⟩ : Fin 512)))
    (((isTile m c t).codes_eq _ _).trans ?_)
  · show View.canon _ ((cfg0.win 5).xinj (grid0.coords t) y) = _
    congr 1
    funext a; apply Fin.ext
    match a with
    | ⟨0, _⟩ => rfl
    | ⟨1, _⟩ => rfl
  · show Mlp.codes (layer m c) _ = Mlp.codes (layer m c) (((cfg0.win 5).blk t).view.emb y)
    congr 1
    funext a; apply Fin.ext
    match a with
    | ⟨0, _⟩ => show (y 0).val = win0_5.index t (0 : Fin 2) * 768 + 1 * (y 0).val; omega
    | ⟨1, _⟩ => show t.val * 512 + (y 1).val = win0_5.index t (1 : Fin 2) * 512 + 1 * (y 1).val; omega

/-- What a point writes back of the widened values is its block of the layer's. -/
theorem flushed7_eq (c : Dev nD) (t : Fin cfg0.N) :
    (dats m 0 c).flushed 7 t = ((cfg0.win 7).blk t).view.read (Elt Ideal) (Mlp.wide (layer m c)) := by
  rw [Value.flushed7, wide_at]
  obtain ⟨-, e0, e1⟩ := idx_facts57 t
  funext y
  refine Eq.trans (?_ : _ = View.canon (pieces (e := .bf16) fun q => wideV (part (tile m c t) q)) (ix2 (⟨(y 0).val, (y 0).isLt⟩ : Fin 768) (⟨(y 1).val, (y 1).isLt⟩ : Fin 512)))
    (((isTile m c t).wide_eq _ _).trans ?_)
  · show View.canon _ ((cfg0.win 7).xinj (grid0.coords t) y) = _
    congr 1
    funext a; apply Fin.ext
    match a with
    | ⟨0, _⟩ => rfl
    | ⟨1, _⟩ => rfl
  · show Mlp.wide (layer m c) _ = Mlp.wide (layer m c) (((cfg0.win 7).blk t).view.emb y)
    congr 1
    funext a; apply Fin.ext
    match a with
    | ⟨0, _⟩ => show (y 0).val = win0_7.index t (0 : Fin 2) * 768 + 1 * (y 0).val; omega
    | ⟨1, _⟩ => show t.val * 512 + (y 1).val = win0_7.index t (1 : Fin 2) * 512 + 1 * (y 1).val; omega

/-- What the last point writes back of the scales is all of the layer's scales. -/
theorem flushed6_eq (c : Dev nD) (t : Fin cfg0.N) (hf : (cfg0.win 6).flush t = true) :
    (dats m 0 c).flushed 6 t = ((cfg0.win 6).blk t).view.read (Elt Ideal) (Mlp.scales (layer m c)) := by
  rw [Value.flushed6]
  have ht : t.val % 7 = 6 := (flush0_6 t).mp hf
  obtain ⟨e0, e1⟩ := idx_facts6 t
  funext y
  have hy : (y 1).val < 28 := (y 1).isLt
  refine Eq.trans (?_ : _ = (outsAt0 m c t.val t.isLt).2.1 (ix2 (⟨(y 0).val, (y 0).isLt⟩ : Fin 768) (⟨(y 1).val, hy⟩ : Fin 28)))
    ((scales_upto m c t.val t.isLt _ _ (by show (y 1).val / 4 ≤ t.val; omega)).trans ?_)
  · show (outsAt0 m c t.val t.isLt).2.1 ((cfg0.win 6).xinj (grid0.coords t) y) = _
    refine congrArg (outsAt0 m c t.val t.isLt).2.1 ?_
    funext a; apply Fin.ext
    match a with
    | ⟨0, _⟩ => rfl
    | ⟨1, _⟩ => rfl
  · show Mlp.scales (layer m c) _ = Mlp.scales (layer m c) (((cfg0.win 6).blk t).view.emb y)
    congr 1
    funext a; apply Fin.ext
    match a with
    | ⟨0, _⟩ => show (y 0).val = win0_6.index t (0 : Fin 2) * 768 + 1 * (y 0).val; omega
    | ⟨1, _⟩ => show (y 1).val = win0_6.index t (1 : Fin 2) * 28 + 1 * (y 1).val; omega

/-- The codes when the program ends. -/
theorem final5 (c : Dev nD) : (dats m 0 c).arrAt 5 cfg0.N = Mlp.codes (layer m c) :=
  (dats m 0 c).arrAt_eq_of_cover 5 (Mlp.codes (layer m c)) (fun t _ => flushed5_eq m c t) fun i =>
    ⟨ptOf i, flush0_5 _, (mem_blk5 (ptOf i) i).mpr fun a => by
      obtain ⟨⟨e0, e1⟩, -⟩ := idx_facts57 (ptOf i)
      have h0 : (i 0).val < 768 := (i 0).isLt
      have h1 : (i 1).val < 3584 := (i 1).isLt
      have hp : (ptOf i).val = (i 1).val / 512 := rfl
      match a with
      | ⟨0, _⟩ => show win0_5.index (ptOf i) (0 : Fin 2) * 768 ≤ (i 0).val ∧ (i 0).val < win0_5.index (ptOf i) (0 : Fin 2) * 768 + 768; omega
      | ⟨1, _⟩ => show win0_5.index (ptOf i) (1 : Fin 2) * 512 ≤ (i 1).val ∧ (i 1).val < win0_5.index (ptOf i) (1 : Fin 2) * 512 + 512; omega⟩

/-- The widened values when the program ends. -/
theorem final7 (c : Dev nD) : (dats m 0 c).arrAt 7 cfg0.N = Mlp.wide (layer m c) :=
  (dats m 0 c).arrAt_eq_of_cover 7 (Mlp.wide (layer m c)) (fun t _ => flushed7_eq m c t) fun i =>
    ⟨ptOf i, flush0_7 _, (mem_blk7 (ptOf i) i).mpr fun a => by
      obtain ⟨-, e0, e1⟩ := idx_facts57 (ptOf i)
      have h0 : (i 0).val < 768 := (i 0).isLt
      have h1 : (i 1).val < 3584 := (i 1).isLt
      have hp : (ptOf i).val = (i 1).val / 512 := rfl
      match a with
      | ⟨0, _⟩ => show win0_7.index (ptOf i) (0 : Fin 2) * 768 ≤ (i 0).val ∧ (i 0).val < win0_7.index (ptOf i) (0 : Fin 2) * 768 + 768; omega
      | ⟨1, _⟩ => show win0_7.index (ptOf i) (1 : Fin 2) * 512 ≤ (i 1).val ∧ (i 1).val < win0_7.index (ptOf i) (1 : Fin 2) * 512 + 512; omega⟩

/-- The last grid point. -/
def tLast : Fin cfg0.N := ⟨6, lt_of_lt_of_eq (by decide) (show 7 = cfg0.N from N_0.symm)⟩

/-- The scales when the program ends. -/
theorem final6 (c : Dev nD) : (dats m 0 c).arrAt 6 cfg0.N = Mlp.scales (layer m c) :=
  (dats m 0 c).arrAt_eq_of_cover 6 (Mlp.scales (layer m c)) (flushed6_eq m c) fun i =>
    ⟨tLast, (flush0_6 tLast).mpr rfl, (mem_blk6 tLast i).mpr fun a => by
      obtain ⟨e0, e1⟩ := idx_facts6 tLast
      have h0 : (i 0).val < 768 := (i 0).isLt
      have h1 : (i 1).val < 28 := (i 1).isLt
      match a with
      | ⟨0, _⟩ => show win0_6.index tLast (0 : Fin 2) * 768 ≤ (i 0).val ∧ (i 0).val < win0_6.index tLast (0 : Fin 2) * 768 + 768; omega
      | ⟨1, _⟩ => show win0_6.index tLast (1 : Fin 2) * 28 ≤ (i 1).val ∧ (i 1).val < win0_6.index tLast (1 : Fin 2) * 28 + 28; omega⟩

/-- The kernel ends with the layer's codes, scales and widened values, its arguments unchanged. -/
theorem run : θ_run defs (onTc (τ := τ) (main (F := Ideal))) ⟨m, fun _ => 0, ρ⟩ fun r => ∀ c : Dev nD,
      r.2.mem ((c : Thread nD τ).loc main_v1_0) = Mlp.codes (layer m c)
      ∧ r.2.mem ((c : Thread nD τ).loc main_v1_1) = Mlp.scales (layer m c)
      ∧ r.2.mem ((c : Thread nD τ).loc main_v1_2) = Mlp.wide (layer m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, ha⟩ := h c
    exact ⟨h5.trans (final5 m c), h6.trans (final6 m c), h7.trans (final7 m c), ha⟩) (Value.run_blocks m ρ)

end Cert.Mlp2Ideal.Layer

end
-- ==== Proof.QuantWhole.lean ====
/- The block quantiser as the references state it, on all rows of 28 blocks of 128 columns at once, read at an index. -/
module

public import proofs.«01_k».proof.Proof.QuantTile
public import Idealize.ShloMosaic.PureOps.Ideal.Laws

@[expose] public section

set_option maxRecDepth 16384

noncomputable section

namespace Cert.QuantWhole

open Idealize.ShloMosaic Idealize.ShloMosaic.TcCoe Idealize.ShloMosaic.Tactic Cert.QuantTile

/-- Rows of 28 blocks of `k` columns. -/
abbrev Blocks (N k : ℕ) : Shape := ⟨3, ![N, 28, k]⟩

/-! The shapes' facts. -/

theorem reduces3 (N : ℕ) : (Blocks N 128).Reduces [2] (Rows N 28) :=
  ⟨rfl, Nat.two_pos, fun b => match b with | ⟨0, _⟩ => rfl | ⟨1, _⟩ => rfl⟩
theorem casts_edge (N : ℕ) : (Rows N 28).ShapeCasts (Blocks N 1) := by simp [Shape.ShapeCasts, Shape.numel, Fin.prod_univ_succ]
theorem spreads3 (N : ℕ) : (Blocks N 1).Broadcasts (Blocks N 128) :=
  ⟨le_refl 3, fun a => match a with | ⟨0, _⟩ => .inr fun _ => rfl | ⟨1, _⟩ => .inr fun _ => rfl | ⟨2, _⟩ => .inl rfl⟩
theorem casts_flat (N : ℕ) : (Blocks N 128).ShapeCasts (Rows N 3584) := by
  show N * (3584 * 1) = N * (28 * (128 * 1))
  rfl

/-! ## The references' terms -/

variable {N : ℕ} (y : FVec Ideal (Blocks N 128) .f32)

/-- A block's largest magnitude over 448. -/
def levelW : FVec Ideal (Rows N 28) .f32 :=
  mulf (multiReduction .maximumf [2] (Rows N 28) (absf y) 0xFF800000#32 (reduces3 N) (.inl rfl) rfl) (broadcast (Rows N 28) (Scalar.ofBits .f32 0x3B124925#32))

/-- The exponent of a level, where it is a normal number. -/
def clippedW (l : FVec Ideal (Rows N 28) .f32) : FVec Ideal (Rows N 28) .f32 :=
  minimumf (broadcast (Rows N 28) (Scalar.ofBits .f32 0x42FC0000#32)) (maximumf (broadcast (Rows N 28) (Scalar.ofBits .f32 0xC2FA0000#32))
    (addf (floor (divf (log l) (log (broadcast (Rows N 28) (Scalar.ofBits .f32 0x40000000#32))))) (broadcast (Rows N 28) (Scalar.ofBits .f32 0x3F800000#32))))

/-- Where a level is below the normal numbers or infinite. -/
def outsideW (l : FVec Ideal (Rows N 28) .f32) : IVec (Rows N 28) 1 :=
  ori (cmpf .olt l (broadcast (Rows N 28) (Scalar.ofBits .f32 0x00800000#32))) (cmpf .oeq l (broadcast (Rows N 28) (Scalar.ofBits .f32 0x7F800000#32)))

/-- A block's exponent. -/
def expoW : FVec Ideal (Rows N 28) .f32 := select (outsideW (levelW y)) (broadcast (Rows N 28) (Scalar.ofBits .f32 0x00000000#32)) (clippedW (levelW y))

/-- A block's scale. -/
def scaleW : FVec Ideal (Rows N 28) .f32 := exp2 (expoW y)

/-- The codes by block. -/
def blocksW : FVec Ideal (Blocks N 128) .fp8e4m3 :=
  truncf .fp8e4m3 (minimumf (broadcast (Blocks N 128) (Scalar.ofBits .f32 0x43E00000#32)) (maximumf (broadcast (Blocks N 128) (Scalar.ofBits .f32 0xC3E00000#32))
    (mulf y (broadcastTo (Blocks N 128) (shapeCast (Blocks N 1) (exp2 (subf (broadcast (Rows N 28) (Scalar.ofBits .f32 0x00000000#32)) (expoW y))) (casts_edge N))
      (spreads3 N))))) bitsLt_fp8e4m3_f32

/-- The codes. -/
def codesW : FVec Ideal (Rows N 3584) .fp8e4m3 := shapeCast (Rows N 3584) (blocksW y) (casts_flat N)

/-- The widened values. -/
def wideW : FVec Ideal (Rows N 3584) .bf16 :=
  shapeCast (Rows N 3584) (mulf (extf .bf16 (blocksW y) bitsLt_fp8e4m3_bf16)
    (broadcastTo (Blocks N 128) (shapeCast (Blocks N 1) (truncf .bf16 (scaleW y) bitsLt_bf16_f32) (casts_edge N)) (spreads3 N)))
    (casts_flat N)

/-! ## Their readings -/

/-- A number of each block spread over the block's places. -/
theorem spread3_apply {α : Type} (v : (Rows N 28).Idx → α) (r : Fin N) (b : Fin 28) (k : Fin 128) :
    broadcastTo (Blocks N 128) (shapeCast (Blocks N 1) v (casts_edge N)) (spreads3 N) (ix3 r b k) = v (ix2 r b) := by
  refine (broadcastTo_apply _ (spreads3 N) _ (ix3 r b (0 : Fin 1)) fun a => ?_).trans ?_
  · match a with
    | ⟨0, _⟩ =>
      show r.val = if N = 1 then 0 else r.val
      have := r.isLt
      split <;> omega
    | ⟨1, _⟩ => rfl
    | ⟨2, _⟩ => rfl
  · refine shapeCast_apply v (casts_edge N) _ _ ?_
    rw [Shape.rowMajor_val_two, Shape.rowMajor_val_three]
    show r.val * 28 + b.val = (r.val * 28 + b.val) * 1 + 0
    omega

/-- The blocks of a row one after the other. -/
theorem flat_apply {α : Type} (v : (Blocks N 128).Idx → α) (r : Fin N) (n : Fin 3584) :
    shapeCast (Rows N 3584) v (casts_flat N) (ix2 r n) = v (ix3 r (⟨n.val / 128, by omega⟩ : Fin 28) (⟨n.val % 128, by omega⟩ : Fin 128)) := by
  refine shapeCast_apply v (casts_flat N) _ _ ?_
  rw [Shape.rowMajor_val_two, Shape.rowMajor_val_three]
  show (r.val * 28 + n.val / 128) * 128 + n.val % 128 = r.val * 3584 + n.val
  omega

/-- The largest magnitude of a block. -/
theorem reduce_apply (r : Fin N) (b : Fin 28) :
    (multiReduction .maximumf [2] (Rows N 28) (absf y) 0xFF800000#32 (reduces3 N) (.inl rfl) rfl (ix2 r b) : EReal)
      = Finset.univ.fold max (Ideal.ofBits .f32 0xFF800000#32) (fun k : Fin 128 => (FloatOps.absf (F := Ideal) (φ := .f32) (y (ix3 r b k)) : Ideal .f32)) := by
  refine (Ideal.multiReduction_maximumf_single _ _ (reduces3 N) _ _ (ix2 r b)).trans ?_
  refine Finset.fold_congr fun k _ => ?_
  have e : (reduces3 N).lift (ix2 r b) k = ix3 r b k := by
    funext a
    match a with
    | ⟨0, _⟩ => rfl
    | ⟨1, _⟩ => rfl
    | ⟨2, _⟩ => rfl
  exact congrArg (fun i => (FloatOps.absf (F := Ideal) (φ := .f32) (y i) : Ideal .f32)) e

theorem times_apply (u : FVec Ideal (Rows N 28) .f32) (c : Ideal .f32) (r : Fin N) (b : Fin 28) :
    (mulf u (broadcast (Rows N 28) c) (ix2 r b) : EReal) = u (ix2 r b) * c := rfl

theorem levelW_apply (r : Fin N) (b : Fin 28) : (levelW y (ix2 r b) : EReal) = Quant.level fun k => y (ix3 r b k) := by
  unfold levelW Quant.level
  refine (times_apply _ _ r b).trans ?_
  rw [reduce_apply]
  rfl

theorem select_outside (l : FVec Ideal (Rows N 28) .f32) (r : Fin N) (b : Fin 28) :
    (select (outsideW l) (broadcast (Rows N 28) (Scalar.ofBits (F := Ideal) .f32 0x00000000#32)) (clippedW l) (ix2 r b) : EReal) = Quant.expo (l (ix2 r b)) := by
  have hc : (clippedW l (ix2 r b) : EReal) = min (Ideal.ofBits .f32 0x42FC0000#32) (max (Ideal.ofBits .f32 0xC2FA0000#32)
      (Ideal.liftRound Int.floor (Ideal.div (Ideal.log (l (ix2 r b))) (Ideal.log (Ideal.ofBits .f32 0x40000000#32))) + Ideal.ofBits .f32 0x3F800000#32)) := rfl
  have ho : outsideW l (ix2 r b) = IntOp.ori (BitVec.ofBool (decide ((l (ix2 r b) : EReal) < Ideal.ofBits .f32 0x00800000#32)))
      (BitVec.ofBool (decide ((l (ix2 r b) : EReal) = Ideal.ofBits .f32 0x7F800000#32))) := rfl
  show Scalar.select (outsideW l (ix2 r b)) (Ideal.ofBits .f32 0x00000000#32) (clippedW l (ix2 r b)) = _
  rw [ho, hc]
  generalize (l (ix2 r b) : EReal) = v
  unfold Quant.expo
  generalize min (Ideal.ofBits .f32 0x42FC0000#32) _ = w
  by_cases hp : v < Ideal.ofBits .f32 0x00800000#32 <;> by_cases hq : v = Ideal.ofBits .f32 0x7F800000#32 <;> simp only [hp, hq] <;> rfl

theorem expoW_apply (r : Fin N) (b : Fin 28) : (expoW y (ix2 r b) : EReal) = Quant.expo (Quant.level fun k => y (ix3 r b k)) :=
  (select_outside (levelW y) r b).trans (congrArg Quant.expo (levelW_apply y r b))

theorem exp2_apply (e : FVec Ideal (Rows N 28) .f32) (r : Fin N) (b : Fin 28) : (exp2 e (ix2 r b) : EReal) = Ideal.exp2 (e (ix2 r b)) := rfl

theorem scaleW_apply (r : Fin N) (b : Fin 28) : (scaleW y (ix2 r b) : EReal) = Quant.scale fun k => y (ix3 r b k) := by
  unfold scaleW Quant.scale
  rw [exp2_apply, expoW_apply]

theorem clip_apply (z : Ideal .f32) (e : FVec Ideal (Rows N 28) .f32) (r : Fin N) (b : Fin 28) (k : Fin 128) :
    (truncf .fp8e4m3 (minimumf (broadcast (Blocks N 128) (Scalar.ofBits .f32 0x43E00000#32)) (maximumf (broadcast (Blocks N 128) (Scalar.ofBits .f32 0xC3E00000#32))
      (mulf y (broadcastTo (Blocks N 128) (shapeCast (Blocks N 1) (exp2 (subf (broadcast (Rows N 28) z) e)) (casts_edge N))
        (spreads3 N))))) bitsLt_fp8e4m3_f32 (ix3 r b k) : EReal)
      = min (Ideal.ofBits .f32 0x43E00000#32) (max (Ideal.ofBits .f32 0xC3E00000#32) (y (ix3 r b k) * Ideal.exp2 (z - e (ix2 r b)))) := by
  have e' := spread3_apply (exp2 (subf (broadcast (Rows N 28) z) e)) r b k
  generalize broadcastTo (Blocks N 128) _ (spreads3 N) = B at e' ⊢
  replace e' : (B (ix3 r b k) : EReal) = Ideal.exp2 (z - e (ix2 r b)) := e'
  rw [← e']
  rfl

theorem blocksW_apply (r : Fin N) (b : Fin 28) (k : Fin 128) : (blocksW y (ix3 r b k) : EReal) = Quant.code (fun k => y (ix3 r b k)) k := by
  unfold Quant.code
  rw [← expoW_apply]
  unfold blocksW
  exact clip_apply y _ _ r b k

theorem codesW_apply (r : Fin N) (n : Fin 3584) : (codesW y (ix2 r n) : EReal)
    = Quant.code (fun k => y (ix3 r (⟨n.val / 128, by omega⟩ : Fin 28) k)) ⟨n.val % 128, by omega⟩ := by
  rw [← blocksW_apply]
  exact flat_apply _ r n

theorem wideW_apply (r : Fin N) (n : Fin 3584) : (wideW y (ix2 r n) : EReal)
    = Quant.wide (fun k => y (ix3 r (⟨n.val / 128, by omega⟩ : Fin 28) k)) ⟨n.val % 128, by omega⟩ := by
  unfold Quant.wide
  rw [← blocksW_apply, ← scaleW_apply]
  unfold wideW
  generalize blocksW y = w
  generalize scaleW y = s
  refine (flat_apply _ r n).trans ?_
  have e' := spread3_apply (truncf (F := Ideal) .bf16 s bitsLt_bf16_f32) r (⟨n.val / 128, by omega⟩ : Fin 28) (⟨n.val % 128, by omega⟩ : Fin 128)
  generalize broadcastTo (Blocks N 128) _ (spreads3 N) = B at e' ⊢
  replace e' : (B (ix3 r (⟨n.val / 128, by omega⟩ : Fin 28) (⟨n.val % 128, by omega⟩ : Fin 128)) : EReal) = s (ix2 r (⟨n.val / 128, by omega⟩ : Fin 28)) := e'
  rw [← e']
  rfl

/-! ## Of a layer -/

/-- The vector holds the layer's blocks. -/
def IsWhole (f : Fin N → Fin 3584 → EReal) : Prop := ∀ r b k, (y (ix3 r b k) : EReal) = Mlp.block f r b k

variable {y} {f : Fin N → Fin 3584 → EReal}

theorem IsWhole.codes_eq (h : IsWhole y f) : codesW y = Mlp.codes f := by
  funext i
  obtain ⟨r, n, rfl⟩ : ∃ (r : Fin N) (n : Fin 3584), i = ix2 r n := ⟨i 0, i 1, eq_ix2 i⟩
  refine (codesW_apply y r n).trans ?_
  rw [funext (h r _)]
  rfl

theorem IsWhole.wide_eq (h : IsWhole y f) : wideW y = Mlp.wide f := by
  funext i
  obtain ⟨r, n, rfl⟩ : ∃ (r : Fin N) (n : Fin 3584), i = ix2 r n := ⟨i 0, i 1, eq_ix2 i⟩
  refine (wideW_apply y r n).trans ?_
  rw [funext (h r _)]
  rfl

theorem IsWhole.scales_eq (h : IsWhole y f) : scaleW y = Mlp.scales f := by
  funext i
  obtain ⟨r, b, rfl⟩ : ∃ (r : Fin N) (b : Fin 28), i = ix2 r b := ⟨i 0, i 1, eq_ix2 i⟩
  refine (scaleW_apply y r b).trans ?_
  rw [funext (h r _)]
  rfl

end Cert.QuantWhole

end
-- ==== Proof.Mlp2.Reference.lean ====
/- The second layer's reference over the extended reals: its three results are the layer's codes, scales and widened values. -/
module

public import proofs.«01_k».proof.Proof.Gen.Mlp2ReferenceIdeal.Value
public import proofs.«01_k».proof.Proof.QuantWhole
public import Idealize.ShloMosaic.Lib.Claim

@[expose] public section

set_option maxRecDepth 16384

noncomputable section

namespace Cert.Mlp2ReferenceIdeal.Layer

open Cert.Mlp2ReferenceIdeal Cert.Mlp2ReferenceIdeal.Gen Cert.QuantWhole
open Idealize.ShloMosaic Idealize.ShloMosaic.TcCoe Idealize.ShloMosaic.Tactic
open Idealize.SL.Sem

variable (m : (ℓ : Loc nD τ sig) → Buf (Elt Ideal) ℓ) (ρ : Dev nD → PrngReg)

/-- The layer before the quantiser, of the arguments. -/
def layer (c : Dev nD) : Fin 768 → Fin 3584 → EReal :=
  Mlp.second (m ((c : Thread nD τ).loc main_arg0)) (m ((c : Thread nD τ).loc main_arg1)) (m ((c : Thread nD τ).loc main_arg2))
    (m ((c : Thread nD τ).loc main_arg3)) (m ((c : Thread nD τ).loc main_arg4))

/-! ## The operands, whole -/

theorem iblk0_eq (c : Dev nD) (t : Fin cfg0.N) (r : Fin 768) (k : Fin 3584) :
    iblk m c 0 t (ix2 r k) = m ((c : Thread nD τ).loc main_arg0) (ix2 r k) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r k)) = _
  congr 1
  funext a; apply Fin.ext
  match a with
  | ⟨0, _⟩ => show win0_0.index t (0 : Fin 2) * 768 + 1 * r.val = r.val; omega
  | ⟨1, _⟩ => show win0_0.index t (1 : Fin 2) * 3584 + 1 * k.val = k.val; omega

theorem iblk1_eq (c : Dev nD) (t : Fin cfg0.N) (r : Fin 768) (k : Fin 3584) :
    iblk m c 1 t (ix2 r k) = m ((c : Thread nD τ).loc main_arg1) (ix2 r k) := by
  rw [← V_main_arg1 m c]
  have hi : ∀ t : Fin cfg0.N, win0_1.index t (0 : Fin 2) = 0 ∧ win0_1.index t (1 : Fin 2) = 0 := (by decide +kernel : ∀ t : Fin grid0.N, _)
  obtain ⟨e0, e1⟩ := hi t
  show V m c main_arg1 (((cfg0.win 1).blk t).view.emb (ix2 r k)) = _
  congr 1
  funext a; apply Fin.ext
  match a with
  | ⟨0, _⟩ => show win0_1.index t (0 : Fin 2) * 768 + 1 * r.val = r.val; omega
  | ⟨1, _⟩ => show win0_1.index t (1 : Fin 2) * 3584 + 1 * k.val = k.val; omega

theorem row_apply (c : Dev nD) (n : Fin 3584) : V m c main_v0 (ix2 (0 : Fin 1) n) = m ((c : Thread nD τ).loc main_arg2) (ix1 n) := by
  entry_read
  pointwise

theorem iblk2_eq (c : Dev nD) (t : Fin cfg0.N) (n : Fin 3584) :
    iblk m c 2 t (ix2 (0 : Fin 1) n) = m ((c : Thread nD τ).loc main_arg2) (ix1 n) := by
  rw [← row_apply m c]
  have hi : ∀ t : Fin cfg0.N, win0_2.index t (0 : Fin 2) = 0 ∧ win0_2.index t (1 : Fin 2) = 0 := (by decide +kernel : ∀ t : Fin grid0.N, _)
  obtain ⟨e0, e1⟩ := hi t
  show V m c main_v0 (((cfg0.win 2).blk t).view.emb (ix2 (0 : Fin 1) n)) = _
  congr 1
  funext a; apply Fin.ext
  match a with
  | ⟨0, _⟩ => show win0_2.index t (0 : Fin 2) * 1 + 1 * 0 = 0; omega
  | ⟨1, _⟩ => show win0_2.index t (1 : Fin 2) * 3584 + 1 * n.val = n.val; omega

theorem iblk3_eq (c : Dev nD) (t : Fin cfg0.N) (k : Fin 3584) (n : Fin 3584) :
    iblk m c 3 t (ix2 k n) = m ((c : Thread nD τ).loc main_arg3) (ix2 k n) := by
  rw [← V_main_arg3 m c]
  have hi : ∀ t : Fin cfg0.N, win0_3.index t (0 : Fin 2) = 0 ∧ win0_3.index t (1 : Fin 2) = 0 := (by decide +kernel : ∀ t : Fin grid0.N, _)
  obtain ⟨e0, e1⟩ := hi t
  show V m c main_arg3 (((cfg0.win 3).blk t).view.emb (ix2 k n)) = _
  congr 1
  funext a; apply Fin.ext
  match a with
  | ⟨0, _⟩ => show win0_3.index t (0 : Fin 2) * 3584 + 1 * k.val = k.val; omega
  | ⟨1, _⟩ => show win0_3.index t (1 : Fin 2) * 3584 + 1 * n.val = n.val; omega

theorem iblk4_eq (c : Dev nD) (t : Fin cfg0.N) (k : Fin 28) (n : Fin 3584) :
    iblk m c 4 t (ix2 k n) = m ((c : Thread nD τ).loc main_arg4) (ix2 k n) := by
  rw [← V_main_arg4 m c]
  have hi : ∀ t : Fin cfg0.N, win0_4.index t (0 : Fin 2) = 0 ∧ win0_4.index t (1 : Fin 2) = 0 := (by decide +kernel : ∀ t : Fin grid0.N, _)
  obtain ⟨e0, e1⟩ := hi t
  show V m c main_arg4 (((cfg0.win 4).blk t).view.emb (ix2 k n)) = _
  congr 1
  funext a; apply Fin.ext
  match a with
  | ⟨0, _⟩ => show win0_4.index t (0 : Fin 2) * 28 + 1 * k.val = k.val; omega
  | ⟨1, _⟩ => show win0_4.index t (1 : Fin 2) * 3584 + 1 * n.val = n.val; omega

/-! ## The layer by blocks -/

theorem pay6_apply (v0 : Vec Ideal S3584x3584 .fp8e4m3) (v3 : Vec Ideal S28x3584 .f32) (v9 : Vec Ideal Cert.Mlp2ReferenceIdeal.S768x3584 .bf16)
    (v11 : Vec Ideal S1x3584 .f32) (v15 : Vec Ideal Cert.Mlp2ReferenceIdeal.S768x3584 .f32) (r : Fin 768) (b : Fin 28) (k : Fin 128) :
    (k0_pay6 v0 v3 v9 v11 v15 (ix3 r b k) : EReal)
      = v15 (ix2 r (⟨b.val * 128 + k.val, by omega⟩ : Fin 3584)) + Mlp.silu (∑ x : Fin 3584, v9 (ix2 r x) * (v0 (ix2 x (⟨b.val * 128 + k.val, by omega⟩ : Fin 3584))
          * v3 (ix2 (⟨x.val / 128, by omega⟩ : Fin 28) (⟨b.val * 128 + k.val, by omega⟩ : Fin 3584))) + v11 (ix2 (0 : Fin 1) (⟨b.val * 128 + k.val, by omega⟩ : Fin 3584))) := by
  unfold k0_pay6
  pointwise
  rfl

/-! ## The quantiser -/

variable (y : FVec Ideal Cert.Mlp2ReferenceIdeal.S768x28x128 .f32)

theorem pay3_eq : k0_pay3 (clippedW (levelW y)) (outsideW (levelW y)) (Scalar.ofBits .f32 0x00000000#32) = scaleW y := by
  unfold k0_pay3 k0_pay1 scaleW expoW
  rfl

theorem pay2_eq : k0_pay2 y (clippedW (levelW y)) (outsideW (levelW y)) (Scalar.ofBits .f32 0x00000000#32) = blocksW y := by
  unfold k0_pay2 k0_pay1 blocksW expoW
  generalize clippedW (levelW y) = a
  generalize outsideW (levelW y) = b
  rfl

theorem pay4_eq : k0_pay4 y (clippedW (levelW y)) (outsideW (levelW y)) (Scalar.ofBits .f32 0x00000000#32) = codesW y := by
  unfold k0_pay4 codesW
  rw [pay2_eq]

theorem pay5_eq : k0_pay5 y (clippedW (levelW y)) (outsideW (levelW y)) (Scalar.ofBits .f32 0x00000000#32) = wideW y := by
  unfold k0_pay5 wideW
  rw [pay2_eq, pay3_eq]

variable (v0 : Vec Ideal S3584x3584 .fp8e4m3) (v3 : Vec Ideal S28x3584 .f32) (v9 : Vec Ideal Cert.Mlp2ReferenceIdeal.S768x3584 .bf16)
  (v11 : Vec Ideal S1x3584 .f32) (v15 : Vec Ideal Cert.Mlp2ReferenceIdeal.S768x3584 .f32)

theorem pay7_eq : k0_pay7 v0 v3 v9 v11 v15 = levelW (k0_pay6 v0 v3 v9 v11 v15) := by
  unfold k0_pay7 levelW
  generalize k0_pay6 v0 v3 v9 v11 v15 = z
  rfl

theorem pay8_eq : k0_pay8 v0 v3 v9 v11 v15 = clippedW (levelW (k0_pay6 v0 v3 v9 v11 v15)) := by
  rw [← pay7_eq]
  unfold k0_pay8 clippedW
  rfl

theorem pay9_eq : k0_pay9 v0 v3 v9 v11 v15 = outsideW (levelW (k0_pay6 v0 v3 v9 v11 v15)) := by
  rw [← pay7_eq]
  unfold k0_pay9 outsideW
  rfl

/-! ## The results -/

/-- The value before the quantiser, by blocks. -/
def before (c : Dev nD) (t : Fin cfg0.N) : FVec Ideal Cert.Mlp2ReferenceIdeal.S768x28x128 .f32 :=
  k0_pay10 (iblk m c 0 t) (iblk m c 1 t) (iblk m c 2 t) (iblk m c 3 t) (iblk m c 4 t)

theorem isWhole (c : Dev nD) (t : Fin cfg0.N) : IsWhole (before m c t) (layer m c) := by
  intro r b k
  unfold before
  refine (pay6_apply _ _ _ _ _ r b k).trans ?_
  pointwise
  simp only [iblk0_eq, iblk1_eq, iblk2_eq, iblk3_eq, iblk4_eq]
  rfl

theorem clipped_eq (c : Dev nD) (t : Fin cfg0.N) :
    k0_pay11 (iblk m c 0 t) (iblk m c 1 t) (iblk m c 2 t) (iblk m c 3 t) (iblk m c 4 t) = clippedW (levelW (before m c t)) := by
  unfold k0_pay11 before k0_pay10
  exact pay8_eq _ _ _ _ _

theorem outside_eq (c : Dev nD) (t : Fin cfg0.N) :
    k0_pay12 (iblk m c 0 t) (iblk m c 1 t) (iblk m c 2 t) (iblk m c 3 t) (iblk m c 4 t) = outsideW (levelW (before m c t)) := by
  unfold k0_pay12 before k0_pay10
  exact pay9_eq _ _ _ _ _

theorem codes_at (c : Dev nD) : (dats m 0 c).arrAt 5 cfg0.N = Mlp.codes (layer m c) :=
  (dats m 0 c).arrAt_eq_of_covers 5 (Mlp.codes (layer m c)) (by decide +kernel) (fun t hf y => by
    have hi : ∀ t : Fin cfg0.N, win0_5.index t (0 : Fin 2) = 0 ∧ win0_5.index t (1 : Fin 2) = 0 := (by decide +kernel : ∀ t : Fin grid0.N, _)
    obtain ⟨e0, e1⟩ := hi t
    blk_simp
    rw [after0_5]
    frame_out
    rw [clipped_eq, outside_eq, ← before, pay4_eq, (isWhole m c t).codes_eq]
    refine congrArg (Mlp.codes (layer m c)) ?_
    funext a; apply Fin.ext
    match a with
    | ⟨0, _⟩ => show (y 0).val = win0_5.index t (0 : Fin 2) * 768 + 1 * (y 0).val; omega
    | ⟨1, _⟩ => show (y 1).val = win0_5.index t (1 : Fin 2) * 3584 + 1 * (y 1).val; omega)

theorem scales_at (c : Dev nD) : (dats m 0 c).arrAt 6 cfg0.N = Mlp.scales (layer m c) :=
  (dats m 0 c).arrAt_eq_of_covers 6 (Mlp.scales (layer m c)) (by decide +kernel) (fun t hf y => by
    have hi : ∀ t : Fin cfg0.N, win0_6.index t (0 : Fin 2) = 0 ∧ win0_6.index t (1 : Fin 2) = 0 := (by decide +kernel : ∀ t : Fin grid0.N, _)
    obtain ⟨e0, e1⟩ := hi t
    blk_simp
    rw [after0_6]
    frame_out
    rw [clipped_eq, outside_eq, pay3_eq, (isWhole m c t).scales_eq]
    refine congrArg (Mlp.scales (layer m c)) ?_
    funext a; apply Fin.ext
    match a with
    | ⟨0, _⟩ => show (y 0).val = win0_6.index t (0 : Fin 2) * 768 + 1 * (y 0).val; omega
    | ⟨1, _⟩ => show (y 1).val = win0_6.index t (1 : Fin 2) * 28 + 1 * (y 1).val; omega)

theorem wide_at (c : Dev nD) : (dats m 0 c).arrAt 7 cfg0.N = Mlp.wide (layer m c) :=
  (dats m 0 c).arrAt_eq_of_covers 7 (Mlp.wide (layer m c)) (by decide +kernel) (fun t hf y => by
    have hi : ∀ t : Fin cfg0.N, win0_7.index t (0 : Fin 2) = 0 ∧ win0_7.index t (1 : Fin 2) = 0 := (by decide +kernel : ∀ t : Fin grid0.N, _)
    obtain ⟨e0, e1⟩ := hi t
    blk_simp
    rw [after0_7]
    frame_out
    rw [clipped_eq, outside_eq, ← before, pay5_eq, (isWhole m c t).wide_eq]
    refine congrArg (Mlp.wide (layer m c)) ?_
    funext a; apply Fin.ext
    match a with
    | ⟨0, _⟩ => show (y 0).val = win0_7.index t (0 : Fin 2) * 768 + 1 * (y 0).val; omega
    | ⟨1, _⟩ => show (y 1).val = win0_7.index t (1 : Fin 2) * 3584 + 1 * (y 1).val; omega)

/-- The reference ends with the layer's codes, scales and widened values, its arguments unchanged. -/
theorem run : θ_run defs (onTc (τ := τ) (main (F := Ideal))) ⟨m, fun _ => 0, ρ⟩ fun r => ∀ c : Dev nD,
      r.2.mem ((c : Thread nD τ).loc main_v1_0) = Mlp.codes (layer m c)
      ∧ r.2.mem ((c : Thread nD τ).loc main_v1_1) = Mlp.scales (layer m c)
      ∧ r.2.mem ((c : Thread nD τ).loc main_v1_2) = Mlp.wide (layer m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, ha⟩ := h c
    exact ⟨h5.trans (codes_at m c), h6.trans (scales_at m c), h7.trans (wide_at m c), ha⟩) (Value.run_blocks m ρ)

end Cert.Mlp2ReferenceIdeal.Layer

end
-- ==== Proof.Mlp2.Algebra.lean ====
/- The second layer's kernel and its reference over the extended reals end with the same three results. -/
module

public import proofs.«01_k».proof.Defs
public import proofs.«01_k».proof.Proof.Mlp2.Value
public import proofs.«01_k».proof.Proof.Mlp2.Reference

@[expose] public section

set_option maxRecDepth 16384

noncomputable section

namespace Cert.Mlp2Algebra

open Idealize.ShloMosaic Idealize.ShloMosaic.TcCoe Idealize.SL.Sem

/-- THE VALUE CLAIM of the second layer: from memories with the same arguments, both programs end with the same results. -/
theorem algebraic : Cert.algebraic_Mlp2Ideal_Mlp2ReferenceIdeal := by
  intro m ρ m' ρ' _ hag
  have hl : ∀ c : Dev Cert.Mlp2Ideal.nD, Cert.Mlp2ReferenceIdeal.Layer.layer m' c = Cert.Mlp2Ideal.Layer.layer m c := by
    intro c
    obtain ⟨h0, h1, h2, h3, h4⟩ := hag c
    unfold Cert.Mlp2ReferenceIdeal.Layer.layer Cert.Mlp2Ideal.Layer.layer
    rw [h0, h1, h2, h3, h4]
  refine ⟨fun c => Mlp.codes (Cert.Mlp2Ideal.Layer.layer m c), fun c => Mlp.scales (Cert.Mlp2Ideal.Layer.layer m c), fun c => Mlp.wide (Cert.Mlp2Ideal.Layer.layer m c),
    Cert.Mlp2Ideal.Layer.run m ρ, ?_⟩
  refine (θ_run _ _ _).mono (fun r h c => ?_) (Cert.Mlp2ReferenceIdeal.Layer.run m' ρ')
  obtain ⟨h5, h6, h7, ha⟩ := h c
  rw [hl c] at h5 h6 h7
  exact ⟨h5, h6, h7, ha⟩

end Cert.Mlp2Algebra

end
-- ==== Proof.Mlp1.Kernel.lean ====
/- The first layer's call over the extended reals: each grid point computes its tile of 512 columns, and the four arrays at the end
   are the layer, its codes, scales and widened values. -/
module

public import proofs.«01_k».proof.Proof.Gen.Mlp1Ideal.Value
public import proofs.«01_k».proof.Proof.QuantTile
public import Idealize.ShloMosaic.Lib.Claim

@[expose] public section

set_option maxRecDepth 16384

noncomputable section

namespace Cert.Mlp1Ideal.Layer

open Cert.Mlp1Ideal Cert.Mlp1Ideal.Gen Cert.QuantTile
open Idealize.ShloMosaic Idealize.ShloMosaic.TcCoe Idealize.ShloMosaic.Tactic
open Idealize.SL.Sem

variable (m : (ℓ : Loc nD τ sig) → Buf (Elt Ideal) ℓ)

/-- The layer before the quantiser, of the arguments. -/
def layer (c : Dev nD) : Fin 768 → Fin 3584 → EReal :=
  Mlp.first (m ((c : Thread nD τ).loc main_arg0)) (m ((c : Thread nD τ).loc main_arg1)) (m ((c : Thread nD τ).loc main_arg2))
    (m ((c : Thread nD τ).loc main_arg3)) (m ((c : Thread nD τ).loc main_arg4))

/-- A grid point's number. -/
def num (t : Fin cfg0.N) : Fin 7 := ⟨t.val, lt_of_lt_of_eq t.isLt N_0⟩

/-- A grid point's tile. -/
def tile (c : Dev nD) (t : Fin cfg0.N) : FVec Ideal Cert.Mlp1Ideal.S768x512 .f32 :=
  k0_pay5 (iblk m c 1 t) (iblk m c 0 t) (iblk m c 3 t) (iblk m c 4 t) (iblk m c 2 t)

/-! ## The blocks a grid point reads -/

theorem iblk0_apply (c : Dev nD) (t : Fin cfg0.N) (r : Fin 768) (k : Fin 3584) :
    iblk m c 0 t (ix2 r k) = m ((c : Thread nD τ).loc main_arg0) (ix2 r k) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r k)) = _
  congr 1
  funext a; apply Fin.ext
  match a with
  | ⟨0, _⟩ => show win0_0.index t (0 : Fin 2) * 768 + 1 * r.val = r.val; omega
  | ⟨1, _⟩ => show win0_0.index t (1 : Fin 2) * 3584 + 1 * k.val = k.val; omega

theorem iblk1_apply (c : Dev nD) (t : Fin cfg0.N) (r : Fin 24) (n : Fin 512) :
    iblk m c 1 t (ix2 r n) = m ((c : Thread nD τ).loc main_arg1) (ix2 r (⟨(num t).val * 512 + n.val, by have := (num t).isLt; omega⟩ : Fin 3584)) := by
  rw [← V_main_arg1 m c]
  have hi : ∀ t : Fin cfg0.N, win0_1.index t (0 : Fin 2) = 0 ∧ win0_1.index t (1 : Fin 2) = t.val := (by decide +kernel : ∀ t : Fin grid0.N, _)
  obtain ⟨e0, e1⟩ := hi t
  show V m c main_arg1 (((cfg0.win 1).blk t).view.emb (ix2 r n)) = _
  congr 1
  funext a; apply Fin.ext
  match a with
  | ⟨0, _⟩ => show win0_1.index t (0 : Fin 2) * 24 + 1 * r.val = r.val; omega
  | ⟨1, _⟩ => show win0_1.index t (1 : Fin 2) * 512 + 1 * n.val = t.val * 512 + n.val; omega

theorem row_apply (c : Dev nD) (n : Fin 3584) : V m c main_v0 (ix2 (0 : Fin 1) n) = m ((c : Thread nD τ).loc main_arg2) (ix1 n) := by
  entry_read
  pointwise

theorem iblk2_apply (c : Dev nD) (t : Fin cfg0.N) (n : Fin 512) :
    iblk m c 2 t (ix2 (0 : Fin 1) n) = m ((c : Thread nD τ).loc main_arg2) (ix1 (⟨(num t).val * 512 + n.val, by have := (num t).isLt; omega⟩ : Fin 3584)) := by
  rw [← row_apply m c]
  have hi : ∀ t : Fin cfg0.N, win0_2.index t (0 : Fin 2) = 0 ∧ win0_2.index t (1 : Fin 2) = t.val := (by decide +kernel : ∀ t : Fin grid0.N, _)
  obtain ⟨e0, e1⟩ := hi t
  show V m c main_v0 (((cfg0.win 2).blk t).view.emb (ix2 (0 : Fin 1) n)) = _
  congr 1
  funext a; apply Fin.ext
  match a with
  | ⟨0, _⟩ => show win0_2.index t (0 : Fin 2) * 1 + 1 * 0 = 0; omega
  | ⟨1, _⟩ => show win0_2.index t (1 : Fin 2) * 512 + 1 * n.val = t.val * 512 + n.val; omega

theorem iblk3_apply (c : Dev nD) (t : Fin cfg0.N) (k : Fin 3584) (n : Fin 512) :
    iblk m c 3 t (ix2 k n) = m ((c : Thread nD τ).loc main_arg3) (ix2 k (⟨(num t).val * 512 + n.val, by have := (num t).isLt; omega⟩ : Fin 3584)) := by
  rw [← V_main_arg3 m c]
  have hi : ∀ t : Fin cfg0.N, win0_3.index t (0 : Fin 2) = 0 ∧ win0_3.index t (1 : Fin 2) = t.val := (by decide +kernel : ∀ t : Fin grid0.N, _)
  obtain ⟨e0, e1⟩ := hi t
  show V m c main_arg3 (((cfg0.win 3).blk t).view.emb (ix2 k n)) = _
  congr 1
  funext a; apply Fin.ext
  match a with
  | ⟨0, _⟩ => show win0_3.index t (0 : Fin 2) * 3584 + 1 * k.val = k.val; omega
  | ⟨1, _⟩ => show win0_3.index t (1 : Fin 2) * 512 + 1 * n.val = t.val * 512 + n.val; omega

theorem iblk4_apply (c : Dev nD) (t : Fin cfg0.N) (k : Fin 28) (n : Fin 512) :
    iblk m c 4 t (ix2 k n) = m ((c : Thread nD τ).loc main_arg4) (ix2 k (⟨(num t).val * 512 + n.val, by have := (num t).isLt; omega⟩ : Fin 3584)) := by
  rw [← V_main_arg4 m c]
  have hi : ∀ t : Fin cfg0.N, win0_4.index t (0 : Fin 2) = 0 ∧ win0_4.index t (1 : Fin 2) = t.val := (by decide +kernel : ∀ t : Fin grid0.N, _)
  obtain ⟨e0, e1⟩ := hi t
  show V m c main_arg4 (((cfg0.win 4).blk t).view.emb (ix2 k n)) = _
  congr 1
  funext a; apply Fin.ext
  match a with
  | ⟨0, _⟩ => show win0_4.index t (0 : Fin 2) * 28 + 1 * k.val = k.val; omega
  | ⟨1, _⟩ => show win0_4.index t (1 : Fin 2) * 512 + 1 * n.val = t.val * 512 + n.val; omega

/-! ## The tile -/

theorem pay5_apply (v3 : Vec Ideal S24x512 .f32) (v4 : Vec Ideal S768x3584 .bf16) (v5 : Vec Ideal S3584x512 .fp8e4m3) (v6 : Vec Ideal S28x512 .f32)
    (v15 : Vec Ideal S1x512 .f32) (r : Fin 768) (n : Fin 512) :
    (k0_pay5 v3 v4 v5 v6 v15 (ix2 r n) : EReal)
      = Mlp.silu (v3 (ix2 (⟨r.val / 8 % 24, by omega⟩ : Fin 24) n) + ∑ k : Fin 3584, v4 (ix2 r k) * (v5 (ix2 k n) * v6 (ix2 (⟨k.val / 128, by omega⟩ : Fin 28) n))
          + v15 (ix2 (0 : Fin 1) n)) := by
  unfold k0_pay5
  pointwise
  rfl

theorem isTile (c : Dev nD) (t : Fin cfg0.N) : IsTile (layer m c) (num t) (tile m c t) := by
  intro r n
  unfold tile
  rw [pay5_apply]
  simp only [iblk0_apply, iblk1_apply, iblk2_apply, iblk3_apply, iblk4_apply]
  rfl

/-! ## What a grid point leaves -/

theorem coords_eq (t : Fin cfg0.N) : (grid0.coords t 0).val = (num t).val :=
  (by decide +kernel : ∀ t : Fin grid0.N, (grid0.coords t 0).val = t.val) t

theorem whole_at (c : Dev nD) (t : Fin cfg0.N) : (outsAt0 m c t.val t.isLt).1 = tile m c t := by
  by_cases h0 : t.val % 7 = 0
  · rw [outsAt0_A m c t h0]; dsimp only; frame_out; rfl
  · rw [outsAt0_B m c t h0]; dsimp only; frame_out; rfl

theorem codes_at (c : Dev nD) (t : Fin cfg0.N) : (outsAt0 m c t.val t.isLt).2.1 = View.canon (pieces (e := .fp8e4m3) fun q => codesV (part (tile m c t) q)) := by
  by_cases h0 : t.val % 7 = 0
  · rw [outsAt0_A m c t h0]; dsimp only; frame_out; rfl
  · rw [outsAt0_B m c t h0]; dsimp only; frame_out; rfl

theorem wide_at (c : Dev nD) (t : Fin cfg0.N) : (outsAt0 m c t.val t.isLt).2.2.2 = View.canon (pieces (e := .bf16) fun q => wideV (part (tile m c t) q)) := by
  by_cases h0 : t.val % 7 = 0
  · rw [outsAt0_A m c t h0]; dsimp only; frame_out; rfl
  · rw [outsAt0_B m c t h0]; dsimp only; frame_out; rfl

theorem scales_at_first (c : Dev nD) (t : Fin cfg0.N) (h0 : t.val % 7 = 0) :
    (outsAt0 m c t.val t.isLt).2.2.1 = put4 (tile m c t) (BitVec.ofNat 32 (grid0.coords t 0).val) (k0_pay6 (k0_pay4 (F := Ideal))) := by
  rw [outsAt0_A m c t h0]; dsimp only; frame_out; rfl

theorem scales_at_next (c : Dev nD) (t : Fin cfg0.N) (h0 : ¬ t.val % 7 = 0) :
    (outsAt0 m c t.val t.isLt).2.2.1 = put4 (tile m c t) (BitVec.ofNat 32 (grid0.coords t 0).val)
      (k0_pay6 (outsAt0 m c (t.val - 1) (Nat.lt_of_le_of_lt (Nat.sub_le _ _) t.isLt)).2.2.1) := by
  rw [outsAt0_B m c t h0]; dsimp only; frame_out; rfl

theorem pay6_apply (v : Vec Ideal Cert.Mlp1Ideal.S768x28 .f32) (r : Fin 768) (b : Fin 28) : k0_pay6 v (ix2 r b) = v (ix2 r b) := by
  unfold k0_pay6
  pointwise

/-- After grid point `n` the array of scales holds the layer's scales in its first `4 (n + 1)` columns. -/
theorem scales_upto (c : Dev nD) : ∀ (n : ℕ) (hn : n < cfg0.N) (r : Fin 768) (b : Fin 28), b.val / 4 ≤ n →
    ((outsAt0 m c n hn).2.2.1 (ix2 r b) : EReal) = Mlp.scales (layer m c) (ix2 r b) := by
  intro n
  induction n with
  | zero =>
    intro hn r b hb
    rw [scales_at_first m c ⟨0, hn⟩ rfl, coords_eq, (isTile m c ⟨0, hn⟩).put4_apply, if_pos]
    show b.val / 4 = 0
    omega
  | succ n ih =>
    intro hn r b hb
    have hN : n + 1 < 7 := lt_of_lt_of_eq hn N_0
    rw [scales_at_next m c ⟨n + 1, hn⟩ (by show ¬ (n + 1) % 7 = 0; omega), coords_eq, (isTile m c ⟨n + 1, hn⟩).put4_apply]
    by_cases h : b.val / 4 = n + 1
    · rw [if_pos (show b.val / 4 = (num ⟨n + 1, hn⟩).val from h)]
    · rw [if_neg (show ¬ b.val / 4 = (num ⟨n + 1, hn⟩).val from h), pay6_apply]
      exact ih _ r b (by omega)

end Cert.Mlp1Ideal.Layer

end
-- ==== Proof.Mlp1.Value.lean ====
/- What the first layer's three result arrays hold when the kernel ends. -/
module

public import proofs.«01_k».proof.Proof.Mlp1.Kernel

@[expose] public section

set_option maxRecDepth 16384

noncomputable section

namespace Cert.Mlp1Ideal.Layer

open Cert.Mlp1Ideal Cert.Mlp1Ideal.Gen Cert.QuantTile
open Idealize.ShloMosaic Idealize.ShloMosaic.TcCoe Idealize.ShloMosaic.Tactic
open Idealize.SL.Sem

variable (m : (ℓ : Loc nD τ sig) → Buf (Elt Ideal) ℓ) (ρ : Dev nD → PrngReg)

/-- The grid point whose tile holds column `n`. -/
def ptOf (i : Cert.Mlp1Ideal.S768x3584.Idx) : Fin cfg0.N :=
  ⟨(i 1).val / 512, lt_of_lt_of_eq (by have : (i 1).val < 3584 := (i 1).isLt; omega) (show 7 = cfg0.N from N_0.symm)⟩

/-- The block indices of the window of the layer itself. -/
theorem idx_facts5 : ∀ t : Fin cfg0.N, win0_5.index t (0 : Fin 2) = 0 ∧ win0_5.index t (1 : Fin 2) = t.val :=
  (by decide +kernel : ∀ t : Fin grid0.N, _)

/-- The block indices of the windows of the codes and the widened values. -/
theorem idx_facts68 : ∀ t : Fin cfg0.N, (win0_6.index t (0 : Fin 2) = 0 ∧ win0_6.index t (1 : Fin 2) = t.val)
    ∧ win0_8.index t (0 : Fin 2) = 0 ∧ win0_8.index t (1 : Fin 2) = t.val :=
  (by decide +kernel : ∀ t : Fin grid0.N, _)

/-- The window of the scales is its whole array. -/
theorem idx_facts7 : ∀ t : Fin cfg0.N, win0_7.index t (0 : Fin 2) = 0 ∧ win0_7.index t (1 : Fin 2) = 0 :=
  (by decide +kernel : ∀ t : Fin grid0.N, _)

theorem mem_blk6 (t : Fin cfg0.N) (i : Cert.Mlp1Ideal.S768x3584.Idx) :
    i ∈ ((cfg0.win 6).blk t).view.set ↔ ∀ a : Fin 2, win0_6.index t a * Cert.Mlp1Ideal.S768x512.size a ≤ (i a).val ∧ (i a).val < win0_6.index t a * Cert.Mlp1Ideal.S768x512.size a + Cert.Mlp1Ideal.S768x512.size a := by
  show i ∈ ((View.whole main_v1_1).slice (win0_6.rect t)).set ↔ _
  rw [View.set_slice_whole, Rect.mem_set_unit]
  exact Iff.rfl

theorem mem_blk7 (t : Fin cfg0.N) (i : Cert.Mlp1Ideal.S768x28.Idx) :
    i ∈ ((cfg0.win 7).blk t).view.set ↔ ∀ a : Fin 2, win0_7.index t a * Cert.Mlp1Ideal.S768x28.size a ≤ (i a).val ∧ (i a).val < win0_7.index t a * Cert.Mlp1Ideal.S768x28.size a + Cert.Mlp1Ideal.S768x28.size a := by
  show i ∈ ((View.whole main_v1_2).slice (win0_7.rect t)).set ↔ _
  rw [View.set_slice_whole, Rect.mem_set_unit]
  exact Iff.rfl

theorem mem_blk8 (t : Fin cfg0.N) (i : Cert.Mlp1Ideal.S768x3584.Idx) :
    i ∈ ((cfg0.win 8).blk t).view.set ↔ ∀ a : Fin 2, win0_8.index t a * Cert.Mlp1Ideal.S768x512.size a ≤ (i a).val ∧ (i a).val < win0_8.index t a * Cert.Mlp1Ideal.S768x512.size a + Cert.Mlp1Ideal.S768x512.size a := by
  show i ∈ ((View.whole main_v1_3).slice (win0_8.rect t)).set ↔ _
  rw [View.set_slice_whole, Rect.mem_set_unit]
  exact Iff.rfl

theorem mem_blk5 (t : Fin cfg0.N) (i : Cert.Mlp1Ideal.S768x3584.Idx) :
    i ∈ ((cfg0.win 5).blk t).view.set ↔ ∀ a : Fin 2, win0_5.index t a * Cert.Mlp1Ideal.S768x512.size a ≤ (i a).val ∧ (i a).val < win0_5.index t a * Cert.Mlp1Ideal.S768x512.size a + Cert.Mlp1Ideal.S768x512.size a := by
  show i ∈ ((View.whole main_v1_0).slice (win0_5.rect t)).set ↔ _
  rw [View.set_slice_whole, Rect.mem_set_unit]
  exact Iff.rfl

/-- What a point writes back of the layer itself is its block of it. -/
theorem flushed5_eq (c : Dev nD) (t : Fin cfg0.N) :
    (dats m 0 c).flushed 5 t = ((cfg0.win 5).blk t).view.read (Elt Ideal) (Mlp.whole (layer m c)) := by
  rw [Value.flushed5, whole_at]
  obtain ⟨e0, e1⟩ := idx_facts5 t
  funext y
  refine Eq.trans (?_ : _ = tile m c t (ix2 (⟨(y 0).val, (y 0).isLt⟩ : Fin 768) (⟨(y 1).val, (y 1).isLt⟩ : Fin 512)))
    ((isTile m c t _ _).trans ?_)
  · show tile m c t ((cfg0.win 5).xinj (grid0.coords t) y) = _
    refine congrArg (tile m c t) ?_
    funext a; apply Fin.ext
    match a with
    | ⟨0, _⟩ => rfl
    | ⟨1, _⟩ => rfl
  · show Mlp.whole (layer m c) (ix2 (⟨(y 0).val, (y 0).isLt⟩ : Fin 768) (⟨t.val * 512 + (y 1).val, _⟩ : Fin 3584)) = Mlp.whole (layer m c) (((cfg0.win 5).blk t).view.emb y)
    refine congrArg (Mlp.whole (layer m c)) ?_
    funext a; apply Fin.ext
    match a with
    | ⟨0, _⟩ => show (y 0).val = win0_5.index t (0 : Fin 2) * 768 + 1 * (y 0).val; omega
    | ⟨1, _⟩ => show t.val * 512 + (y 1).val = win0_5.index t (1 : Fin 2) * 512 + 1 * (y 1).val; omega

/-- What a point writes back of the codes is its block of the layer's codes. -/
theorem flushed6_eq (c : Dev nD) (t : Fin cfg0.N) :
    (dats m 0 c).flushed 6 t = ((cfg0.win 6).blk t).view.read (Elt Ideal) (Mlp.codes (layer m c)) := by
  rw [Value.flushed6, codes_at]
  obtain ⟨⟨e0, e1⟩, -⟩ := idx_facts68 t
  funext y
  refine Eq.trans (?_ : _ = View.canon (pieces (e := .fp8e4m3) fun q => codesV (part (tile m c t) q)) (ix2 (⟨(y 0).val, (y 0).isLt⟩ : Fin 768) (⟨(y 1).val, (y 1).isLt⟩ : Fin 512)))
    (((isTile m c t).codes_eq _ _).trans ?_)
  · show View.canon _ ((cfg0.win 6).xinj (grid0.coords t) y) = _
    congr 1
    funext a; apply Fin.ext
    match a with
    | ⟨0, _⟩ => rfl
    | ⟨1, _⟩ => rfl
  · show Mlp.codes (layer m c) _ = Mlp.codes (layer m c) (((cfg0.win 6).blk t).view.emb y)
    congr 1
    funext a; apply Fin.ext
    match a with
    | ⟨0, _⟩ => show (y 0).val = win0_6.index t (0 : Fin 2) * 768 + 1 * (y 0).val; omega
    | ⟨1, _⟩ => show t.val * 512 + (y 1).val = win0_6.index t (1 : Fin 2) * 512 + 1 * (y 1).val; omega

/-- What a point writes back of the widened values is its block of the layer's. -/
theorem flushed8_eq (c : Dev nD) (t : Fin cfg0.N) :
    (dats m 0 c).flushed 8 t = ((cfg0.win 8).blk t).view.read (Elt Ideal) (Mlp.wide (layer m c)) := by
  rw [Value.flushed8, wide_at]
  obtain ⟨-, e0, e1⟩ := idx_facts68 t
  funext y
  refine Eq.trans (?_ : _ = View.canon (pieces (e := .bf16) fun q => wideV (part (tile m c t) q)) (ix2 (⟨(y 0).val, (y 0).isLt⟩ : Fin 768) (⟨(y 1).val, (y 1).isLt⟩ : Fin 512)))
    (((isTile m c t).wide_eq _ _).trans ?_)
  · show View.canon _ ((cfg0.win 8).xinj (grid0.coords t) y) = _
    congr 1
    funext a; apply Fin.ext
    match a with
    | ⟨0, _⟩ => rfl
    | ⟨1, _⟩ => rfl
  · show Mlp.wide (layer m c) _ = Mlp.wide (layer m c) (((cfg0.win 8).blk t).view.emb y)
    congr 1
    funext a; apply Fin.ext
    match a with
    | ⟨0, _⟩ => show (y 0).val = win0_8.index t (0 : Fin 2) * 768 + 1 * (y 0).val; omega
    | ⟨1, _⟩ => show t.val * 512 + (y 1).val = win0_8.index t (1 : Fin 2) * 512 + 1 * (y 1).val; omega

/-- What the last point writes back of the scales is all of the layer's scales. -/
theorem flushed7_eq (c : Dev nD) (t : Fin cfg0.N) (hf : (cfg0.win 7).flush t = true) :
    (dats m 0 c).flushed 7 t = ((cfg0.win 7).blk t).view.read (Elt Ideal) (Mlp.scales (layer m c)) := by
  rw [Value.flushed7]
  have ht : t.val % 7 = 6 := (flush0_7 t).mp hf
  obtain ⟨e0, e1⟩ := idx_facts7 t
  funext y
  have hy : (y 1).val < 28 := (y 1).isLt
  refine Eq.trans (?_ : _ = (outsAt0 m c t.val t.isLt).2.2.1 (ix2 (⟨(y 0).val, (y 0).isLt⟩ : Fin 768) (⟨(y 1).val, hy⟩ : Fin 28)))
    ((scales_upto m c t.val t.isLt _ _ (by show (y 1).val / 4 ≤ t.val; omega)).trans ?_)
  · show (outsAt0 m c t.val t.isLt).2.2.1 ((cfg0.win 7).xinj (grid0.coords t) y) = _
    refine congrArg (outsAt0 m c t.val t.isLt).2.2.1 ?_
    funext a; apply Fin.ext
    match a with
    | ⟨0, _⟩ => rfl
    | ⟨1, _⟩ => rfl
  · show Mlp.scales (layer m c) _ = Mlp.scales (layer m c) (((cfg0.win 7).blk t).view.emb y)
    congr 1
    funext a; apply Fin.ext
    match a with
    | ⟨0, _⟩ => show (y 0).val = win0_7.index t (0 : Fin 2) * 768 + 1 * (y 0).val; omega
    | ⟨1, _⟩ => show (y 1).val = win0_7.index t (1 : Fin 2) * 28 + 1 * (y 1).val; omega

/-- The layer itself when the program ends. -/
theorem final5 (c : Dev nD) : (dats m 0 c).arrAt 5 cfg0.N = Mlp.whole (layer m c) :=
  (dats m 0 c).arrAt_eq_of_cover 5 (Mlp.whole (layer m c)) (fun t _ => flushed5_eq m c t) fun i =>
    ⟨ptOf i, flush0_5 _, (mem_blk5 (ptOf i) i).mpr fun a => by
      obtain ⟨e0, e1⟩ := idx_facts5 (ptOf i)
      have h0 : (i 0).val < 768 := (i 0).isLt
      have h1 : (i 1).val < 3584 := (i 1).isLt
      have hp : (ptOf i).val = (i 1).val / 512 := rfl
      match a with
      | ⟨0, _⟩ => show win0_5.index (ptOf i) (0 : Fin 2) * 768 ≤ (i 0).val ∧ (i 0).val < win0_5.index (ptOf i) (0 : Fin 2) * 768 + 768; omega
      | ⟨1, _⟩ => show win0_5.index (ptOf i) (1 : Fin 2) * 512 ≤ (i 1).val ∧ (i 1).val < win0_5.index (ptOf i) (1 : Fin 2) * 512 + 512; omega⟩

/-- The codes when the program ends. -/
theorem final6 (c : Dev nD) : (dats m 0 c).arrAt 6 cfg0.N = Mlp.codes (layer m c) :=
  (dats m 0 c).arrAt_eq_of_cover 6 (Mlp.codes (layer m c)) (fun t _ => flushed6_eq m c t) fun i =>
    ⟨ptOf i, flush0_6 _, (mem_blk6 (ptOf i) i).mpr fun a => by
      obtain ⟨⟨e0, e1⟩, -⟩ := idx_facts68 (ptOf i)
      have h0 : (i 0).val < 768 := (i 0).isLt
      have h1 : (i 1).val < 3584 := (i 1).isLt
      have hp : (ptOf i).val = (i 1).val / 512 := rfl
      match a with
      | ⟨0, _⟩ => show win0_6.index (ptOf i) (0 : Fin 2) * 768 ≤ (i 0).val ∧ (i 0).val < win0_6.index (ptOf i) (0 : Fin 2) * 768 + 768; omega
      | ⟨1, _⟩ => show win0_6.index (ptOf i) (1 : Fin 2) * 512 ≤ (i 1).val ∧ (i 1).val < win0_6.index (ptOf i) (1 : Fin 2) * 512 + 512; omega⟩

/-- The widened values when the program ends. -/
theorem final8 (c : Dev nD) : (dats m 0 c).arrAt 8 cfg0.N = Mlp.wide (layer m c) :=
  (dats m 0 c).arrAt_eq_of_cover 8 (Mlp.wide (layer m c)) (fun t _ => flushed8_eq m c t) fun i =>
    ⟨ptOf i, flush0_8 _, (mem_blk8 (ptOf i) i).mpr fun a => by
      obtain ⟨-, e0, e1⟩ := idx_facts68 (ptOf i)
      have h0 : (i 0).val < 768 := (i 0).isLt
      have h1 : (i 1).val < 3584 := (i 1).isLt
      have hp : (ptOf i).val = (i 1).val / 512 := rfl
      match a with
      | ⟨0, _⟩ => show win0_8.index (ptOf i) (0 : Fin 2) * 768 ≤ (i 0).val ∧ (i 0).val < win0_8.index (ptOf i) (0 : Fin 2) * 768 + 768; omega
      | ⟨1, _⟩ => show win0_8.index (ptOf i) (1 : Fin 2) * 512 ≤ (i 1).val ∧ (i 1).val < win0_8.index (ptOf i) (1 : Fin 2) * 512 + 512; omega⟩

/-- The last grid point. -/
def tLast : Fin cfg0.N := ⟨6, lt_of_lt_of_eq (by decide) (show 7 = cfg0.N from N_0.symm)⟩

/-- The scales when the program ends. -/
theorem final7 (c : Dev nD) : (dats m 0 c).arrAt 7 cfg0.N = Mlp.scales (layer m c) :=
  (dats m 0 c).arrAt_eq_of_cover 7 (Mlp.scales (layer m c)) (flushed7_eq m c) fun i =>
    ⟨tLast, (flush0_7 tLast).mpr rfl, (mem_blk7 tLast i).mpr fun a => by
      obtain ⟨e0, e1⟩ := idx_facts7 tLast
      have h0 : (i 0).val < 768 := (i 0).isLt
      have h1 : (i 1).val < 28 := (i 1).isLt
      match a with
      | ⟨0, _⟩ => show win0_7.index tLast (0 : Fin 2) * 768 ≤ (i 0).val ∧ (i 0).val < win0_7.index tLast (0 : Fin 2) * 768 + 768; omega
      | ⟨1, _⟩ => show win0_7.index tLast (1 : Fin 2) * 28 ≤ (i 1).val ∧ (i 1).val < win0_7.index tLast (1 : Fin 2) * 28 + 28; omega⟩

/-- The kernel ends with the layer, its codes, scales and widened values, its arguments unchanged. -/
theorem run : θ_run defs (onTc (τ := τ) (main (F := Ideal))) ⟨m, fun _ => 0, ρ⟩ fun r => ∀ c : Dev nD,
      r.2.mem ((c : Thread nD τ).loc main_v1_0) = Mlp.whole (layer m c)
      ∧ r.2.mem ((c : Thread nD τ).loc main_v1_1) = Mlp.codes (layer m c)
      ∧ r.2.mem ((c : Thread nD τ).loc main_v1_2) = Mlp.scales (layer m c)
      ∧ r.2.mem ((c : Thread nD τ).loc main_v1_3) = Mlp.wide (layer m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, ha⟩ := h c
    exact ⟨h5.trans (final5 m c), h6.trans (final6 m c), h7.trans (final7 m c), h8.trans (final8 m c), ha⟩) (Value.run_blocks m ρ)

end Cert.Mlp1Ideal.Layer

end
-- ==== Proof.Mlp1.Reference.lean ====
/- The first layer's reference over the extended reals: its four results are the layer, its codes, scales and widened values. -/
module

public import proofs.«01_k».proof.Proof.Gen.Mlp1ReferenceIdeal.Value
public import proofs.«01_k».proof.Proof.QuantWhole
public import Idealize.ShloMosaic.Lib.Claim

@[expose] public section

set_option maxRecDepth 16384

noncomputable section

namespace Cert.Mlp1ReferenceIdeal.Layer

open Cert.Mlp1ReferenceIdeal Cert.Mlp1ReferenceIdeal.Gen Cert.QuantWhole
open Idealize.ShloMosaic Idealize.ShloMosaic.TcCoe Idealize.ShloMosaic.Tactic
open Idealize.SL.Sem

variable (m : (ℓ : Loc nD τ sig) → Buf (Elt Ideal) ℓ) (ρ : Dev nD → PrngReg)

/-- The layer before the quantiser, of the arguments. -/
def layer (c : Dev nD) : Fin 768 → Fin 3584 → EReal :=
  Mlp.first (m ((c : Thread nD τ).loc main_arg0)) (m ((c : Thread nD τ).loc main_arg1)) (m ((c : Thread nD τ).loc main_arg2))
    (m ((c : Thread nD τ).loc main_arg3)) (m ((c : Thread nD τ).loc main_arg4))

/-! ## The operands, whole -/

theorem iblk0_eq (c : Dev nD) (t : Fin cfg0.N) (r : Fin 768) (k : Fin 3584) :
    iblk m c 0 t (ix2 r k) = m ((c : Thread nD τ).loc main_arg0) (ix2 r k) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r k)) = _
  congr 1
  funext a; apply Fin.ext
  match a with
  | ⟨0, _⟩ => show win0_0.index t (0 : Fin 2) * 768 + 1 * r.val = r.val; omega
  | ⟨1, _⟩ => show win0_0.index t (1 : Fin 2) * 3584 + 1 * k.val = k.val; omega

theorem iblk1_eq (c : Dev nD) (t : Fin cfg0.N) (r : Fin 24) (k : Fin 3584) :
    iblk m c 1 t (ix2 r k) = m ((c : Thread nD τ).loc main_arg1) (ix2 r k) := by
  rw [← V_main_arg1 m c]
  have hi : ∀ t : Fin cfg0.N, win0_1.index t (0 : Fin 2) = 0 ∧ win0_1.index t (1 : Fin 2) = 0 := (by decide +kernel : ∀ t : Fin grid0.N, _)
  obtain ⟨e0, e1⟩ := hi t
  show V m c main_arg1 (((cfg0.win 1).blk t).view.emb (ix2 r k)) = _
  congr 1
  funext a; apply Fin.ext
  match a with
  | ⟨0, _⟩ => show win0_1.index t (0 : Fin 2) * 24 + 1 * r.val = r.val; omega
  | ⟨1, _⟩ => show win0_1.index t (1 : Fin 2) * 3584 + 1 * k.val = k.val; omega

theorem row_apply (c : Dev nD) (n : Fin 3584) : V m c main_v0 (ix2 (0 : Fin 1) n) = m ((c : Thread nD τ).loc main_arg2) (ix1 n) := by
  entry_read
  pointwise

theorem iblk2_eq (c : Dev nD) (t : Fin cfg0.N) (n : Fin 3584) :
    iblk m c 2 t (ix2 (0 : Fin 1) n) = m ((c : Thread nD τ).loc main_arg2) (ix1 n) := by
  rw [← row_apply m c]
  have hi : ∀ t : Fin cfg0.N, win0_2.index t (0 : Fin 2) = 0 ∧ win0_2.index t (1 : Fin 2) = 0 := (by decide +kernel : ∀ t : Fin grid0.N, _)
  obtain ⟨e0, e1⟩ := hi t
  show V m c main_v0 (((cfg0.win 2).blk t).view.emb (ix2 (0 : Fin 1) n)) = _
  congr 1
  funext a; apply Fin.ext
  match a with
  | ⟨0, _⟩ => show win0_2.index t (0 : Fin 2) * 1 + 1 * 0 = 0; omega
  | ⟨1, _⟩ => show win0_2.index t (1 : Fin 2) * 3584 + 1 * n.val = n.val; omega

theorem iblk3_eq (c : Dev nD) (t : Fin cfg0.N) (k : Fin 3584) (n : Fin 3584) :
    iblk m c 3 t (ix2 k n) = m ((c : Thread nD τ).loc main_arg3) (ix2 k n) := by
  rw [← V_main_arg3 m c]
  have hi : ∀ t : Fin cfg0.N, win0_3.index t (0 : Fin 2) = 0 ∧ win0_3.index t (1 : Fin 2) = 0 := (by decide +kernel : ∀ t : Fin grid0.N, _)
  obtain ⟨e0, e1⟩ := hi t
  show V m c main_arg3 (((cfg0.win 3).blk t).view.emb (ix2 k n)) = _
  congr 1
  funext a; apply Fin.ext
  match a with
  | ⟨0, _⟩ => show win0_3.index t (0 : Fin 2) * 3584 + 1 * k.val = k.val; omega
  | ⟨1, _⟩ => show win0_3.index t (1 : Fin 2) * 3584 + 1 * n.val = n.val; omega

theorem iblk4_eq (c : Dev nD) (t : Fin cfg0.N) (k : Fin 28) (n : Fin 3584) :
    iblk m c 4 t (ix2 k n) = m ((c : Thread nD τ).loc main_arg4) (ix2 k n) := by
  rw [← V_main_arg4 m c]
  have hi : ∀ t : Fin cfg0.N, win0_4.index t (0 : Fin 2) = 0 ∧ win0_4.index t (1 : Fin 2) = 0 := (by decide +kernel : ∀ t : Fin grid0.N, _)
  obtain ⟨e0, e1⟩ := hi t
  show V m c main_arg4 (((cfg0.win 4).blk t).view.emb (ix2 k n)) = _
  congr 1
  funext a; apply Fin.ext
  match a with
  | ⟨0, _⟩ => show win0_4.index t (0 : Fin 2) * 28 + 1 * k.val = k.val; omega
  | ⟨1, _⟩ => show win0_4.index t (1 : Fin 2) * 3584 + 1 * n.val = n.val; omega

/-! ## The layer -/

theorem pay6_apply (v0 : Vec Ideal S3584x3584 .fp8e4m3) (v3 : Vec Ideal S28x3584 .f32) (v9 : Vec Ideal S24x3584 .f32)
    (v14 : Vec Ideal Cert.Mlp1ReferenceIdeal.S768x3584 .bf16) (v17 : Vec Ideal S1x3584 .f32) (r : Fin 768) (n : Fin 3584) :
    (k0_pay6 v0 v3 v9 v14 v17 (ix2 r n) : EReal)
      = Mlp.silu (v9 (ix2 (⟨r.val / 8 % 24, by omega⟩ : Fin 24) n)
          + ∑ x : Fin 3584, v14 (ix2 r x) * (v0 (ix2 x n) * v3 (ix2 (⟨x.val / 128, by omega⟩ : Fin 28) n)) + v17 (ix2 (0 : Fin 1) n)) := by
  unfold k0_pay6
  pointwise
  rfl

/-- The layer, cut into blocks. -/
theorem cut_apply (z : FVec Ideal Cert.Mlp1ReferenceIdeal.S768x3584 .f32) (r : Fin 768) (b : Fin 28) (k : Fin 128) :
    shapeCast Cert.Mlp1ReferenceIdeal.S768x28x128 z shapeCasts_S768x3584_S768x28x128 (ix3 r b k) = z (ix2 r (⟨b.val * 128 + k.val, by omega⟩ : Fin 3584)) := by
  pointwise

/-! ## The quantiser -/

variable (y : FVec Ideal Cert.Mlp1ReferenceIdeal.S768x28x128 .f32)

/-- Where a level is below the normal numbers. -/
def lowW (l : FVec Ideal Cert.Mlp1ReferenceIdeal.S768x28 .f32) : IVec Cert.Mlp1ReferenceIdeal.S768x28 1 :=
  cmpf .olt l (broadcast Cert.Mlp1ReferenceIdeal.S768x28 (Scalar.ofBits .f32 0x00800000#32))

theorem pay1_eq : k0_pay1 (levelW y) (clippedW (levelW y)) (lowW (levelW y)) (Scalar.ofBits .f32 0x7F800000#32) = expoW y := by
  unfold k0_pay1 lowW expoW outsideW
  generalize clippedW (levelW y) = a
  generalize levelW y = b
  rfl

theorem pay3_eq : k0_pay3 (levelW y) (clippedW (levelW y)) (lowW (levelW y)) (Scalar.ofBits .f32 0x7F800000#32) = scaleW y := by
  unfold k0_pay3 scaleW
  rw [pay1_eq]

theorem pay2_eq : k0_pay2 y (levelW y) (clippedW (levelW y)) (lowW (levelW y)) (Scalar.ofBits .f32 0x7F800000#32) = blocksW y := by
  unfold k0_pay2 blocksW
  rw [pay1_eq]

theorem pay4_eq : k0_pay4 y (levelW y) (clippedW (levelW y)) (lowW (levelW y)) (Scalar.ofBits .f32 0x7F800000#32) = codesW y := by
  unfold k0_pay4 codesW
  rw [pay2_eq]

theorem pay5_eq : k0_pay5 y (levelW y) (clippedW (levelW y)) (lowW (levelW y)) (Scalar.ofBits .f32 0x7F800000#32) = wideW y := by
  unfold k0_pay5 wideW
  rw [pay2_eq, pay3_eq]

variable (v0 : Vec Ideal S3584x3584 .fp8e4m3) (v3 : Vec Ideal S28x3584 .f32) (v9 : Vec Ideal S24x3584 .f32)
  (v14 : Vec Ideal Cert.Mlp1ReferenceIdeal.S768x3584 .bf16) (v17 : Vec Ideal S1x3584 .f32)

theorem pay8_eq : k0_pay8 v0 v3 v9 v14 v17 = levelW (k0_pay7 v0 v3 v9 v14 v17) := by
  unfold k0_pay8 levelW
  generalize k0_pay7 v0 v3 v9 v14 v17 = z
  rfl

theorem pay9_eq : k0_pay9 v0 v3 v9 v14 v17 = clippedW (levelW (k0_pay7 v0 v3 v9 v14 v17)) := by
  rw [← pay8_eq]
  unfold k0_pay9 clippedW
  rfl

theorem pay10_eq : k0_pay10 v0 v3 v9 v14 v17 = lowW (levelW (k0_pay7 v0 v3 v9 v14 v17)) := by
  rw [← pay8_eq]
  unfold k0_pay10 lowW
  rfl

/-! ## The results -/

/-- The value before the quantiser, by blocks. -/
def before (c : Dev nD) (t : Fin cfg0.N) : FVec Ideal Cert.Mlp1ReferenceIdeal.S768x28x128 .f32 :=
  k0_pay11 (iblk m c 0 t) (iblk m c 1 t) (iblk m c 2 t) (iblk m c 3 t) (iblk m c 4 t)

theorem isWhole (c : Dev nD) (t : Fin cfg0.N) : IsWhole (before m c t) (layer m c) := by
  intro r b k
  unfold before
  refine (cut_apply _ r b k).trans ((pay6_apply _ _ _ _ _ r _).trans ?_)
  pointwise
  simp only [iblk0_eq, iblk1_eq, iblk2_eq, iblk3_eq, iblk4_eq]
  rfl

theorem level_eq (c : Dev nD) (t : Fin cfg0.N) :
    k0_pay12 (iblk m c 0 t) (iblk m c 1 t) (iblk m c 2 t) (iblk m c 3 t) (iblk m c 4 t) = levelW (before m c t) := by
  unfold k0_pay12 before k0_pay11
  exact pay8_eq _ _ _ _ _

theorem clipped_eq (c : Dev nD) (t : Fin cfg0.N) :
    k0_pay13 (iblk m c 0 t) (iblk m c 1 t) (iblk m c 2 t) (iblk m c 3 t) (iblk m c 4 t) = clippedW (levelW (before m c t)) := by
  unfold k0_pay13 before k0_pay11
  exact pay9_eq _ _ _ _ _

theorem low_eq (c : Dev nD) (t : Fin cfg0.N) :
    k0_pay14 (iblk m c 0 t) (iblk m c 1 t) (iblk m c 2 t) (iblk m c 3 t) (iblk m c 4 t) = lowW (levelW (before m c t)) := by
  unfold k0_pay14 before k0_pay11
  exact pay10_eq _ _ _ _ _

theorem whole_eq (c : Dev nD) (t : Fin cfg0.N) :
    k0_pay6 (iblk m c 3 t) (iblk m c 4 t) (iblk m c 1 t) (iblk m c 0 t) (iblk m c 2 t) = Mlp.whole (layer m c) := by
  funext i
  have e : i = ix2 (i 0 : Fin 768) (i 1 : Fin 3584) := by
    funext a
    match a with
    | ⟨0, _⟩ => rfl
    | ⟨1, _⟩ => rfl
  have h : ∀ (r : Fin 768) (n : Fin 3584), k0_pay6 (iblk m c 3 t) (iblk m c 4 t) (iblk m c 1 t) (iblk m c 0 t) (iblk m c 2 t) (ix2 r n)
      = Mlp.whole (layer m c) (ix2 r n) := by
    intro r n
    refine (pay6_apply _ _ _ _ _ r n).trans ?_
    simp only [iblk0_eq, iblk1_eq, iblk2_eq, iblk3_eq, iblk4_eq]
    rfl
  rw [e]
  exact h _ _

theorem whole_at (c : Dev nD) : (dats m 0 c).arrAt 5 cfg0.N = Mlp.whole (layer m c) :=
  (dats m 0 c).arrAt_eq_of_covers 5 (Mlp.whole (layer m c)) (by decide +kernel) (fun t hf y => by
    have hi : ∀ t : Fin cfg0.N, win0_5.index t (0 : Fin 2) = 0 ∧ win0_5.index t (1 : Fin 2) = 0 := (by decide +kernel : ∀ t : Fin grid0.N, _)
    obtain ⟨e0, e1⟩ := hi t
    blk_simp
    rw [after0_5]
    frame_out
    rw [whole_eq]
    refine congrArg (Mlp.whole (layer m c)) ?_
    funext a; apply Fin.ext
    match a with
    | ⟨0, _⟩ => show (y 0).val = win0_5.index t (0 : Fin 2) * 768 + 1 * (y 0).val; omega
    | ⟨1, _⟩ => show (y 1).val = win0_5.index t (1 : Fin 2) * 3584 + 1 * (y 1).val; omega)

theorem codes_at (c : Dev nD) : (dats m 0 c).arrAt 6 cfg0.N = Mlp.codes (layer m c) :=
  (dats m 0 c).arrAt_eq_of_covers 6 (Mlp.codes (layer m c)) (by decide +kernel) (fun t hf y => by
    have hi : ∀ t : Fin cfg0.N, win0_6.index t (0 : Fin 2) = 0 ∧ win0_6.index t (1 : Fin 2) = 0 := (by decide +kernel : ∀ t : Fin grid0.N, _)
    obtain ⟨e0, e1⟩ := hi t
    blk_simp
    rw [after0_6]
    frame_out
    rw [level_eq, clipped_eq, low_eq, ← before, pay4_eq, (isWhole m c t).codes_eq]
    refine congrArg (Mlp.codes (layer m c)) ?_
    funext a; apply Fin.ext
    match a with
    | ⟨0, _⟩ => show (y 0).val = win0_6.index t (0 : Fin 2) * 768 + 1 * (y 0).val; omega
    | ⟨1, _⟩ => show (y 1).val = win0_6.index t (1 : Fin 2) * 3584 + 1 * (y 1).val; omega)

theorem scales_at (c : Dev nD) : (dats m 0 c).arrAt 7 cfg0.N = Mlp.scales (layer m c) :=
  (dats m 0 c).arrAt_eq_of_covers 7 (Mlp.scales (layer m c)) (by decide +kernel) (fun t hf y => by
    have hi : ∀ t : Fin cfg0.N, win0_7.index t (0 : Fin 2) = 0 ∧ win0_7.index t (1 : Fin 2) = 0 := (by decide +kernel : ∀ t : Fin grid0.N, _)
    obtain ⟨e0, e1⟩ := hi t
    blk_simp
    rw [after0_7]
    frame_out
    rw [level_eq, clipped_eq, low_eq, pay3_eq, (isWhole m c t).scales_eq]
    refine congrArg (Mlp.scales (layer m c)) ?_
    funext a; apply Fin.ext
    match a with
    | ⟨0, _⟩ => show (y 0).val = win0_7.index t (0 : Fin 2) * 768 + 1 * (y 0).val; omega
    | ⟨1, _⟩ => show (y 1).val = win0_7.index t (1 : Fin 2) * 28 + 1 * (y 1).val; omega)

theorem wide_at (c : Dev nD) : (dats m 0 c).arrAt 8 cfg0.N = Mlp.wide (layer m c) :=
  (dats m 0 c).arrAt_eq_of_covers 8 (Mlp.wide (layer m c)) (by decide +kernel) (fun t hf y => by
    have hi : ∀ t : Fin cfg0.N, win0_8.index t (0 : Fin 2) = 0 ∧ win0_8.index t (1 : Fin 2) = 0 := (by decide +kernel : ∀ t : Fin grid0.N, _)
    obtain ⟨e0, e1⟩ := hi t
    blk_simp
    rw [after0_8]
    frame_out
    rw [level_eq, clipped_eq, low_eq, ← before, pay5_eq, (isWhole m c t).wide_eq]
    refine congrArg (Mlp.wide (layer m c)) ?_
    funext a; apply Fin.ext
    match a with
    | ⟨0, _⟩ => show (y 0).val = win0_8.index t (0 : Fin 2) * 768 + 1 * (y 0).val; omega
    | ⟨1, _⟩ => show (y 1).val = win0_8.index t (1 : Fin 2) * 3584 + 1 * (y 1).val; omega)

/-- The reference ends with the layer, its codes, scales and widened values, its arguments unchanged. -/
theorem run : θ_run defs (onTc (τ := τ) (main (F := Ideal))) ⟨m, fun _ => 0, ρ⟩ fun r => ∀ c : Dev nD,
      r.2.mem ((c : Thread nD τ).loc main_v1_0) = Mlp.whole (layer m c)
      ∧ r.2.mem ((c : Thread nD τ).loc main_v1_1) = Mlp.codes (layer m c)
      ∧ r.2.mem ((c : Thread nD τ).loc main_v1_2) = Mlp.scales (layer m c)
      ∧ r.2.mem ((c : Thread nD τ).loc main_v1_3) = Mlp.wide (layer m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, ha⟩ := h c
    exact ⟨h5.trans (whole_at m c), h6.trans (codes_at m c), h7.trans (scales_at m c), h8.trans (wide_at m c), ha⟩) (Value.run_blocks m ρ)

end Cert.Mlp1ReferenceIdeal.Layer

end
-- ==== Proof.Mlp1.Algebra.lean ====
/- The first layer's kernel and its reference over the extended reals end with the same four results. -/
module

public import proofs.«01_k».proof.Defs
public import proofs.«01_k».proof.Proof.Mlp1.Value
public import proofs.«01_k».proof.Proof.Mlp1.Reference

@[expose] public section

set_option maxRecDepth 16384

noncomputable section

namespace Cert.Mlp1Algebra

open Idealize.ShloMosaic Idealize.ShloMosaic.TcCoe Idealize.SL.Sem

/-- THE VALUE CLAIM of the first layer: from memories with the same arguments, both programs end with the same results. -/
theorem algebraic : Cert.algebraic_Mlp1Ideal_Mlp1ReferenceIdeal := by
  intro m ρ m' ρ' _ hag
  have hl : ∀ c : Dev Cert.Mlp1Ideal.nD, Cert.Mlp1ReferenceIdeal.Layer.layer m' c = Cert.Mlp1Ideal.Layer.layer m c := by
    intro c
    obtain ⟨h0, h1, h2, h3, h4⟩ := hag c
    unfold Cert.Mlp1ReferenceIdeal.Layer.layer Cert.Mlp1Ideal.Layer.layer
    rw [h0, h1, h2, h3, h4]
  refine ⟨fun c => Mlp.whole (Cert.Mlp1Ideal.Layer.layer m c), fun c => Mlp.codes (Cert.Mlp1Ideal.Layer.layer m c), fun c => Mlp.scales (Cert.Mlp1Ideal.Layer.layer m c), fun c => Mlp.wide (Cert.Mlp1Ideal.Layer.layer m c),
    Cert.Mlp1Ideal.Layer.run m ρ, ?_⟩
  refine (θ_run _ _ _).mono (fun r h c => ?_) (Cert.Mlp1ReferenceIdeal.Layer.run m' ρ')
  obtain ⟨h5, h6, h7, h8, ha⟩ := h c
  rw [hl c] at h5 h6 h7 h8
  exact ⟨h5, h6, h7, h8, ha⟩

end Cert.Mlp1Algebra

end
-- ==== Proof.First.Bits.Points.lean ====
/- What the body's runs are stated over: the branch condition in closed form over the grid points, where the outputs are
   idle, the staging and scratch memrefs, and what the launch hands the region. -/
module

public import proofs.«01_k».proof.Proof.Gen.First.Frame
public import proofs.«01_k».proof.Proof.Gen.First.Skeleton

@[expose] public section

set_option maxRecDepth 65536

noncomputable section

namespace Cert.First.Rows

open Cert.First Cert.First.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch condition -/

/-- The condition of the body's branch, from the grid coordinate. -/
abbrev cond0_0 (i : grid0.Coords) : Prop := k0_cond1 i = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Output 9 is stored at the first point, idle at the others, and written back at the last. -/
theorem liveAt0_9_A : ∀ t : Fin cfg0.N, t.val = 0 → cfg0.idle 9 (grid0.coords t) = false := by decide +kernel
theorem idleAt0_9_B : ∀ t : Fin cfg0.N, t.val ≠ 0 → cfg0.idle 9 (grid0.coords t) = true := by decide +kernel
theorem flush0_9_B : ∀ t : Fin cfg0.N, t.val ≠ 6 → (cfg0.win 9).flush t = false := by decide +kernel
theorem flush0_9_C : ∀ t : Fin cfg0.N, t.val = 6 → (cfg0.win 9).flush t = true := by decide +kernel
theorem unfetched0_9 : ∀ t : Fin cfg0.N, t.val ≠ 0 → (cfg0.win 9).fetch t = false := by decide +kernel
/-- Output 10 is stored at the first point, idle at the others, and written back at the last. -/
theorem liveAt0_10_A : ∀ t : Fin cfg0.N, t.val = 0 → cfg0.idle 10 (grid0.coords t) = false := by decide +kernel
theorem idleAt0_10_B : ∀ t : Fin cfg0.N, t.val ≠ 0 → cfg0.idle 10 (grid0.coords t) = true := by decide +kernel
theorem flush0_10_B : ∀ t : Fin cfg0.N, t.val ≠ 6 → (cfg0.win 10).flush t = false := by decide +kernel
theorem flush0_10_C : ∀ t : Fin cfg0.N, t.val = 6 → (cfg0.win 10).flush t = true := by decide +kernel
theorem unfetched0_10 : ∀ t : Fin cfg0.N, t.val ≠ 0 → (cfg0.win 10).fetch t = false := by decide +kernel

/-! ## The memrefs the body is called with -/

/-- Each window's current staging memref at point `t`, and its wholeness. -/
abbrev ms0_0 (t : Fin cfg0.N) : Memref sig .tc .vmem S24x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3584x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S24x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S24x3584 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x28 .f32 := win0_10.stage (cfg0.slots t 10)
abbrev hs0_10 (t : Fin cfg0.N) : (ms0_10 t).IsWhole := hstage0_10 ((cfg0.slots t 10).cast nbuf0_10)
/-- The scratch operand: a whole buffer of the kernel's own, passed beside the windows. -/
abbrev scM0_0 : Memref sig .tc .vmem S24x3584 .bf16 := Memref.whole cc0_scratch0

/-- What the launch hands the region, with the scratch operand as a memref owned at some contents. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

end Cert.First.Rows

end
-- ==== Proof.First.Bits.Body.lean ====
/- The body's two runs: at the first grid point, where the rows are quantised, and at the others. -/
module

public import proofs.«01_k».proof.Proof.First.Bits.Points
public import Idealize.ShloMosaic.Lib.VecWindow

@[expose] public section

set_option maxRecDepth 65536

noncomputable section

namespace Cert.First.Rows

open Cert.First Cert.First.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading back what the body stores -/

/-- A load of a whole memref that holds `x` reads `x`. -/
theorem load_unread {κ : Kind} {sp : Space} {s : Shape} {e : EltTy} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x := by
  rw [View.readAt_full, h.read_unread]

/-- The first column of the scales of the embedding. -/
def first1 (x2 : Vec F S24x128 .f32) : Vec F S24x1 .f32 := View.ld x2 (Rect.unit (s := S24x128) ![0, 0] S24x1.size inb_S24x128_S24x1_0_0)

/-- A load of the first column. -/
theorem load_first {κ : Kind} {sp : Space} {M : Memref sig κ sp S24x128 .f32} (h : M.IsWhole) (x : S24x128.Idx → Elt F .f32) :
    M.view.readAt (Elt F) (Rect.unit (s := S24x128) ![0, 0] S24x1.size inb_S24x128_S24x1_0_0).toLoadRect (h.unread x) = first1 x := by
  rw [View.readAt_eq_ld, h.read_unread]; rfl

/-- A load of the whole of what the stores left. -/
theorem load_writes {κ : Kind} {sp : Space} {s : Shape} {e : EltTy} (v : View sig κ sp s e) (L : List (View.Piece (Elt F) s e))
    {off : Fin s.rank → ℕ} (inb : ∀ a, off a + s.size a ≤ s.size a) :
    v.readCov L (Rect.unit off s.size inb).toLoadRect = View.canon L := by
  rw [View.readCov_eq_canon']
  funext j
  congr 1
  funext a
  apply Fin.ext
  have : off a = 0 := by have := inb a; omega
  show off a + 1 * (j a).val = (j a).val
  omega

set_option maxHeartbeats 8000000 in
/-- What the body's stores leave at the first point, as pieces (last first), with the proof that the body runs to them: the run
    finds them. -/
def run_A (c : Dev nD) (i : grid0.Coords) (arg1 : Memref sig .tc .vmem S24x3584 .bf16) (harg1 : arg1.IsWhole) (arg2 : Memref sig .tc .vmem S24x3584 .bf16) (harg2 : arg2.IsWhole) (arg3 : Memref sig .tc .vmem S24x128 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x3584 .fp8e4m3) (harg10 : arg10.IsWhole) (arg11 : Memref sig .tc .vmem S24x28 .f32) (harg11 : arg11.IsWhole) (arg12 : Memref sig .tc .vmem S24x3584 .bf16) (harg12 : arg12.IsWhole) (hc0 : cond0_0 i)
    (x0 : Vec F S24x3584 .bf16) (x1 : Vec F S24x3584 .bf16) (x2 : Vec F S24x128 .f32) (x3 : Vec F S3584x512 .fp8e4m3) (x4 : Vec F S28x512 .f32) (x5 : Vec F S3584x512 .fp8e4m3) (x6 : Vec F S28x512 .f32) :
    Σ' (L10 : List (View.Piece (Elt F) S24x3584 .fp8e4m3))
      (L11 : List (View.Piece (Elt F) S24x28 .f32)), { L12 : List (View.Piece (Elt F) S24x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ owns (c : Thread nD τ) arg8 fullShare (k0_pay4 (View.canon L12) x3 x4) ∗ owns (c : Thread nD τ) arg9 fullShare (k0_pay5 x1 x5 x6 (first1 x2))) -∗ K ⟨⟩))
          ⊢ wp frame (wpE (defs₀ (F := F)) Variants.none c none) E (cc0_x_and_last i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_x_and_last_eq_skeleton]; unfold cc0_x_and_last_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H9]; · iexists _; iexact H9
    isplitl [H10]; · iexists _; iexact H10
    isplitl [H11]; · iexists _; iexact H11
    isplitl [H7]
    · iexists _; isplitr
      swap; · iexact H7
      ipureintro
      sl_unfold_run_names
      refine (View.read_writes_full _ _ _ _ _).trans ?_
      rw [load_writes, load_unread harg4, load_unread harg5]
    iexists _; isplitr
    swap; · iexact H8
    ipureintro
    sl_unfold_run_names
    refine (View.read_writes_full _ _ _ _ _).trans ?_
    rw [load_unread harg2, load_unread harg6, load_unread harg7, load_first harg3]

set_option maxHeartbeats 1200000 in
/-- The body at any other point: the two tiles are computed from the widened rows the first point left. -/
theorem run_B (c : Dev nD) (i : grid0.Coords) (arg1 : Memref sig .tc .vmem S24x3584 .bf16) (harg1 : arg1.IsWhole) (arg2 : Memref sig .tc .vmem S24x3584 .bf16) (harg2 : arg2.IsWhole) (arg3 : Memref sig .tc .vmem S24x128 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x3584 .fp8e4m3) (harg10 : arg10.IsWhole) (arg11 : Memref sig .tc .vmem S24x28 .f32) (harg11 : arg11.IsWhole) (arg12 : Memref sig .tc .vmem S24x3584 .bf16) (harg12 : arg12.IsWhole) (hc0 : ¬cond0_0 i)
    (x0 : Vec F S24x3584 .bf16) (x1 : Vec F S24x3584 .bf16) (x2 : Vec F S24x128 .f32) (x3 : Vec F S3584x512 .fp8e4m3) (x4 : Vec F S28x512 .f32) (x5 : Vec F S3584x512 .fp8e4m3) (x6 : Vec F S28x512 .f32) (x9 : Vec F S24x3584 .fp8e4m3) (x10 : Vec F S24x28 .f32) (x11 : Vec F S24x3584 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ owns (c : Thread nD τ) arg11 fullShare x10 ∗ owns (c : Thread nD τ) arg12 fullShare x11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg11 fullShare x10 ∗ owns (c : Thread nD τ) arg12 fullShare x11 ∗ owns (c : Thread nD τ) arg8 fullShare (k0_pay4 x11 x3 x4) ∗ owns (c : Thread nD τ) arg9 fullShare (k0_pay5 x1 x5 x6 (first1 x2))) -∗ K ⟨⟩))
          ⊢ wp frame (wpE (defs₀ (F := F)) Variants.none c none) E (cc0_x_and_last i arg1 harg1 arg2 harg2 arg3 harg3 arg4 harg4 arg5 harg5 arg6 harg6 arg7 harg7 arg8 harg8 arg9 harg9 arg10 harg10 arg11 harg11 arg12 harg12) K := by
  · simp only [cc0_x_and_last_eq_skeleton]; unfold cc0_x_and_last_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H7]
    · iexists _; isplitr
      swap; · iexact H7
      ipureintro
      sl_unfold_run_names
      refine (View.read_writes_full _ _ _ _ _).trans ?_
      rw [load_unread harg12, load_unread harg4, load_unread harg5]
    iexists _; isplitr
    swap; · iexact H8
    ipureintro
    sl_unfold_run_names
    refine (View.read_writes_full _ _ _ _ _).trans ?_
    rw [load_unread harg2, load_unread harg6, load_unread harg7, load_first harg3]

end Cert.First.Rows

end
-- ==== Proof.First.Bits.Frame.lean ====
/- The whole run of the pipelined call: the contents of every buffer before and after each grid point, the body's triple
   at a generic point, the launch, and the frame. -/
module

public import proofs.«01_k».proof.Proof.First.Bits.Body
public import Idealize.ShloMosaic.Lib.Claim
public import Idealize.ShloMosaic.Lib.Pipeline.TableIdle

@[expose] public section

set_option maxRecDepth 65536

noncomputable section

namespace Cert.First.Rows

open Cert.First Cert.First.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first point leaves -/

/-- The first point. -/
abbrev t0 : Fin cfg0.N := ⟨0, by decide⟩

/-- The pieces the first point stores: the codes, the scales, the widened rows. -/
def stored (c : Dev nD) := run_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) scM0_0 (Memref.isWhole_whole _) ((hcond0_0 t0).mpr rfl)
  (iblk m c 0 t0) (iblk m c 1 t0) (iblk m c 2 t0) (iblk m c 3 t0) (iblk m c 4 t0) (iblk m c 5 t0) (iblk m c 6 t0)

/-- The codes. -/
def xc0 (c : Dev nD) : Vec F S24x3584 .fp8e4m3 := View.canon (stored m c).1
/-- The scales. -/
def xs0 (c : Dev nD) : Vec F S24x28 .f32 := View.canon (stored m c).2.1
/-- The widened rows. -/
def xq0 (c : Dev nD) : Vec F S24x3584 .bf16 := View.canon (stored m c).2.2.1

/-- The pieces cover their buffers. -/
theorem cover_xc (c : Dev nD) (y : S24x3584.Idx) : ∃ p ∈ (stored m c).1, y ∈ p.1.set :=
  View.cover_of_tiledL (stored m c).1 S24x128.size (by sl_kernel_rfl) y
theorem cover_xs (c : Dev nD) (y : S24x28.Idx) : ∃ p ∈ (stored m c).2.1, y ∈ p.1.set :=
  View.cover_of_tiledL (stored m c).2.1 S24x28.size (by sl_kernel_rfl) y
theorem cover_xq (c : Dev nD) (y : S24x3584.Idx) : ∃ p ∈ (stored m c).2.2.1, y ∈ p.1.set :=
  View.cover_of_tiledL (stored m c).2.2.1 S24x128.size (by sl_kernel_rfl) y

/-- The region's invariant before position `n`: before the first point the scratch buffer holds anything, afterwards the widened rows. -/
def PhiS (c : Dev nD) : (n : ℕ) → n ≤ cfg0.N → sProp 𝕄
  | 0, _ => Pipeline.ΦA spec0 c
  | _ + 1, _ => iprop(owns (c : Thread nD τ) scM0_0 fullShare (xq0 m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = iprop(owns (c : Thread nD τ) scM0_0 fullShare (xq0 m c) ∗ (∃ r, prngReg c r)) := by
  cases n with
  | zero => exact absurd rfl hz
  | succ n => rfl

/-! ## The pipeline's proof data -/

/-- The proof data of the pipeline on core `c`: each input's buffer holds its block; the two tiles; the codes and the scales, which
    stay where the first point put them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (xq0 m c) (iblk m c 3 t) (iblk m c 4 t)
    | ⟨8, _⟩ => k0_pay5 (iblk m c 1 t) (iblk m c 5 t) (iblk m c 6 t) (first1 (iblk m c 2 t))
    | ⟨9, _⟩ => xc0 m c
    | ⟨10, _⟩ => xs0 m c
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay4 (xq0 m c) (iblk m c 3 t) (iblk m c 4 t) := by dsimp only [dats]
theorem after0_8 (c : Dev nD) (t : Fin cfg0.N) : (dats m 0 c).after 8 t = k0_pay5 (iblk m c 1 t) (iblk m c 5 t) (iblk m c 6 t) (first1 (iblk m c 2 t)) := by dsimp only [dats]
theorem after0_9 (c : Dev nD) (t : Fin cfg0.N) : (dats m 0 c).after 9 t = xc0 m c := by dsimp only [dats]
theorem after0_10 (c : Dev nD) (t : Fin cfg0.N) : (dats m 0 c).after 10 t = xs0 m c := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- After the first point output 9's buffer holds what the first point left. -/
theorem before0_9 (c : Dev nD) (t : Fin cfg0.N) (ht : t.val ≠ 0) (d) : (dats m 0 c).before 9 t d = xc0 m c := by
  rw [Dat.before_out_traj (dats m 0 c) 9 rfl (fun _ _ => rfl) (fun t _ _ _ => by rw [after0_9, after0_9]) t.val t rfl d,
    (by decide +kernel : ∀ t : Fin cfg0.N, t.val ≠ 0 → cfg0.fresh 9 t.val = false) t ht, if_neg Bool.false_ne_true, after0_9]
/-- After the first point output 10's buffer holds what the first point left. -/
theorem before0_10 (c : Dev nD) (t : Fin cfg0.N) (ht : t.val ≠ 0) (d) : (dats m 0 c).before 10 t d = xs0 m c := by
  rw [Dat.before_out_traj (dats m 0 c) 10 rfl (fun _ _ => rfl) (fun t _ _ _ => by rw [after0_10, after0_10]) t.val t rfl d,
    (by decide +kernel : ∀ t : Fin cfg0.N, t.val ≠ 0 → cfg0.fresh 10 t.val = false) t ht, if_neg Bool.false_ne_true, after0_10]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- What a point leaves where the window is stored or written back. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flush (c : Dev nD) (w : Fin cfg0.W) (t : Fin cfg0.N) (h : cfg0.idle w (cfg0.grid.coords t) = true) (h' : (cfg0.win w).flush t = true) :
    (dats m 0 c).leavesExact w t = owns (c : Thread nD τ) ((cfg0.win w).stage (cfg0.slots t w)) fullShare ((dats m 0 c).after w t) := by
  unfold Dat.leavesExact; rw [h, h']

set_option maxHeartbeats 3200000 in
/-- The body at the first point. -/
theorem sound_first (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5, before0_6]
  rw [show (dats m 0 c).owesAt () t0.succ = (dats m 0 c).owesAt () t0.castSucc from rfl]
  rw [show (dats m 0 c).Φ t0.succ = PhiS m c (t0.val + 1) t0.isLt from rfl, PhiS_pos m c _ _ (Nat.succ_ne_zero _)]
  rw [leaves_live m c 0 t0 (liveAt0_0 t0), after0_0, leaves_live m c 1 t0 (liveAt0_1 t0), after0_1, leaves_live m c 2 t0 (liveAt0_2 t0), after0_2, leaves_live m c 3 t0 (liveAt0_3 t0), after0_3, leaves_live m c 4 t0 (liveAt0_4 t0), after0_4, leaves_live m c 5 t0 (liveAt0_5 t0), after0_5, leaves_live m c 6 t0 (liveAt0_6 t0), after0_6, leaves_live m c 7 t0 (liveAt0_7 t0), after0_7, leaves_live m c 8 t0 (liveAt0_8 t0), after0_8, leaves_live m c 9 t0 (liveAt0_9_A t0 rfl), after0_9, leaves_live m c 10 t0 (liveAt0_10_A t0 rfl), after0_10]
  rw [PhiS_castSucc m c t0, PhiS_zero m c _ _ rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((stored m c).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS]; · iexact HS
  iintro ⟨H0, H1, H2, H3, H4, H5, H6, ⟨%e9, H9⟩, ⟨%e10, H10⟩, ⟨%es, HS⟩, H7, H8⟩
  isplitl [HS Hg]
  · isplitl [HS]
    · unfold owns; iexists _; isplitr
      swap; · iexact HS
      ipureintro; exact View.read_writes_eq_canon _ _ _ (cover_xq m c)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover_xc m c)
  unfold owns; iexists _; isplitr
  swap; · iexact H10
  ipureintro; exact View.read_writes_eq_canon _ _ _ (cover_xs m c)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_first m c
  unfold bodyPre bodyPost bodyAt0
  simp only [before0_0, before0_1, before0_2, before0_3, before0_4, before0_5, before0_6, before0_9 m c t h0, before0_10 m c t h0]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [PhiS_castSucc m c t, PhiS_pos m c _ _ h0]
  rw [leaves_live m c 0 t (liveAt0_0 t), after0_0, leaves_live m c 1 t (liveAt0_1 t), after0_1, leaves_live m c 2 t (liveAt0_2 t), after0_2, leaves_live m c 3 t (liveAt0_3 t), after0_3, leaves_live m c 4 t (liveAt0_4 t), after0_4, leaves_live m c 5 t (liveAt0_5 t), after0_5, leaves_live m c 6 t (liveAt0_6 t), after0_6, leaves_live m c 7 t (liveAt0_7 t), after0_7, leaves_live m c 8 t (liveAt0_8 t), after0_8]
  by_cases h1 : t.val = 6
  · rw [leaves_flush m c 9 t (idleAt0_9_B t h0) (flush0_9_C t h1), after0_9, leaves_flush m c 10 t (idleAt0_10_B t h0) (flush0_10_C t h1), after0_10]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (fun h => h0 ((hcond0_0 t).mp h)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS]; · iexact HS
    iintro ⟨H0, H1, H2, H3, H4, H5, H6, H9, H10, HS, H7, H8⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 9 t (idleAt0_9_B t h0) (flush0_9_B t h1), Dat.leavesExact_idle (dats m 0 c) 10 t (idleAt0_10_B t h0) (flush0_10_B t h1)]
    simp only [before0_9 m c t h0, before0_10 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (fun h => h0 ((hcond0_0 t).mp h)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS]; · iexact HS
    iintro ⟨H0, H1, H2, H3, H4, H5, H6, H9, H10, HS, H7, H8⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    iexists d10; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the program terminates, leaves its arguments as they were, and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.First.Rows

end
-- ==== Proof.First.Ideal.Points.lean ====
/- What the body's runs are stated over: the branch condition in closed form over the grid points, where the outputs are
   idle, the staging and scratch memrefs, and what the launch hands the region. -/
module

public import proofs.«01_k».proof.Proof.Gen.FirstIdeal.Frame
public import proofs.«01_k».proof.Proof.Gen.FirstIdeal.Skeleton

@[expose] public section

set_option maxRecDepth 65536

noncomputable section

namespace Cert.FirstIdeal.First

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch condition -/

/-- The condition of the body's branch, from the grid coordinate. -/
abbrev cond0_0 (i : grid0.Coords) : Prop := k0_cond1 i = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Output 9 is stored at the first point, idle at the others, and written back at the last. -/
theorem liveAt0_9_A : ∀ t : Fin cfg0.N, t.val = 0 → cfg0.idle 9 (grid0.coords t) = false := by decide +kernel
theorem idleAt0_9_B : ∀ t : Fin cfg0.N, t.val ≠ 0 → cfg0.idle 9 (grid0.coords t) = true := by decide +kernel
theorem flush0_9_B : ∀ t : Fin cfg0.N, t.val ≠ 6 → (cfg0.win 9).flush t = false := by decide +kernel
theorem flush0_9_C : ∀ t : Fin cfg0.N, t.val = 6 → (cfg0.win 9).flush t = true := by decide +kernel
theorem unfetched0_9 : ∀ t : Fin cfg0.N, t.val ≠ 0 → (cfg0.win 9).fetch t = false := by decide +kernel
/-- Output 10 is stored at the first point, idle at the others, and written back at the last. -/
theorem liveAt0_10_A : ∀ t : Fin cfg0.N, t.val = 0 → cfg0.idle 10 (grid0.coords t) = false := by decide +kernel
theorem idleAt0_10_B : ∀ t : Fin cfg0.N, t.val ≠ 0 → cfg0.idle 10 (grid0.coords t) = true := by decide +kernel
theorem flush0_10_B : ∀ t : Fin cfg0.N, t.val ≠ 6 → (cfg0.win 10).flush t = false := by decide +kernel
theorem flush0_10_C : ∀ t : Fin cfg0.N, t.val = 6 → (cfg0.win 10).flush t = true := by decide +kernel
theorem unfetched0_10 : ∀ t : Fin cfg0.N, t.val ≠ 0 → (cfg0.win 10).fetch t = false := by decide +kernel

/-! ## The memrefs the body is called with -/

/-- Each window's current staging memref at point `t`, and its wholeness. -/
abbrev ms0_0 (t : Fin cfg0.N) : Memref sig .tc .vmem S24x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3584x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S24x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S24x3584 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x28 .f32 := win0_10.stage (cfg0.slots t 10)
abbrev hs0_10 (t : Fin cfg0.N) : (ms0_10 t).IsWhole := hstage0_10 ((cfg0.slots t 10).cast nbuf0_10)
/-- The scratch operand: a whole buffer of the kernel's own, passed beside the windows. -/
abbrev scM0_0 : Memref sig .tc .vmem S24x3584 .bf16 := Memref.whole cc0_scratch0

/-- What the launch hands the region, with the scratch operand as a memref owned at some contents. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

end Cert.FirstIdeal.First

end
-- ==== Proof.First.Ideal.Body.lean ====
/- The body's two runs: at the first grid point, where the rows are quantised, and at the others. -/
module

public import proofs.«01_k».proof.Proof.First.Ideal.Points
public import Idealize.ShloMosaic.Lib.VecWindow

@[expose] public section

set_option maxRecDepth 65536

noncomputable section

namespace Cert.FirstIdeal.First

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading back what the body stores -/

/-- A load of a whole memref that holds `x` reads `x`. -/
theorem load_unread {κ : Kind} {sp : Space} {s : Shape} {e : EltTy} {M : Memref sig κ sp s e} (h : M.IsWhole) (x : s.Idx → Elt F e)
    {off : Fin s.rank → ℕ} (inb : ∀ a, off a + s.size a ≤ s.size a) :
    M.view.readAt (Elt F) (Rect.unit off s.size inb).toLoadRect (h.unread x) = x := by
  rw [View.readAt_full, h.read_unread]

/-- The first column of the scales of the embedding. -/
def first1 (x2 : Vec F S24x128 .f32) : Vec F S24x1 .f32 := View.ld x2 (Rect.unit (s := S24x128) ![0, 0] S24x1.size inb_S24x128_S24x1_0_0)

/-- A load of the first column. -/
theorem load_first {κ : Kind} {sp : Space} {M : Memref sig κ sp S24x128 .f32} (h : M.IsWhole) (x : S24x128.Idx → Elt F .f32) :
    M.view.readAt (Elt F) (Rect.unit (s := S24x128) ![0, 0] S24x1.size inb_S24x128_S24x1_0_0).toLoadRect (h.unread x) = first1 x := by
  rw [View.readAt_eq_ld, h.read_unread]; rfl

/-- A load of the whole of what the stores left. -/
theorem load_writes {κ : Kind} {sp : Space} {s : Shape} {e : EltTy} (v : View sig κ sp s e) (L : List (View.Piece (Elt F) s e))
    {off : Fin s.rank → ℕ} (inb : ∀ a, off a + s.size a ≤ s.size a) :
    v.readCov L (Rect.unit off s.size inb).toLoadRect = View.canon L := by
  rw [View.readCov_eq_canon']
  funext j
  congr 1
  funext a
  apply Fin.ext
  have : off a = 0 := by have := inb a; omega
  show off a + 1 * (j a).val = (j a).val
  omega

set_option maxHeartbeats 8000000 in
/-- What the body's stores leave at the first point, as pieces (last first), with the proof that the body runs to them: the run
    finds them. -/
def run_A (c : Dev nD) (i : grid0.Coords) (arg1 : Memref sig .tc .vmem S24x3584 .bf16) (harg1 : arg1.IsWhole) (arg2 : Memref sig .tc .vmem S24x3584 .bf16) (harg2 : arg2.IsWhole) (arg3 : Memref sig .tc .vmem S24x128 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x3584 .fp8e4m3) (harg10 : arg10.IsWhole) (arg11 : Memref sig .tc .vmem S24x28 .f32) (harg11 : arg11.IsWhole) (arg12 : Memref sig .tc .vmem S24x3584 .bf16) (harg12 : arg12.IsWhole) (hc0 : cond0_0 i)
    (x0 : Vec F S24x3584 .bf16) (x1 : Vec F S24x3584 .bf16) (x2 : Vec F S24x128 .f32) (x3 : Vec F S3584x512 .fp8e4m3) (x4 : Vec F S28x512 .f32) (x5 : Vec F S3584x512 .fp8e4m3) (x6 : Vec F S28x512 .f32) :
    Σ' (L10 : List (View.Piece (Elt F) S24x3584 .fp8e4m3))
      (L11 : List (View.Piece (Elt F) S24x28 .f32)), { L12 : List (View.Piece (Elt F) S24x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ owns (c : Thread nD τ) arg8 fullShare (k0_pay4 (View.canon L12) x3 x4) ∗ owns (c : Thread nD τ) arg9 fullShare (k0_pay5 x1 x5 x6 (first1 x2))) -∗ K ⟨⟩))
          ⊢ wp frame (wpE (defs₀ (F := F)) Variants.none c none) E (cc0_x_and_last i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_x_and_last_eq_skeleton]; unfold cc0_x_and_last_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H9]; · iexists _; iexact H9
    isplitl [H10]; · iexists _; iexact H10
    isplitl [H11]; · iexists _; iexact H11
    isplitl [H7]
    · iexists _; isplitr
      swap; · iexact H7
      ipureintro
      sl_unfold_run_names
      refine (View.read_writes_full _ _ _ _ _).trans ?_
      rw [load_writes, load_unread harg4, load_unread harg5]
    iexists _; isplitr
    swap; · iexact H8
    ipureintro
    sl_unfold_run_names
    refine (View.read_writes_full _ _ _ _ _).trans ?_
    rw [load_unread harg2, load_unread harg6, load_unread harg7, load_first harg3]

set_option maxHeartbeats 1200000 in
/-- The body at any other point: the two tiles are computed from the widened rows the first point left. -/
theorem run_B (c : Dev nD) (i : grid0.Coords) (arg1 : Memref sig .tc .vmem S24x3584 .bf16) (harg1 : arg1.IsWhole) (arg2 : Memref sig .tc .vmem S24x3584 .bf16) (harg2 : arg2.IsWhole) (arg3 : Memref sig .tc .vmem S24x128 .f32) (harg3 : arg3.IsWhole) (arg4 : Memref sig .tc .vmem S3584x512 .fp8e4m3) (harg4 : arg4.IsWhole) (arg5 : Memref sig .tc .vmem S28x512 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x3584 .fp8e4m3) (harg10 : arg10.IsWhole) (arg11 : Memref sig .tc .vmem S24x28 .f32) (harg11 : arg11.IsWhole) (arg12 : Memref sig .tc .vmem S24x3584 .bf16) (harg12 : arg12.IsWhole) (hc0 : ¬cond0_0 i)
    (x0 : Vec F S24x3584 .bf16) (x1 : Vec F S24x3584 .bf16) (x2 : Vec F S24x128 .f32) (x3 : Vec F S3584x512 .fp8e4m3) (x4 : Vec F S28x512 .f32) (x5 : Vec F S3584x512 .fp8e4m3) (x6 : Vec F S28x512 .f32) (x9 : Vec F S24x3584 .fp8e4m3) (x10 : Vec F S24x28 .f32) (x11 : Vec F S24x3584 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ owns (c : Thread nD τ) arg11 fullShare x10 ∗ owns (c : Thread nD τ) arg12 fullShare x11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare x9 ∗ owns (c : Thread nD τ) arg11 fullShare x10 ∗ owns (c : Thread nD τ) arg12 fullShare x11 ∗ owns (c : Thread nD τ) arg8 fullShare (k0_pay4 x11 x3 x4) ∗ owns (c : Thread nD τ) arg9 fullShare (k0_pay5 x1 x5 x6 (first1 x2))) -∗ K ⟨⟩))
          ⊢ wp frame (wpE (defs₀ (F := F)) Variants.none c none) E (cc0_x_and_last i arg1 harg1 arg2 harg2 arg3 harg3 arg4 harg4 arg5 harg5 arg6 harg6 arg7 harg7 arg8 harg8 arg9 harg9 arg10 harg10 arg11 harg11 arg12 harg12) K := by
  · simp only [cc0_x_and_last_eq_skeleton]; unfold cc0_x_and_last_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H7]
    · iexists _; isplitr
      swap; · iexact H7
      ipureintro
      sl_unfold_run_names
      refine (View.read_writes_full _ _ _ _ _).trans ?_
      rw [load_unread harg12, load_unread harg4, load_unread harg5]
    iexists _; isplitr
    swap; · iexact H8
    ipureintro
    sl_unfold_run_names
    refine (View.read_writes_full _ _ _ _ _).trans ?_
    rw [load_unread harg2, load_unread harg6, load_unread harg7, load_first harg3]

end Cert.FirstIdeal.First

end
-- ==== Proof.First.Ideal.Frame.lean ====
/- The whole run of the pipelined call: the contents of every buffer before and after each grid point, the body's triple
   at a generic point, the launch, and the frame. -/
module

public import proofs.«01_k».proof.Proof.First.Ideal.Body
public import Idealize.ShloMosaic.Lib.Claim
public import Idealize.ShloMosaic.Lib.Pipeline.TableIdle

@[expose] public section

set_option maxRecDepth 65536

noncomputable section

namespace Cert.FirstIdeal.First

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first point leaves -/

/-- The first point. -/
abbrev t0 : Fin cfg0.N := ⟨0, by decide⟩

/-- The pieces the first point stores: the codes, the scales, the widened rows. -/
def stored (c : Dev nD) := run_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) scM0_0 (Memref.isWhole_whole _) ((hcond0_0 t0).mpr rfl)
  (iblk m c 0 t0) (iblk m c 1 t0) (iblk m c 2 t0) (iblk m c 3 t0) (iblk m c 4 t0) (iblk m c 5 t0) (iblk m c 6 t0)

/-- The codes. -/
def xc0 (c : Dev nD) : Vec F S24x3584 .fp8e4m3 := View.canon (stored m c).1
/-- The scales. -/
def xs0 (c : Dev nD) : Vec F S24x28 .f32 := View.canon (stored m c).2.1
/-- The widened rows. -/
def xq0 (c : Dev nD) : Vec F S24x3584 .bf16 := View.canon (stored m c).2.2.1

/-- The pieces cover their buffers. -/
theorem cover_xc (c : Dev nD) (y : S24x3584.Idx) : ∃ p ∈ (stored m c).1, y ∈ p.1.set :=
  View.cover_of_tiledL (stored m c).1 S24x128.size (by sl_kernel_rfl) y
theorem cover_xs (c : Dev nD) (y : S24x28.Idx) : ∃ p ∈ (stored m c).2.1, y ∈ p.1.set :=
  View.cover_of_tiledL (stored m c).2.1 S24x28.size (by sl_kernel_rfl) y
theorem cover_xq (c : Dev nD) (y : S24x3584.Idx) : ∃ p ∈ (stored m c).2.2.1, y ∈ p.1.set :=
  View.cover_of_tiledL (stored m c).2.2.1 S24x128.size (by sl_kernel_rfl) y

/-- The region's invariant before position `n`: before the first point the scratch buffer holds anything, afterwards the widened rows. -/
def PhiS (c : Dev nD) : (n : ℕ) → n ≤ cfg0.N → sProp 𝕄
  | 0, _ => Pipeline.ΦA spec0 c
  | _ + 1, _ => iprop(owns (c : Thread nD τ) scM0_0 fullShare (xq0 m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = iprop(owns (c : Thread nD τ) scM0_0 fullShare (xq0 m c) ∗ (∃ r, prngReg c r)) := by
  cases n with
  | zero => exact absurd rfl hz
  | succ n => rfl

/-! ## The pipeline's proof data -/

/-- The proof data of the pipeline on core `c`: each input's buffer holds its block; the two tiles; the codes and the scales, which
    stay where the first point put them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (xq0 m c) (iblk m c 3 t) (iblk m c 4 t)
    | ⟨8, _⟩ => k0_pay5 (iblk m c 1 t) (iblk m c 5 t) (iblk m c 6 t) (first1 (iblk m c 2 t))
    | ⟨9, _⟩ => xc0 m c
    | ⟨10, _⟩ => xs0 m c
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay4 (xq0 m c) (iblk m c 3 t) (iblk m c 4 t) := by dsimp only [dats]
theorem after0_8 (c : Dev nD) (t : Fin cfg0.N) : (dats m 0 c).after 8 t = k0_pay5 (iblk m c 1 t) (iblk m c 5 t) (iblk m c 6 t) (first1 (iblk m c 2 t)) := by dsimp only [dats]
theorem after0_9 (c : Dev nD) (t : Fin cfg0.N) : (dats m 0 c).after 9 t = xc0 m c := by dsimp only [dats]
theorem after0_10 (c : Dev nD) (t : Fin cfg0.N) : (dats m 0 c).after 10 t = xs0 m c := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- After the first point output 9's buffer holds what the first point left. -/
theorem before0_9 (c : Dev nD) (t : Fin cfg0.N) (ht : t.val ≠ 0) (d) : (dats m 0 c).before 9 t d = xc0 m c := by
  rw [Dat.before_out_traj (dats m 0 c) 9 rfl (fun _ _ => rfl) (fun t _ _ _ => by rw [after0_9, after0_9]) t.val t rfl d,
    (by decide +kernel : ∀ t : Fin cfg0.N, t.val ≠ 0 → cfg0.fresh 9 t.val = false) t ht, if_neg Bool.false_ne_true, after0_9]
/-- After the first point output 10's buffer holds what the first point left. -/
theorem before0_10 (c : Dev nD) (t : Fin cfg0.N) (ht : t.val ≠ 0) (d) : (dats m 0 c).before 10 t d = xs0 m c := by
  rw [Dat.before_out_traj (dats m 0 c) 10 rfl (fun _ _ => rfl) (fun t _ _ _ => by rw [after0_10, after0_10]) t.val t rfl d,
    (by decide +kernel : ∀ t : Fin cfg0.N, t.val ≠ 0 → cfg0.fresh 10 t.val = false) t ht, if_neg Bool.false_ne_true, after0_10]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- What a point leaves where the window is stored or written back. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_flush (c : Dev nD) (w : Fin cfg0.W) (t : Fin cfg0.N) (h : cfg0.idle w (cfg0.grid.coords t) = true) (h' : (cfg0.win w).flush t = true) :
    (dats m 0 c).leavesExact w t = owns (c : Thread nD τ) ((cfg0.win w).stage (cfg0.slots t w)) fullShare ((dats m 0 c).after w t) := by
  unfold Dat.leavesExact; rw [h, h']

set_option maxHeartbeats 3200000 in
/-- The body at the first point. -/
theorem sound_first (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5, before0_6]
  rw [show (dats m 0 c).owesAt () t0.succ = (dats m 0 c).owesAt () t0.castSucc from rfl]
  rw [show (dats m 0 c).Φ t0.succ = PhiS m c (t0.val + 1) t0.isLt from rfl, PhiS_pos m c _ _ (Nat.succ_ne_zero _)]
  rw [leaves_live m c 0 t0 (liveAt0_0 t0), after0_0, leaves_live m c 1 t0 (liveAt0_1 t0), after0_1, leaves_live m c 2 t0 (liveAt0_2 t0), after0_2, leaves_live m c 3 t0 (liveAt0_3 t0), after0_3, leaves_live m c 4 t0 (liveAt0_4 t0), after0_4, leaves_live m c 5 t0 (liveAt0_5 t0), after0_5, leaves_live m c 6 t0 (liveAt0_6 t0), after0_6, leaves_live m c 7 t0 (liveAt0_7 t0), after0_7, leaves_live m c 8 t0 (liveAt0_8 t0), after0_8, leaves_live m c 9 t0 (liveAt0_9_A t0 rfl), after0_9, leaves_live m c 10 t0 (liveAt0_10_A t0 rfl), after0_10]
  rw [PhiS_castSucc m c t0, PhiS_zero m c _ _ rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((stored m c).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS]; · iexact HS
  iintro ⟨H0, H1, H2, H3, H4, H5, H6, ⟨%e9, H9⟩, ⟨%e10, H10⟩, ⟨%es, HS⟩, H7, H8⟩
  isplitl [HS Hg]
  · isplitl [HS]
    · unfold owns; iexists _; isplitr
      swap; · iexact HS
      ipureintro; exact View.read_writes_eq_canon _ _ _ (cover_xq m c)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover_xc m c)
  unfold owns; iexists _; isplitr
  swap; · iexact H10
  ipureintro; exact View.read_writes_eq_canon _ _ _ (cover_xs m c)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_first m c
  unfold bodyPre bodyPost bodyAt0
  simp only [before0_0, before0_1, before0_2, before0_3, before0_4, before0_5, before0_6, before0_9 m c t h0, before0_10 m c t h0]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [PhiS_castSucc m c t, PhiS_pos m c _ _ h0]
  rw [leaves_live m c 0 t (liveAt0_0 t), after0_0, leaves_live m c 1 t (liveAt0_1 t), after0_1, leaves_live m c 2 t (liveAt0_2 t), after0_2, leaves_live m c 3 t (liveAt0_3 t), after0_3, leaves_live m c 4 t (liveAt0_4 t), after0_4, leaves_live m c 5 t (liveAt0_5 t), after0_5, leaves_live m c 6 t (liveAt0_6 t), after0_6, leaves_live m c 7 t (liveAt0_7 t), after0_7, leaves_live m c 8 t (liveAt0_8 t), after0_8]
  by_cases h1 : t.val = 6
  · rw [leaves_flush m c 9 t (idleAt0_9_B t h0) (flush0_9_C t h1), after0_9, leaves_flush m c 10 t (idleAt0_10_B t h0) (flush0_10_C t h1), after0_10]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (fun h => h0 ((hcond0_0 t).mp h)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS]; · iexact HS
    iintro ⟨H0, H1, H2, H3, H4, H5, H6, H9, H10, HS, H7, H8⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 9 t (idleAt0_9_B t h0) (flush0_9_B t h1), Dat.leavesExact_idle (dats m 0 c) 10 t (idleAt0_10_B t h0) (flush0_10_B t h1)]
    simp only [before0_9 m c t h0, before0_10 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (fun h => h0 ((hcond0_0 t).mp h)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [HS]; · iexact HS
    iintro ⟨H0, H1, H2, H3, H4, H5, H6, H9, H10, HS, H7, H8⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    iexists d10; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the program terminates, leaves its arguments as they were, and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FirstIdeal.First

end
-- ==== Proof.First.Stored.lean ====
/- What the first point's stores leave in the buffers of codes, scales and widened values, block by block. -/
module

public import proofs.«01_k».proof.Proof.First.Ideal.Frame
public import proofs.«01_k».proof.Proof.QuantTile

@[expose] public section

set_option maxRecDepth 65536

noncomputable section

namespace Cert.FirstIdeal.First

open Cert.FirstIdeal Cert.FirstIdeal.Gen Cert.QuantTile
open Idealize.ShloMosaic Idealize.ShloMosaic.TcCoe Idealize.ShloMosaic.Tactic
open Idealize.SL.Sem

variable (m : (ℓ : Loc nD τ sig) → Buf (Elt Ideal) ℓ)

theorem cut_inb (b : Fin 28) (a : Fin 2) : (![0, b.val * 128] : Fin 2 → ℕ) a + S24x128.size a ≤ S24x3584.size a := by
  match a with
  | ⟨0, _⟩ => show 0 + 24 ≤ 24; omega
  | ⟨1, _⟩ => show b.val * 128 + 128 ≤ 3584; omega

/-- The columns of a block. -/
def cut (b : Fin 28) : Rect S24x3584 := Rect.unit (s := S24x3584) ![0, b.val * 128] S24x128.size (cut_inb b)

/-- A block of the rows, as read from the window. -/
def part (c : Dev nD) (b : Fin 28) : FVec Ideal (Rows 24 128) .f32 :=
  extf .f32 ((ms0_0 t0).view.readAt (Elt Ideal) (cut b).toLoadRect ((hs0_0 t0).unread (iblk m c 0 t0)) : FVec Ideal (Rows 24 128) .bf16) Gen.bitsLt_bf16_f32

/-- The blocks, in the order they are stored, last first. -/
def order : List (Fin 28) := [27, 26, 25, 24, 23, 22, 21, 20, 19, 18, 17, 16, 15, 14, 13, 12, 11, 10, 9, 8, 7, 6, 5, 4, 3, 2, 1, 0]

set_option maxHeartbeats 4000000 in
theorem stored_codes (c : Dev nD) : (stored m c).1 = order.map (fun b => (⟨cut b, codesV (part m c b)⟩ : View.Piece (Elt Ideal) S24x3584 .fp8e4m3)) := by
  rfl

set_option maxHeartbeats 4000000 in
theorem stored_wide (c : Dev nD) : (stored m c).2.2.1
    = order.map (fun b => (⟨cut b, shapeCast (Rows 24 128) (wideV (part m c b)) rfl⟩ : View.Piece (Elt Ideal) S24x3584 .bf16)) := by
  rfl

/-- The array of scales with the columns below `n` filled in. -/
def filled (c : Dev nD) : ℕ → FVec Ideal (Rows 24 28) .f32
  | 0 => k0_pay6 (F := Ideal)
  | n + 1 => if h : n < 28 then putV (part m c ⟨n, h⟩) (BitVec.ofNat 32 n) (filled c n) else filled c n

theorem whole_inb (a : Fin 2) : (![0, 0] : Fin 2 → ℕ) a + S24x28.size a ≤ S24x28.size a := by
  match a with
  | ⟨0, _⟩ => exact Nat.le_refl 24
  | ⟨1, _⟩ => exact Nat.le_refl 28

set_option maxHeartbeats 4000000 in
theorem stored_scales (c : Dev nD) : (stored m c).2.1
    = [(⟨Rect.unit (s := S24x28) ![0, 0] S24x28.size whole_inb, filled m c 28⟩ : View.Piece (Elt Ideal) S24x28 .f32)] := by
  rfl

/-! ## Reading them -/

theorem order_all (b : Fin 28) : b ∈ order := by revert b; decide

/-- A block reads the rows' columns. -/
theorem part_apply (c : Dev nD) (b : Fin 28) (r : Fin 24) (k : Fin 128) :
    part m c b (ix2 r k) = iblk m c 0 t0 (ix2 r (⟨b.val * 128 + k.val, by omega⟩ : Fin 3584)) := by
  unfold part
  rw [View.readAt_eq_ld, (hs0_0 t0).read_unread]
  show iblk m c 0 t0 ((cut b).emb (ix2 r k)) = _
  refine congrArg (iblk m c 0 t0) ?_
  funext a; apply Fin.ext
  match a with
  | ⟨0, _⟩ => show 0 + 1 * r.val = r.val; omega
  | ⟨1, _⟩ => show b.val * 128 + 1 * k.val = b.val * 128 + k.val; omega

/-- Contents stored block by block read as the function the blocks are cut from. -/
theorem blocks_apply {e : EltTy} (p : Fin 28 → (Rows 24 128).Idx → Elt Ideal e) (G : S24x3584.Idx → Elt Ideal e)
    (h : ∀ (b : Fin 28) (r : Fin 24) (k : Fin 128), p b (ix2 r k) = G (ix2 r (⟨b.val * 128 + k.val, by omega⟩ : Fin 3584))) :
    View.canon (order.map (fun b => (⟨cut b, p b⟩ : View.Piece (Elt Ideal) S24x3584 e))) = G := by
  funext y
  refine View.canon_apply_of_pieces G _ ?_ y ?_
  · intro w hw x
    obtain ⟨b, -, rfl⟩ := List.mem_map.mp hw
    have hx : x = (ix2 (x 0 : Fin 24) (x 1 : Fin 128) : (Rows 24 128).Idx) := by
      funext a
      match a with
      | ⟨0, _⟩ => rfl
      | ⟨1, _⟩ => rfl
    refine (congrArg (p b) hx).trans ((h b (x 0) (x 1)).trans (congrArg G ?_))
    funext a; apply Fin.ext
    match a with
    | ⟨0, _⟩ => show (x 0).val = 0 + 1 * (x 0).val; omega
    | ⟨1, _⟩ => show b.val * 128 + (x 1).val = b.val * 128 + 1 * (x 1).val; omega
  · obtain ⟨b, hb⟩ : ∃ b : Fin 28, b.val = (y 1).val / 128 := ⟨⟨(y 1).val / 128, Nat.div_lt_of_lt_mul (y 1).isLt⟩, rfl⟩
    refine ⟨⟨cut b, p b⟩, List.mem_map.mpr ⟨b, order_all b, rfl⟩, ?_⟩
    refine (Rect.mem_set_unit (inb := cut_inb b)).mpr fun a => ?_
    match a with
    | ⟨0, _⟩ =>
      have h : (y 0).val < 24 := (y 0).isLt
      exact ⟨Nat.zero_le _, by show (y 0).val < 0 + 24; omega⟩
    | ⟨1, _⟩ => exact ⟨by show b.val * 128 ≤ (y 1).val; omega, by show (y 1).val < b.val * 128 + 128; omega⟩

/-- The rows as the window holds them. -/
def rows (c : Dev nD) (r : Fin 24) (n : Fin 3584) : EReal := iblk m c 0 t0 (ix2 r n)

theorem part_row (c : Dev nD) (b : Fin 28) (r : Fin 24) : (fun k => part m c b (ix2 r k)) = Mlp.block (rows m c) r b :=
  funext fun k => part_apply m c b r k

theorem place (b : Fin 28) (k : Fin 128) (f : Fin 24 → Fin 3584 → EReal) (r : Fin 24) (Q : (Fin 128 → EReal) → Fin 128 → EReal) :
    Q (Mlp.block f r ⟨(b.val * 128 + k.val) / 128, by omega⟩) ⟨(b.val * 128 + k.val) % 128, by omega⟩ = Q (Mlp.block f r b) k := by
  congr 1
  · congr 1
    apply Fin.ext
    show (b.val * 128 + k.val) / 128 = b.val
    omega
  · apply Fin.ext
    show (b.val * 128 + k.val) % 128 = k.val
    omega

/-- The codes the first point leaves. -/
theorem xc0_eq (c : Dev nD) : xc0 m c = Mlp.codes (rows m c) := by
  unfold xc0
  rw [stored_codes]
  refine blocks_apply _ _ fun b r k => ?_
  refine (codesV_apply (part m c b) r k).trans ?_
  rw [part_row]
  exact (place b k _ r Quant.code).symm

/-- The widened rows the first point leaves. -/
theorem xq0_eq (c : Dev nD) : xq0 m c = Mlp.wide (rows m c) := by
  unfold xq0
  rw [stored_wide]
  refine blocks_apply _ _ fun b r k => ?_
  rw [shapeCast_self]
  refine (wideV_apply (part m c b) r k).trans ?_
  rw [part_row]
  exact (place b k _ r Quant.wide).symm

theorem filled_apply (c : Dev nD) (r : Fin 24) (b : Fin 28) (n : ℕ) (hn : n ≤ 28) (hb : b.val < n) :
    filled m c n (ix2 r b) = Quant.scale (Mlp.block (rows m c) r b) := by
  induction n with
  | zero => omega
  | succ n ih =>
    have h : n < 28 := hn
    unfold filled
    rw [dif_pos h]
    refine (putV_apply _ _ _ r b).trans ?_
    by_cases e : b.val = n
    · subst e
      rw [if_pos rfl, part_row]
    · rw [if_neg, ih (by omega) (by omega)]
      intro e'
      have := congrArg BitVec.toNat e'
      simp only [BitVec.toNat_ofNat] at this
      omega

/-- The scales the first point leaves. -/
theorem xs0_eq (c : Dev nD) : xs0 m c = Mlp.scales (rows m c) := by
  unfold xs0
  rw [stored_scales]
  funext y
  refine View.canon_apply_of_pieces (Val := Elt Ideal) (e := .f32) (Mlp.scales (rows m c)) _ ?_ y ?_
  · intro w hw x
    obtain rfl := List.mem_singleton.mp hw
    have hx : x = (ix2 (x 0 : Fin 24) (x 1 : Fin 28) : (Rows 24 28).Idx) := by
      funext a
      match a with
      | ⟨0, _⟩ => rfl
      | ⟨1, _⟩ => rfl
    refine (congrArg (filled m c 28) hx).trans ((filled_apply m c (x 0) (x 1) 28 (Nat.le_refl _) (x 1).isLt).trans ?_)
    refine congrArg (Mlp.scales (rows m c)) (a₁ := (ix2 (x 0 : Fin 24) (x 1 : Fin 28) : (Rows 24 28).Idx)) ?_
    funext a; apply Fin.ext
    match a with
    | ⟨0, _⟩ => show (x 0).val = 0 + 1 * (x 0).val; omega
    | ⟨1, _⟩ => show (x 1).val = 0 + 1 * (x 1).val; omega
  · refine ⟨_, List.mem_singleton.mpr rfl, ?_⟩
    refine (Rect.mem_set_unit (inb := whole_inb)).mpr fun a => ?_
    match a with
    | ⟨0, _⟩ =>
      have h : (y 0).val < 24 := (y 0).isLt
      exact ⟨Nat.zero_le _, by show (y 0).val < 0 + 24; omega⟩
    | ⟨1, _⟩ =>
      have h : (y 1).val < 28 := (y 1).isLt
      exact ⟨Nat.zero_le _, by show (y 1).val < 0 + 28; omega⟩

end Cert.FirstIdeal.First

end
-- ==== Proof.First.Spec.lean ====
/- What the call that quantises the encoder's rows and takes the two products computes, as functions of the arguments. -/
module

public import proofs.«01_k».proof.Proof.Mlp

@[expose] public section

noncomputable section

namespace Cert.First

open Idealize.ShloMosaic

/-- The rows, by row and column. -/
def rows (x : (⟨2, ![24, 3584]⟩ : Shape).Idx → EReal) (r : Fin 24) (n : Fin 3584) : EReal := x (ix2 r n)

/-- The product of the quantised rows with the first weights. -/
def px (x : (⟨2, ![24, 3584]⟩ : Shape).Idx → EReal) (w : (⟨2, ![3584, 3584]⟩ : Shape).Idx → EReal) (s : (⟨2, ![28, 3584]⟩ : Shape).Idx → EReal) :
    (⟨2, ![24, 3584]⟩ : Shape).Idx → EReal :=
  Mlp.whole (Mlp.dot (Mlp.wide (rows x)) w s)

/-- The product of rows of the embedding with weights, each row times the first of its scales. -/
def pu {N : ℕ} (e : (⟨2, ![N, 3584]⟩ : Shape).Idx → EReal) (z : (⟨2, ![N, 128]⟩ : Shape).Idx → EReal) (w : (⟨2, ![3584, 3584]⟩ : Shape).Idx → EReal)
    (s : (⟨2, ![28, 3584]⟩ : Shape).Idx → EReal) : (⟨2, ![N, 3584]⟩ : Shape).Idx → EReal :=
  Mlp.whole fun r n => Mlp.dot e w s r n * z (ix2 r (0 : Fin 128))

end Cert.First

end
-- ==== Proof.First.Kernel.lean ====
/- The first call over the extended reals: each grid point computes a tile of 512 columns of the two products, and the four arrays at
   the end are the products, the codes and the scales. -/
module

public import proofs.«01_k».proof.Proof.First.Stored
public import proofs.«01_k».proof.Proof.First.Spec
public import Idealize.ShloMosaic.Lib.Pipeline.Value
public import Idealize.ShloMosaic.Lib.Pointwise

@[expose] public section

set_option maxRecDepth 16384

noncomputable section

namespace Cert.FirstIdeal.First

open Cert.FirstIdeal Cert.FirstIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- A grid point's number. -/
def num (t : Fin cfg0.N) : Fin 7 := ⟨t.val, lt_of_lt_of_eq t.isLt N_0⟩

/-- A column of a grid point's tile, as a column of the array. -/
def col (t : Fin cfg0.N) (n : Fin 512) : Fin 3584 := ⟨(num t).val * 512 + n.val, by have := (num t).isLt; omega⟩

/-! ## The blocks a grid point reads -/

theorem iblk0_apply (c : Dev nD) (t : Fin cfg0.N) (r : Fin 24) (n : Fin 3584) :
    iblk m c 0 t (ix2 r n) = m ((c : Thread nD τ).loc main_arg0) (ix2 r (n)) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r n)) = _
  congr 1
  funext a; apply Fin.ext
  match a with
  | ⟨0, _⟩ => show win0_0.index t (0 : Fin 2) * 24 + 1 * r.val = r.val; omega
  | ⟨1, _⟩ => show win0_0.index t (1 : Fin 2) * 3584 + 1 * n.val = n.val; omega

theorem iblk1_apply (c : Dev nD) (t : Fin cfg0.N) (r : Fin 24) (n : Fin 3584) :
    iblk m c 1 t (ix2 r n) = m ((c : Thread nD τ).loc main_arg1) (ix2 r (n)) := by
  rw [← V_main_arg1 m c]
  have hi : ∀ t : Fin cfg0.N, win0_1.index t (0 : Fin 2) = 0 ∧ win0_1.index t (1 : Fin 2) = 0 := (by decide +kernel : ∀ t : Fin grid0.N, _)
  obtain ⟨e0, e1⟩ := hi t
  show V m c main_arg1 (((cfg0.win 1).blk t).view.emb (ix2 r n)) = _
  congr 1
  funext a; apply Fin.ext
  match a with
  | ⟨0, _⟩ => show win0_1.index t (0 : Fin 2) * 24 + 1 * r.val = r.val; omega
  | ⟨1, _⟩ => show win0_1.index t (1 : Fin 2) * 3584 + 1 * n.val = n.val; omega

theorem iblk2_apply (c : Dev nD) (t : Fin cfg0.N) (r : Fin 24) (n : Fin 128) :
    iblk m c 2 t (ix2 r n) = m ((c : Thread nD τ).loc main_arg2) (ix2 r (n)) := by
  rw [← V_main_arg2 m c]
  have hi : ∀ t : Fin cfg0.N, win0_2.index t (0 : Fin 2) = 0 ∧ win0_2.index t (1 : Fin 2) = 0 := (by decide +kernel : ∀ t : Fin grid0.N, _)
  obtain ⟨e0, e1⟩ := hi t
  show V m c main_arg2 (((cfg0.win 2).blk t).view.emb (ix2 r n)) = _
  congr 1
  funext a; apply Fin.ext
  match a with
  | ⟨0, _⟩ => show win0_2.index t (0 : Fin 2) * 24 + 1 * r.val = r.val; omega
  | ⟨1, _⟩ => show win0_2.index t (1 : Fin 2) * 128 + 1 * n.val = n.val; omega

theorem iblk3_apply (c : Dev nD) (t : Fin cfg0.N) (r : Fin 3584) (n : Fin 512) :
    iblk m c 3 t (ix2 r n) = m ((c : Thread nD τ).loc main_arg3) (ix2 r (col t n)) := by
  rw [← V_main_arg3 m c]
  have hi : ∀ t : Fin cfg0.N, win0_3.index t (0 : Fin 2) = 0 ∧ win0_3.index t (1 : Fin 2) = t.val := (by decide +kernel : ∀ t : Fin grid0.N, _)
  obtain ⟨e0, e1⟩ := hi t
  show V m c main_arg3 (((cfg0.win 3).blk t).view.emb (ix2 r n)) = _
  congr 1
  funext a; apply Fin.ext
  match a with
  | ⟨0, _⟩ => show win0_3.index t (0 : Fin 2) * 3584 + 1 * r.val = r.val; omega
  | ⟨1, _⟩ => show win0_3.index t (1 : Fin 2) * 512 + 1 * n.val = t.val * 512 + n.val; omega

theorem iblk4_apply (c : Dev nD) (t : Fin cfg0.N) (r : Fin 28) (n : Fin 512) :
    iblk m c 4 t (ix2 r n) = m ((c : Thread nD τ).loc main_arg4) (ix2 r (col t n)) := by
  rw [← V_main_arg4 m c]
  have hi : ∀ t : Fin cfg0.N, win0_4.index t (0 : Fin 2) = 0 ∧ win0_4.index t (1 : Fin 2) = t.val := (by decide +kernel : ∀ t : Fin grid0.N, _)
  obtain ⟨e0, e1⟩ := hi t
  show V m c main_arg4 (((cfg0.win 4).blk t).view.emb (ix2 r n)) = _
  congr 1
  funext a; apply Fin.ext
  match a with
  | ⟨0, _⟩ => show win0_4.index t (0 : Fin 2) * 28 + 1 * r.val = r.val; omega
  | ⟨1, _⟩ => show win0_4.index t (1 : Fin 2) * 512 + 1 * n.val = t.val * 512 + n.val; omega

theorem iblk5_apply (c : Dev nD) (t : Fin cfg0.N) (r : Fin 3584) (n : Fin 512) :
    iblk m c 5 t (ix2 r n) = m ((c : Thread nD τ).loc main_arg5) (ix2 r (col t n)) := by
  rw [← V_main_arg5 m c]
  have hi : ∀ t : Fin cfg0.N, win0_5.index t (0 : Fin 2) = 0 ∧ win0_5.index t (1 : Fin 2) = t.val := (by decide +kernel : ∀ t : Fin grid0.N, _)
  obtain ⟨e0, e1⟩ := hi t
  show V m c main_arg5 (((cfg0.win 5).blk t).view.emb (ix2 r n)) = _
  congr 1
  funext a; apply Fin.ext
  match a with
  | ⟨0, _⟩ => show win0_5.index t (0 : Fin 2) * 3584 + 1 * r.val = r.val; omega
  | ⟨1, _⟩ => show win0_5.index t (1 : Fin 2) * 512 + 1 * n.val = t.val * 512 + n.val; omega

theorem iblk6_apply (c : Dev nD) (t : Fin cfg0.N) (r : Fin 28) (n : Fin 512) :
    iblk m c 6 t (ix2 r n) = m ((c : Thread nD τ).loc main_arg6) (ix2 r (col t n)) := by
  rw [← V_main_arg6 m c]
  have hi : ∀ t : Fin cfg0.N, win0_6.index t (0 : Fin 2) = 0 ∧ win0_6.index t (1 : Fin 2) = t.val := (by decide +kernel : ∀ t : Fin grid0.N, _)
  obtain ⟨e0, e1⟩ := hi t
  show V m c main_arg6 (((cfg0.win 6).blk t).view.emb (ix2 r n)) = _
  congr 1
  funext a; apply Fin.ext
  match a with
  | ⟨0, _⟩ => show win0_6.index t (0 : Fin 2) * 28 + 1 * r.val = r.val; omega
  | ⟨1, _⟩ => show win0_6.index t (1 : Fin 2) * 512 + 1 * n.val = t.val * 512 + n.val; omega

theorem rows_eq (c : Dev nD) : rows m c = Cert.First.rows (m ((c : Thread nD τ).loc main_arg0)) := by
  funext r n
  exact iblk0_apply m c t0 r n

/-! ## The tiles -/

theorem pay4_apply (a : Vec Ideal S24x3584 .bf16) (w : Vec Ideal S3584x512 .fp8e4m3) (s : Vec Ideal S28x512 .f32) (r : Fin 24) (n : Fin 512) :
    (k0_pay4 a w s (ix2 r n) : EReal) = ∑ k : Fin 3584, a (ix2 r k) * (w (ix2 k n) * s (ix2 (⟨k.val / 128, by omega⟩ : Fin 28) n)) := by
  unfold k0_pay4
  pointwise

theorem first1_apply (z : Vec Ideal S24x128 .f32) (r : Fin 24) : first1 z (ix2 r (0 : Fin 1)) = z (ix2 r (0 : Fin 128)) := by
  unfold first1
  show z ((Rect.unit (s := S24x128) ![0, 0] S24x1.size inb_S24x128_S24x1_0_0).emb (ix2 r (0 : Fin 1))) = _
  refine congrArg z ?_
  funext a; apply Fin.ext
  match a with
  | ⟨0, _⟩ => show 0 + 1 * r.val = r.val; omega
  | ⟨1, _⟩ => rfl

theorem pay5_apply (e : Vec Ideal S24x3584 .bf16) (w : Vec Ideal S3584x512 .fp8e4m3) (s : Vec Ideal S28x512 .f32) (z : Vec Ideal S24x1 .f32) (r : Fin 24) (n : Fin 512) :
    (k0_pay5 e w s z (ix2 r n) : EReal)
      = (∑ k : Fin 3584, e (ix2 r k) * (w (ix2 k n) * s (ix2 (⟨k.val / 128, by omega⟩ : Fin 28) n))) * z (ix2 r (0 : Fin 1)) := by
  unfold k0_pay5
  pointwise

/-- The product of the quantised rows with the first weights. -/
def outPx (c : Dev nD) : Vec Ideal S24x3584 .f32 :=
  Cert.First.px (m ((c : Thread nD τ).loc main_arg0)) (m ((c : Thread nD τ).loc main_arg3)) (m ((c : Thread nD τ).loc main_arg4))

/-- The product of the last embedding with the second weights. -/
def outPu (c : Dev nD) : Vec Ideal S24x3584 .f32 :=
  Cert.First.pu (m ((c : Thread nD τ).loc main_arg1)) (m ((c : Thread nD τ).loc main_arg2)) (m ((c : Thread nD τ).loc main_arg5)) (m ((c : Thread nD τ).loc main_arg6))

/-- The codes. -/
def outCodes (c : Dev nD) : Vec Ideal S24x3584 .fp8e4m3 := Mlp.codes (Cert.First.rows (m ((c : Thread nD τ).loc main_arg0)))

/-- The scales. -/
def outScales (c : Dev nD) : Vec Ideal S24x28 .f32 := Mlp.scales (Cert.First.rows (m ((c : Thread nD τ).loc main_arg0)))

theorem tile7_apply (c : Dev nD) (t : Fin cfg0.N) (r : Fin 24) (n : Fin 512) :
    k0_pay4 (xq0 m c) (iblk m c 3 t) (iblk m c 4 t) (ix2 r n) = outPx m c (ix2 r (col t n)) := by
  refine (pay4_apply _ _ _ r n).trans ?_
  rw [xq0_eq, rows_eq]
  simp only [iblk3_apply, iblk4_apply]
  rfl

theorem tile8_apply (c : Dev nD) (t : Fin cfg0.N) (r : Fin 24) (n : Fin 512) :
    k0_pay5 (iblk m c 1 t) (iblk m c 5 t) (iblk m c 6 t) (first1 (iblk m c 2 t)) (ix2 r n) = outPu m c (ix2 r (col t n)) := by
  refine (pay5_apply _ _ _ _ r n).trans ?_
  rw [first1_apply]
  simp only [iblk1_apply, iblk2_apply, iblk5_apply, iblk6_apply]
  rfl

/-! ## The arrays at the end -/

/-- The grid point whose tile holds a column. -/
def ptOf (i : S24x3584.Idx) : Fin cfg0.N :=
  ⟨(i 1).val / 512, lt_of_lt_of_eq (by have : (i 1).val < 3584 := (i 1).isLt; omega) (show 7 = cfg0.N from N_0.symm)⟩

/-- The last grid point. -/
def tLast : Fin cfg0.N := ⟨6, lt_of_lt_of_eq (by decide) (show 7 = cfg0.N from N_0.symm)⟩

theorem idx7 : ∀ t : Fin cfg0.N, win0_7.index t (0 : Fin 2) = 0 ∧ win0_7.index t (1 : Fin 2) = t.val := (by decide +kernel : ∀ t : Fin grid0.N, _)

/-- What a point writes back is its tile. -/
theorem flushed7_eq (c : Dev nD) (t : Fin cfg0.N) (hf : (cfg0.win 7).flush t = true) :
    (dats m 0 c).flushed 7 t = ((cfg0.win 7).blk t).view.read (Elt Ideal) (outPx m c) := by
  show (cfg0.win 7).cut (grid0.coords t) ((dats m 0 c).after 7 t) = _
  rw [after0_7]
  obtain ⟨e0, e1⟩ := idx7 t
  funext y
  have hl : ((cfg0.win 7).xinj (grid0.coords t) y : S24x512.Idx) = ix2 (⟨(y 0).val, (y 0).isLt⟩ : Fin 24) (⟨(y 1).val, (y 1).isLt⟩ : Fin 512) := by
    funext a
    match a with
    | ⟨0, _⟩ => rfl
    | ⟨1, _⟩ => rfl
  show k0_pay4 (xq0 m c) (iblk m c 3 t) (iblk m c 4 t) ((cfg0.win 7).xinj (grid0.coords t) y) = outPx m c (((cfg0.win 7).blk t).view.emb y)
  rw [hl, tile7_apply]
  refine congrArg (outPx m c) ?_
  funext a; apply Fin.ext
  match a with
  | ⟨0, _⟩ => show (y 0).val = win0_7.index t (0 : Fin 2) * 24 + 1 * (y 0).val; omega
  | ⟨1, _⟩ => show t.val * 512 + (y 1).val = win0_7.index t (1 : Fin 2) * 512 + 1 * (y 1).val; omega

/-- An index is in a point's tile iff each coordinate is in the tile's range. -/
theorem mem_blk7 (t : Fin cfg0.N) (i : S24x3584.Idx) :
    i ∈ ((cfg0.win 7).blk t).view.set ↔ ∀ a : Fin 2, win0_7.index t a * S24x512.size a ≤ (i a).val ∧ (i a).val < win0_7.index t a * S24x512.size a + S24x512.size a := by
  show i ∈ ((View.whole main_v0_0).slice (win0_7.rect t)).set ↔ _
  rw [View.set_slice_whole, Rect.mem_set_unit]
  exact Iff.rfl

theorem final7 (c : Dev nD) : (dats m 0 c).arrAt 7 cfg0.N = outPx m c :=
  (dats m 0 c).arrAt_eq_of_cover 7 (outPx m c) (flushed7_eq m c) fun i =>
    ⟨ptOf i, flush0_7 _, (mem_blk7 (ptOf i) i).mpr fun a => by
      obtain ⟨e0, e1⟩ := idx7 (ptOf i)
      have h0 : (i 0).val < 24 := (i 0).isLt
      have h1 : (i 1).val < 3584 := (i 1).isLt
      have hp : (ptOf i).val = (i 1).val / 512 := rfl
      match a with
      | ⟨0, _⟩ => show win0_7.index (ptOf i) (0 : Fin 2) * 24 ≤ (i 0).val ∧ (i 0).val < win0_7.index (ptOf i) (0 : Fin 2) * 24 + 24; omega
      | ⟨1, _⟩ => show win0_7.index (ptOf i) (1 : Fin 2) * 512 ≤ (i 1).val ∧ (i 1).val < win0_7.index (ptOf i) (1 : Fin 2) * 512 + 512; omega⟩

theorem idx8 : ∀ t : Fin cfg0.N, win0_8.index t (0 : Fin 2) = 0 ∧ win0_8.index t (1 : Fin 2) = t.val := (by decide +kernel : ∀ t : Fin grid0.N, _)

/-- What a point writes back is its tile. -/
theorem flushed8_eq (c : Dev nD) (t : Fin cfg0.N) (hf : (cfg0.win 8).flush t = true) :
    (dats m 0 c).flushed 8 t = ((cfg0.win 8).blk t).view.read (Elt Ideal) (outPu m c) := by
  show (cfg0.win 8).cut (grid0.coords t) ((dats m 0 c).after 8 t) = _
  rw [after0_8]
  obtain ⟨e0, e1⟩ := idx8 t
  funext y
  have hl : ((cfg0.win 8).xinj (grid0.coords t) y : S24x512.Idx) = ix2 (⟨(y 0).val, (y 0).isLt⟩ : Fin 24) (⟨(y 1).val, (y 1).isLt⟩ : Fin 512) := by
    funext a
    match a with
    | ⟨0, _⟩ => rfl
    | ⟨1, _⟩ => rfl
  show k0_pay5 (iblk m c 1 t) (iblk m c 5 t) (iblk m c 6 t) (first1 (iblk m c 2 t)) ((cfg0.win 8).xinj (grid0.coords t) y) = outPu m c (((cfg0.win 8).blk t).view.emb y)
  rw [hl, tile8_apply]
  refine congrArg (outPu m c) ?_
  funext a; apply Fin.ext
  match a with
  | ⟨0, _⟩ => show (y 0).val = win0_8.index t (0 : Fin 2) * 24 + 1 * (y 0).val; omega
  | ⟨1, _⟩ => show t.val * 512 + (y 1).val = win0_8.index t (1 : Fin 2) * 512 + 1 * (y 1).val; omega

/-- An index is in a point's tile iff each coordinate is in the tile's range. -/
theorem mem_blk8 (t : Fin cfg0.N) (i : S24x3584.Idx) :
    i ∈ ((cfg0.win 8).blk t).view.set ↔ ∀ a : Fin 2, win0_8.index t a * S24x512.size a ≤ (i a).val ∧ (i a).val < win0_8.index t a * S24x512.size a + S24x512.size a := by
  show i ∈ ((View.whole main_v0_1).slice (win0_8.rect t)).set ↔ _
  rw [View.set_slice_whole, Rect.mem_set_unit]
  exact Iff.rfl

theorem final8 (c : Dev nD) : (dats m 0 c).arrAt 8 cfg0.N = outPu m c :=
  (dats m 0 c).arrAt_eq_of_cover 8 (outPu m c) (flushed8_eq m c) fun i =>
    ⟨ptOf i, flush0_8 _, (mem_blk8 (ptOf i) i).mpr fun a => by
      obtain ⟨e0, e1⟩ := idx8 (ptOf i)
      have h0 : (i 0).val < 24 := (i 0).isLt
      have h1 : (i 1).val < 3584 := (i 1).isLt
      have hp : (ptOf i).val = (i 1).val / 512 := rfl
      match a with
      | ⟨0, _⟩ => show win0_8.index (ptOf i) (0 : Fin 2) * 24 ≤ (i 0).val ∧ (i 0).val < win0_8.index (ptOf i) (0 : Fin 2) * 24 + 24; omega
      | ⟨1, _⟩ => show win0_8.index (ptOf i) (1 : Fin 2) * 512 ≤ (i 1).val ∧ (i 1).val < win0_8.index (ptOf i) (1 : Fin 2) * 512 + 512; omega⟩

theorem idx9 : ∀ t : Fin cfg0.N, win0_9.index t (0 : Fin 2) = 0 ∧ win0_9.index t (1 : Fin 2) = 0 := (by decide +kernel : ∀ t : Fin grid0.N, _)

/-- What the last point writes back is the whole array. -/
theorem flushed9_eq (c : Dev nD) (t : Fin cfg0.N) (hf : (cfg0.win 9).flush t = true) :
    (dats m 0 c).flushed 9 t = ((cfg0.win 9).blk t).view.read (Elt Ideal) (outCodes m c) := by
  show (cfg0.win 9).cut (grid0.coords t) ((dats m 0 c).after 9 t) = _
  have hx : xc0 m c = outCodes m c := (xc0_eq m c).trans (by rw [rows_eq]; rfl)
  rw [after0_9, hx]
  obtain ⟨e0, e1⟩ := idx9 t
  funext y
  show outCodes m c ((cfg0.win 9).xinj (grid0.coords t) y) = outCodes m c (((cfg0.win 9).blk t).view.emb y)
  refine congrArg (outCodes m c) ?_
  funext a; apply Fin.ext
  match a with
  | ⟨0, _⟩ => show (y 0).val = win0_9.index t (0 : Fin 2) * 24 + 1 * (y 0).val; omega
  | ⟨1, _⟩ => show (y 1).val = win0_9.index t (1 : Fin 2) * 3584 + 1 * (y 1).val; omega

theorem mem_blk9 (t : Fin cfg0.N) (i : S24x3584.Idx) :
    i ∈ ((cfg0.win 9).blk t).view.set ↔ ∀ a : Fin 2, win0_9.index t a * S24x3584.size a ≤ (i a).val ∧ (i a).val < win0_9.index t a * S24x3584.size a + S24x3584.size a := by
  show i ∈ ((View.whole main_v0_2).slice (win0_9.rect t)).set ↔ _
  rw [View.set_slice_whole, Rect.mem_set_unit]
  exact Iff.rfl

theorem final9 (c : Dev nD) : (dats m 0 c).arrAt 9 cfg0.N = outCodes m c :=
  (dats m 0 c).arrAt_eq_of_cover 9 (outCodes m c) (flushed9_eq m c) fun i =>
    ⟨tLast, (flush0_9 tLast).mpr rfl, (mem_blk9 tLast i).mpr fun a => by
      obtain ⟨e0, e1⟩ := idx9 tLast
      have h0 : (i 0).val < 24 := (i 0).isLt
      have h1 : (i 1).val < 3584 := (i 1).isLt
      match a with
      | ⟨0, _⟩ => show win0_9.index tLast (0 : Fin 2) * 24 ≤ (i 0).val ∧ (i 0).val < win0_9.index tLast (0 : Fin 2) * 24 + 24; omega
      | ⟨1, _⟩ => show win0_9.index tLast (1 : Fin 2) * 3584 ≤ (i 1).val ∧ (i 1).val < win0_9.index tLast (1 : Fin 2) * 3584 + 3584; omega⟩

theorem idx10 : ∀ t : Fin cfg0.N, win0_10.index t (0 : Fin 2) = 0 ∧ win0_10.index t (1 : Fin 2) = 0 := (by decide +kernel : ∀ t : Fin grid0.N, _)

/-- What the last point writes back is the whole array. -/
theorem flushed10_eq (c : Dev nD) (t : Fin cfg0.N) (hf : (cfg0.win 10).flush t = true) :
    (dats m 0 c).flushed 10 t = ((cfg0.win 10).blk t).view.read (Elt Ideal) (outScales m c) := by
  show (cfg0.win 10).cut (grid0.coords t) ((dats m 0 c).after 10 t) = _
  have hx : xs0 m c = outScales m c := (xs0_eq m c).trans (by rw [rows_eq]; rfl)
  rw [after0_10, hx]
  obtain ⟨e0, e1⟩ := idx10 t
  funext y
  show outScales m c ((cfg0.win 10).xinj (grid0.coords t) y) = outScales m c (((cfg0.win 10).blk t).view.emb y)
  refine congrArg (outScales m c) ?_
  funext a; apply Fin.ext
  match a with
  | ⟨0, _⟩ => show (y 0).val = win0_10.index t (0 : Fin 2) * 24 + 1 * (y 0).val; omega
  | ⟨1, _⟩ => show (y 1).val = win0_10.index t (1 : Fin 2) * 28 + 1 * (y 1).val; omega

theorem mem_blk10 (t : Fin cfg0.N) (i : S24x28.Idx) :
    i ∈ ((cfg0.win 10).blk t).view.set ↔ ∀ a : Fin 2, win0_10.index t a * S24x28.size a ≤ (i a).val ∧ (i a).val < win0_10.index t a * S24x28.size a + S24x28.size a := by
  show i ∈ ((View.whole main_v0_3).slice (win0_10.rect t)).set ↔ _
  rw [View.set_slice_whole, Rect.mem_set_unit]
  exact Iff.rfl

theorem final10 (c : Dev nD) : (dats m 0 c).arrAt 10 cfg0.N = outScales m c :=
  (dats m 0 c).arrAt_eq_of_cover 10 (outScales m c) (flushed10_eq m c) fun i =>
    ⟨tLast, (flush0_10 tLast).mpr rfl, (mem_blk10 tLast i).mpr fun a => by
      obtain ⟨e0, e1⟩ := idx10 tLast
      have h0 : (i 0).val < 24 := (i 0).isLt
      have h1 : (i 1).val < 28 := (i 1).isLt
      match a with
      | ⟨0, _⟩ => show win0_10.index tLast (0 : Fin 2) * 24 ≤ (i 0).val ∧ (i 0).val < win0_10.index tLast (0 : Fin 2) * 24 + 24; omega
      | ⟨1, _⟩ => show win0_10.index tLast (1 : Fin 2) * 28 ≤ (i 1).val ∧ (i 1).val < win0_10.index tLast (1 : Fin 2) * 28 + 28; omega⟩

/-! ## The run -/

/-- The program ends with the two products, the codes and the scales, its arguments unchanged. -/
theorem run : θ_run defs (onTc (τ := τ) (main (F := Ideal))) ⟨m, fun _ => 0, ρ⟩ fun r => ∀ c : Dev nD,
      r.2.mem ((c : Thread nD τ).loc main_v0_0) = outPx m c
      ∧ r.2.mem ((c : Thread nD τ).loc main_v0_1) = outPu m c
      ∧ r.2.mem ((c : Thread nD τ).loc main_v0_2) = outCodes m c
      ∧ r.2.mem ((c : Thread nD τ).loc main_v0_3) = outScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c), ((h c).1 8).trans (final8 m c), ((h c).1 9).trans (final9 m c),
      ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Cert.FirstIdeal.First

end
-- ==== Proof.First.Reference.lean ====
/- The reference of the first call over the extended reals: its four results are the two products, the codes and the scales of the
   rows. -/
module

public import proofs.«01_k».proof.Proof.Gen.FirstReferenceIdeal.Value
public import proofs.«01_k».proof.Proof.QuantWhole
public import proofs.«01_k».proof.Proof.First.Spec
public import Idealize.ShloMosaic.Lib.Claim

@[expose] public section

set_option maxRecDepth 16384

noncomputable section

namespace Cert.FirstReferenceIdeal.Whole

open Cert.FirstReferenceIdeal Cert.FirstReferenceIdeal.Gen Cert.QuantWhole
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## The quantiser -/

/-- The zero a block's exponent is outside the normal numbers. -/
abbrev zero : Ideal .f32 := Scalar.ofBits .f32 0x00000000#32

variable (y : FVec Ideal Cert.FirstReferenceIdeal.S24x28x128 .f32)

theorem pay1_eq : k0_pay1 (clippedW (levelW y)) (outsideW (levelW y)) zero = expoW y := by
  unfold k0_pay1 expoW
  generalize clippedW (levelW y) = a
  generalize levelW y = b
  rfl

theorem pay3_eq : k0_pay3 (clippedW (levelW y)) (outsideW (levelW y)) zero = scaleW y := by
  unfold k0_pay3 scaleW
  rw [pay1_eq]

theorem pay2_eq : k0_pay2 y (clippedW (levelW y)) (outsideW (levelW y)) zero = blocksW y := by
  unfold k0_pay2 blocksW
  rw [pay1_eq]

theorem pay6_eq : k0_pay6 y (clippedW (levelW y)) (outsideW (levelW y)) zero = codesW y := by
  unfold k0_pay6 codesW
  rw [pay2_eq]

variable (v8 : FVec Ideal S3584x3584 .bf16)

/-- The product of the widened rows with the widened weights. -/
def times (a : FVec Ideal Cert.FirstReferenceIdeal.S24x3584 .bf16) (w : FVec Ideal S3584x3584 .bf16) : FVec Ideal Cert.FirstReferenceIdeal.S24x3584 .f32 :=
  matmul dot_S24x3584_S3584x3584_S24x3584_1_0_0_1_n_n none a w (constant Cert.FirstReferenceIdeal.S24x3584 .f32 0x00000000#32)

theorem pay4_eq : k0_pay4 v8 y (clippedW (levelW y)) (outsideW (levelW y)) zero = times (wideW y) v8 := by
  unfold k0_pay4 times wideW
  rw [pay2_eq, pay3_eq]

variable (x : Vec Ideal Cert.FirstReferenceIdeal.S24x3584 .bf16)

theorem pay10_eq : k0_pay10 x = levelW (k0_pay9 x) := by
  unfold k0_pay10 levelW
  generalize k0_pay9 x = z
  rfl

theorem pay11_eq : k0_pay11 x = clippedW (levelW (k0_pay9 x)) := by
  rw [← pay10_eq]
  unfold k0_pay11 clippedW
  rfl

theorem pay12_eq : k0_pay12 x = outsideW (levelW (k0_pay9 x)) := by
  rw [← pay10_eq]
  unfold k0_pay12 outsideW
  rfl

/-- The rows, cut into blocks. -/
theorem isWhole : IsWhole (k0_pay9 x) (First.rows x) := by
  intro r b k
  unfold k0_pay9
  pointwise
  rfl

/-! ## The products -/

theorem times_apply (a : FVec Ideal Cert.FirstReferenceIdeal.S24x3584 .bf16) (w : FVec Ideal S3584x3584 .bf16) (r : Fin 24) (n : Fin 3584) :
    (times a w (ix2 r n) : EReal) = ∑ k : Fin 3584, (a (ix2 r k) : EReal) * w (ix2 k n) := by
  unfold times
  pointwise

theorem pay7_apply (v0 : Vec Ideal S3584x3584 .fp8e4m3) (v3 : Vec Ideal Cert.FirstReferenceIdeal.S28x3584 .f32) (k n : Fin 3584) :
    (k0_pay7 v0 v3 (ix2 k n) : EReal) = v0 (ix2 k n) * v3 (ix2 (⟨k.val / 128, by omega⟩ : Fin 28) n) := by
  unfold k0_pay7
  pointwise

theorem pay8_apply (v0 : Vec Ideal S3584x3584 .fp8e4m3) (v3 : Vec Ideal Cert.FirstReferenceIdeal.S28x3584 .f32) (k n : Fin 3584) :
    (k0_pay8 v0 v3 (ix2 k n) : EReal) = v0 (ix2 k n) * v3 (ix2 (⟨k.val / 128, by omega⟩ : Fin 28) n) := by
  unfold k0_pay8
  pointwise

theorem pay5_apply (v17 : FVec Ideal S3584x3584 .bf16) (e : Vec Ideal Cert.FirstReferenceIdeal.S24x3584 .bf16) (z : Vec Ideal S24x128 .f32) (r : Fin 24) (n : Fin 3584) :
    (k0_pay5 v17 e z (ix2 r n) : EReal) = (times e v17 (ix2 r n) : EReal) * z (ix2 r (0 : Fin 128)) := by
  unfold k0_pay5
  rw [← times]
  generalize times e v17 = t
  pointwise

theorem dot_apply (a : FVec Ideal Cert.FirstReferenceIdeal.S24x3584 .bf16) (w : FVec Ideal S3584x3584 .bf16) (v0 : Vec Ideal S3584x3584 .fp8e4m3)
    (v3 : Vec Ideal Cert.FirstReferenceIdeal.S28x3584 .f32) (h : ∀ k n : Fin 3584, (w (ix2 k n) : EReal) = v0 (ix2 k n) * v3 (ix2 (⟨k.val / 128, by omega⟩ : Fin 28) n))
    (r : Fin 24) (n : Fin 3584) : (times a w (ix2 r n) : EReal) = Mlp.dot a v0 v3 r n :=
  (times_apply a w r n).trans (Finset.sum_congr rfl fun k _ => congrArg (fun z : EReal => (a (ix2 r k) : EReal) * z) (h k n))

theorem at_eq (i : Cert.FirstReferenceIdeal.S24x3584.Idx) : i = ix2 (i 0 : Fin 24) (i 1 : Fin 3584) := by
  funext a
  match a with
  | ⟨0, _⟩ => rfl
  | ⟨1, _⟩ => rfl

/-! ## The results -/

theorem ld_rows : View.ld x r0_2 = x := View.ld_unit_zero (S := Cert.FirstReferenceIdeal.S24x3584) Value.hz1 _ x

variable (e : Vec Ideal Cert.FirstReferenceIdeal.S24x3584 .bf16) (z : Vec Ideal S24x128 .f32) (w : Vec Ideal S3584x3584 .fp8e4m3)
  (s : Vec Ideal Cert.FirstReferenceIdeal.S28x3584 .f32) (u : Vec Ideal S3584x3584 .fp8e4m3) (q : Vec Ideal Cert.FirstReferenceIdeal.S28x3584 .f32)

theorem G7_eq : Value.G7 x e z w s u q = First.px x w s := by
  show k0_pay4 (k0_pay7 w s) (k0_pay9 (View.ld x r0_2)) (k0_pay11 (View.ld x r0_2)) (k0_pay12 (View.ld x r0_2)) zero = _
  rw [ld_rows, pay11_eq, pay12_eq, pay4_eq, (isWhole x).wide_eq]
  funext i
  have h : ∀ (r : Fin 24) (n : Fin 3584), (times (Mlp.wide (First.rows x)) (k0_pay7 w s) (ix2 r n) : EReal) = First.px x w s (ix2 r n) :=
    fun r n => dot_apply _ _ w s (pay7_apply w s) r n
  rw [at_eq i]
  exact h _ _

theorem G8_eq : Value.G8 x e z w s u q = First.pu e z u q := by
  show k0_pay5 (k0_pay8 u q) e z = _
  funext i
  have h : ∀ (r : Fin 24) (n : Fin 3584), (k0_pay5 (k0_pay8 u q) e z (ix2 r n) : EReal) = First.pu e z u q (ix2 r n) := by
    intro r n
    refine (pay5_apply _ e z r n).trans ?_
    rw [dot_apply _ _ u q (pay8_apply u q) r n]
    rfl
  rw [at_eq i]
  exact h _ _

theorem G9_eq : Value.G9 x e z w s u q = Mlp.codes (First.rows x) := by
  show k0_pay6 (k0_pay9 (View.ld x r0_2)) (k0_pay11 (View.ld x r0_2)) (k0_pay12 (View.ld x r0_2)) zero = _
  rw [ld_rows, pay11_eq, pay12_eq, pay6_eq, (isWhole x).codes_eq]

theorem G10_eq : Value.G10 x e z w s u q = Mlp.scales (First.rows x) := by
  show k0_pay3 (k0_pay11 (View.ld x r0_2)) (k0_pay12 (View.ld x r0_2)) zero = _
  rw [ld_rows, pay11_eq, pay12_eq, pay3_eq, (isWhole x).scales_eq]

/-- The reference ends with the two products, the codes and the scales, its arguments unchanged. -/
theorem run : θ_run defs (onTc (τ := τ) (main (F := Ideal))) ⟨m, fun _ => 0, ρ⟩ fun r => ∀ c : Dev nD,
      r.2.mem ((c : Thread nD τ).loc main_v0_0) = First.px (m ((c : Thread nD τ).loc main_arg0)) (m ((c : Thread nD τ).loc main_arg3)) (m ((c : Thread nD τ).loc main_arg4))
      ∧ r.2.mem ((c : Thread nD τ).loc main_v0_1) = First.pu (m ((c : Thread nD τ).loc main_arg1)) (m ((c : Thread nD τ).loc main_arg2))
          (m ((c : Thread nD τ).loc main_arg5)) (m ((c : Thread nD τ).loc main_arg6))
      ∧ r.2.mem ((c : Thread nD τ).loc main_v0_2) = Mlp.codes (First.rows (m ((c : Thread nD τ).loc main_arg0)))
      ∧ r.2.mem ((c : Thread nD τ).loc main_v0_3) = Mlp.scales (First.rows (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h7, h8, h9, h10, ha⟩ := h c
    exact ⟨h7.trans (G7_eq _ _ _ _ _ _ _), h8.trans (G8_eq _ _ _ _ _ _ _), h9.trans (G9_eq _ _ _ _ _ _ _), h10.trans (G10_eq _ _ _ _ _ _ _), ha⟩)
    (Value.run m ρ)

end Cert.FirstReferenceIdeal.Whole

end
-- ==== Proof.First.Algebra.lean ====
/- The first call's kernel and its reference over the extended reals end with the same four results. -/
module

public import proofs.«01_k».proof.Defs
public import proofs.«01_k».proof.Proof.First.Kernel
public import proofs.«01_k».proof.Proof.First.Reference

@[expose] public section

set_option maxRecDepth 16384

noncomputable section

namespace Cert.FirstAlgebra

open Idealize.ShloMosaic Idealize.ShloMosaic.TcCoe Idealize.SL.Sem

/-- THE VALUE CLAIM of the first call: from memories with the same arguments, both programs end with the same results. -/
theorem algebraic : Cert.algebraic_FirstIdeal_FirstReferenceIdeal := by
  intro m ρ m' ρ' _ hag
  refine ⟨fun c => Cert.FirstIdeal.First.outPx m c, fun c => Cert.FirstIdeal.First.outPu m c, fun c => Cert.FirstIdeal.First.outCodes m c,
    fun c => Cert.FirstIdeal.First.outScales m c, Cert.FirstIdeal.First.run m ρ, ?_⟩
  refine (θ_run _ _ _).mono (fun r h c => ?_) (Cert.FirstReferenceIdeal.Whole.run m' ρ')
  obtain ⟨h7, h8, h9, h10, ha⟩ := h c
  obtain ⟨a0, a1, a2, a3, a4, a5, a6⟩ := hag c
  rw [a0, a3, a4] at h7
  rw [a1, a2, a5, a6] at h8
  rw [a0] at h9 h10
  exact ⟨h7, h8, h9, h10, ha⟩

end Cert.FirstAlgebra

end
-- ==== Proof.Emb.Kernel.lean ====
/- The embedding product over the extended reals: each grid point computes its tile of 512 columns, and the array at the end is the
   product. -/
module

public import proofs.«01_k».proof.Proof.Gen.EmbIdeal.Value
public import proofs.«01_k».proof.Proof.First.Spec
public import Idealize.ShloMosaic.Lib.Claim
public import Idealize.ShloMosaic.Lib.Pointwise

@[expose] public section

set_option maxRecDepth 16384

noncomputable section

namespace Cert.EmbIdeal.Product

open Cert.EmbIdeal Cert.EmbIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- A grid point's number. -/
def num (t : Fin cfg0.N) : Fin 7 := ⟨t.val, lt_of_lt_of_eq t.isLt N_0⟩

/-- A column of a grid point's tile, as a column of the array. -/
def col (t : Fin cfg0.N) (n : Fin 512) : Fin 3584 := ⟨(num t).val * 512 + n.val, by have := (num t).isLt; omega⟩

/-! ## The blocks a grid point reads -/

theorem iblk0_apply (c : Dev nD) (t : Fin cfg0.N) (r : Fin 768) (n : Fin 3584) :
    iblk m c 0 t (ix2 r n) = m ((c : Thread nD τ).loc main_arg0) (ix2 r (n)) := by
  rw [← V_main_arg0 m c]
  have hi : ∀ t : Fin cfg0.N, win0_0.index t (0 : Fin 2) = 0 ∧ win0_0.index t (1 : Fin 2) = 0 := (by decide +kernel : ∀ t : Fin grid0.N, _)
  obtain ⟨e0, e1⟩ := hi t
  show V m c main_arg0 (((cfg0.win 0).blk t).view.emb (ix2 r n)) = _
  congr 1
  funext a; apply Fin.ext
  match a with
  | ⟨0, _⟩ => show win0_0.index t (0 : Fin 2) * 768 + 1 * r.val = r.val; omega
  | ⟨1, _⟩ => show win0_0.index t (1 : Fin 2) * 3584 + 1 * n.val = n.val; omega

theorem iblk1_apply (c : Dev nD) (t : Fin cfg0.N) (r : Fin 768) (n : Fin 128) :
    iblk m c 1 t (ix2 r n) = m ((c : Thread nD τ).loc main_arg1) (ix2 r (n)) := by
  rw [← V_main_arg1 m c]
  have hi : ∀ t : Fin cfg0.N, win0_1.index t (0 : Fin 2) = 0 ∧ win0_1.index t (1 : Fin 2) = 0 := (by decide +kernel : ∀ t : Fin grid0.N, _)
  obtain ⟨e0, e1⟩ := hi t
  show V m c main_arg1 (((cfg0.win 1).blk t).view.emb (ix2 r n)) = _
  congr 1
  funext a; apply Fin.ext
  match a with
  | ⟨0, _⟩ => show win0_1.index t (0 : Fin 2) * 768 + 1 * r.val = r.val; omega
  | ⟨1, _⟩ => show win0_1.index t (1 : Fin 2) * 128 + 1 * n.val = n.val; omega

theorem iblk2_apply (c : Dev nD) (t : Fin cfg0.N) (r : Fin 3584) (n : Fin 512) :
    iblk m c 2 t (ix2 r n) = m ((c : Thread nD τ).loc main_arg2) (ix2 r (col t n)) := by
  rw [← V_main_arg2 m c]
  have hi : ∀ t : Fin cfg0.N, win0_2.index t (0 : Fin 2) = 0 ∧ win0_2.index t (1 : Fin 2) = t.val := (by decide +kernel : ∀ t : Fin grid0.N, _)
  obtain ⟨e0, e1⟩ := hi t
  show V m c main_arg2 (((cfg0.win 2).blk t).view.emb (ix2 r n)) = _
  congr 1
  funext a; apply Fin.ext
  match a with
  | ⟨0, _⟩ => show win0_2.index t (0 : Fin 2) * 3584 + 1 * r.val = r.val; omega
  | ⟨1, _⟩ => show win0_2.index t (1 : Fin 2) * 512 + 1 * n.val = t.val * 512 + n.val; omega

theorem iblk3_apply (c : Dev nD) (t : Fin cfg0.N) (r : Fin 28) (n : Fin 512) :
    iblk m c 3 t (ix2 r n) = m ((c : Thread nD τ).loc main_arg3) (ix2 r (col t n)) := by
  rw [← V_main_arg3 m c]
  have hi : ∀ t : Fin cfg0.N, win0_3.index t (0 : Fin 2) = 0 ∧ win0_3.index t (1 : Fin 2) = t.val := (by decide +kernel : ∀ t : Fin grid0.N, _)
  obtain ⟨e0, e1⟩ := hi t
  show V m c main_arg3 (((cfg0.win 3).blk t).view.emb (ix2 r n)) = _
  congr 1
  funext a; apply Fin.ext
  match a with
  | ⟨0, _⟩ => show win0_3.index t (0 : Fin 2) * 28 + 1 * r.val = r.val; omega
  | ⟨1, _⟩ => show win0_3.index t (1 : Fin 2) * 512 + 1 * n.val = t.val * 512 + n.val; omega

/-! ## The tile -/

/-- The first column of the scales of the embedding. -/
def first1 (z : Vec Ideal S768x128 .f32) : Vec Ideal S768x1 .f32 := View.ld z r0_3

theorem first1_apply (z : Vec Ideal S768x128 .f32) (r : Fin 768) : first1 z (ix2 r (0 : Fin 1)) = z (ix2 r (0 : Fin 128)) := by
  unfold first1
  show z (r0_3.emb (ix2 r (0 : Fin 1))) = _
  refine congrArg z ?_
  funext a; apply Fin.ext
  match a with
  | ⟨0, _⟩ => show 0 + 1 * r.val = r.val; omega
  | ⟨1, _⟩ => rfl

theorem pay1_apply (e : Vec Ideal Cert.EmbIdeal.S768x3584 .bf16) (w : Vec Ideal S3584x512 .fp8e4m3) (s : Vec Ideal S28x512 .f32) (z : Vec Ideal S768x1 .f32) (r : Fin 768) (n : Fin 512) :
    (k0_pay1 e w s z (ix2 r n) : EReal)
      = (∑ k : Fin 3584, e (ix2 r k) * (w (ix2 k n) * s (ix2 (⟨k.val / 128, by omega⟩ : Fin 28) n))) * z (ix2 r (0 : Fin 1)) := by
  unfold k0_pay1
  pointwise

/-- The product of the embedding with the weights. -/
def outPw (c : Dev nD) : Vec Ideal Cert.EmbIdeal.S768x3584 .f32 :=
  Cert.First.pu (N := 768) (m ((c : Thread nD τ).loc main_arg0)) (m ((c : Thread nD τ).loc main_arg1)) (m ((c : Thread nD τ).loc main_arg2)) (m ((c : Thread nD τ).loc main_arg3))

theorem hz : (![0, 0] : Fin 2 → ℕ) = fun _ => 0 := funext fun a => by fin_cases a <;> rfl

theorem out_eq (e : Vec Ideal Cert.EmbIdeal.S768x3584 .bf16) (z : Vec Ideal S768x128 .f32) (w : Vec Ideal S3584x512 .fp8e4m3) (s : Vec Ideal S28x512 .f32) :
    out0_4 e z w s = k0_pay1 e w s (first1 z) := by
  unfold out0_4 first1
  rw [View.canon_unit_zero hz, View.ld_unit_zero (S := S3584x512) hz _ w, View.ld_unit_zero (S := S28x512) hz _ s,
    View.ld_unit_zero (S := Cert.EmbIdeal.S768x3584) hz _ e]

theorem tile_apply (c : Dev nD) (t : Fin cfg0.N) (r : Fin 768) (n : Fin 512) :
    out0_4 (iblk m c 0 t) (iblk m c 1 t) (iblk m c 2 t) (iblk m c 3 t) (ix2 r n) = outPw m c (ix2 r (col t n)) := by
  rw [out_eq]
  refine (pay1_apply _ _ _ _ r n).trans ?_
  rw [first1_apply]
  simp only [iblk0_apply, iblk1_apply, iblk2_apply, iblk3_apply]
  rfl

/-! ## The array at the end -/

/-- The grid point whose tile holds a column. -/
def ptOf (i : Cert.EmbIdeal.S768x3584.Idx) : Fin cfg0.N :=
  ⟨(i 1).val / 512, lt_of_lt_of_eq (by have : (i 1).val < 3584 := (i 1).isLt; omega) (show 7 = cfg0.N from N_0.symm)⟩

theorem idx : ∀ t : Fin cfg0.N, win0_4.index t (0 : Fin 2) = 0 ∧ win0_4.index t (1 : Fin 2) = t.val := (by decide +kernel : ∀ t : Fin grid0.N, _)

/-- What a point writes back is its tile. -/
theorem flushed_eq (c : Dev nD) (t : Fin cfg0.N) (hf : (cfg0.win 4).flush t = true) :
    (dats m 0 c).flushed 4 t = ((cfg0.win 4).blk t).view.read (Elt Ideal) (outPw m c) := by
  show (cfg0.win 4).cut (grid0.coords t) ((dats m 0 c).after 4 t) = _
  rw [after0_4]
  obtain ⟨e0, e1⟩ := idx t
  funext y
  have hl : ((cfg0.win 4).xinj (grid0.coords t) y : S768x512.Idx) = ix2 (⟨(y 0).val, (y 0).isLt⟩ : Fin 768) (⟨(y 1).val, (y 1).isLt⟩ : Fin 512) := by
    funext a
    match a with
    | ⟨0, _⟩ => rfl
    | ⟨1, _⟩ => rfl
  show out0_4 (iblk m c 0 t) (iblk m c 1 t) (iblk m c 2 t) (iblk m c 3 t) ((cfg0.win 4).xinj (grid0.coords t) y) = outPw m c (((cfg0.win 4).blk t).view.emb y)
  rw [hl, tile_apply]
  refine congrArg (outPw m c) ?_
  funext a; apply Fin.ext
  match a with
  | ⟨0, _⟩ => show (y 0).val = win0_4.index t (0 : Fin 2) * 768 + 1 * (y 0).val; omega
  | ⟨1, _⟩ => show t.val * 512 + (y 1).val = win0_4.index t (1 : Fin 2) * 512 + 1 * (y 1).val; omega

/-- An index is in a point's tile iff each coordinate is in the tile's range. -/
theorem mem_blk (t : Fin cfg0.N) (i : Cert.EmbIdeal.S768x3584.Idx) :
    i ∈ ((cfg0.win 4).blk t).view.set ↔ ∀ a : Fin 2, win0_4.index t a * S768x512.size a ≤ (i a).val ∧ (i a).val < win0_4.index t a * S768x512.size a + S768x512.size a := by
  show i ∈ ((View.whole main_v0).slice (win0_4.rect t)).set ↔ _
  rw [View.set_slice_whole, Rect.mem_set_unit]
  exact Iff.rfl

theorem final (c : Dev nD) : (dats m 0 c).arrAt 4 cfg0.N = outPw m c :=
  (dats m 0 c).arrAt_eq_of_cover 4 (outPw m c) (flushed_eq m c) fun i =>
    ⟨ptOf i, flush0_4 _, (mem_blk (ptOf i) i).mpr fun a => by
      obtain ⟨e0, e1⟩ := idx (ptOf i)
      have h0 : (i 0).val < 768 := (i 0).isLt
      have h1 : (i 1).val < 3584 := (i 1).isLt
      have hp : (ptOf i).val = (i 1).val / 512 := rfl
      match a with
      | ⟨0, _⟩ => show win0_4.index (ptOf i) (0 : Fin 2) * 768 ≤ (i 0).val ∧ (i 0).val < win0_4.index (ptOf i) (0 : Fin 2) * 768 + 768; omega
      | ⟨1, _⟩ => show win0_4.index (ptOf i) (1 : Fin 2) * 512 ≤ (i 1).val ∧ (i 1).val < win0_4.index (ptOf i) (1 : Fin 2) * 512 + 512; omega⟩

/-- The program ends with the product, its arguments unchanged. -/
theorem run : θ_run defs (onTc (τ := τ) (main (F := Ideal))) ⟨m, fun _ => 0, ρ⟩ fun r => ∀ c : Dev nD,
      r.2.mem ((c : Thread nD τ).loc main_v0) = outPw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.EmbIdeal.Product

end
-- ==== Proof.Emb.Reference.lean ====
/- The reference of the embedding product over the extended reals: its result is the product. -/
module

public import proofs.«01_k».proof.Proof.Gen.EmbReferenceIdeal.Value
public import proofs.«01_k».proof.Proof.First.Spec
public import Idealize.ShloMosaic.Lib.Claim
public import Idealize.ShloMosaic.Lib.Pointwise

@[expose] public section

set_option maxRecDepth 16384

noncomputable section

namespace Cert.EmbReferenceIdeal.Product

open Cert.EmbReferenceIdeal Cert.EmbReferenceIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem pay1_apply (w : Vec Ideal S3584x3584 .fp8e4m3) (s : Vec Ideal S28x3584 .f32) (e : Vec Ideal S768x3584 .bf16) (z : Vec Ideal S768x128 .f32)
    (r : Fin 768) (n : Fin 3584) :
    (k0_pay1 w s e z (ix2 r n) : EReal)
      = (∑ k : Fin 3584, e (ix2 r k) * (w (ix2 k n) * s (ix2 (⟨k.val / 128, by omega⟩ : Fin 28) n))) * z (ix2 r (0 : Fin 128)) := by
  unfold k0_pay1
  pointwise

theorem G4_eq (e : Vec Ideal S768x3584 .bf16) (z : Vec Ideal S768x128 .f32) (w : Vec Ideal S3584x3584 .fp8e4m3) (s : Vec Ideal S28x3584 .f32) :
    Value.G4 e z w s = Cert.First.pu (N := 768) e z w s := by
  funext i
  have e' : i = ix2 (i 0 : Fin 768) (i 1 : Fin 3584) := by
    funext a
    match a with
    | ⟨0, _⟩ => rfl
    | ⟨1, _⟩ => rfl
  have h : ∀ (r : Fin 768) (n : Fin 3584), (k0_pay1 w s e z (ix2 r n) : EReal) = Cert.First.pu (N := 768) e z w s (ix2 r n) :=
    fun r n => (pay1_apply w s e z r n).trans rfl
  rw [e']
  exact h _ _

/-- The reference ends with the product, its arguments unchanged. -/
theorem run : θ_run defs (onTc (τ := τ) (main (F := Ideal))) ⟨m, fun _ => 0, ρ⟩ fun r => ∀ c : Dev nD,
      r.2.mem ((c : Thread nD τ).loc main_v0) = Cert.First.pu (N := 768) (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (G4_eq _ _ _ _), (h c).2⟩) (Value.run m ρ)

end Cert.EmbReferenceIdeal.Product

end
-- ==== Proof.Emb.Algebra.lean ====
/- The embedding product's kernel and its reference over the extended reals end with the same result. -/
module

public import proofs.«01_k».proof.Defs
public import proofs.«01_k».proof.Proof.Emb.Kernel
public import proofs.«01_k».proof.Proof.Emb.Reference

@[expose] public section

set_option maxRecDepth 16384

noncomputable section

namespace Cert.EmbAlgebra

open Idealize.ShloMosaic Idealize.ShloMosaic.TcCoe Idealize.SL.Sem

/-- THE VALUE CLAIM of the embedding product: from memories with the same arguments, both programs end with the same result. -/
theorem algebraic : Cert.algebraic_EmbIdeal_EmbReferenceIdeal := by
  intro m ρ m' ρ' _ hag
  refine ⟨fun c => Cert.EmbIdeal.Product.outPw m c, Cert.EmbIdeal.Product.run m ρ, ?_⟩
  refine (θ_run _ _ _).mono (fun r h c => ?_) (Cert.EmbReferenceIdeal.Product.run m' ρ')
  obtain ⟨h4, ha⟩ := h c
  obtain ⟨a0, a1, a2, a3⟩ := hag c
  rw [a0, a1, a2, a3] at h4
  exact ⟨h4, ha⟩

end Cert.EmbAlgebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Bits.Frame
public import proofs.«01_k».proof.Proof.Algebra
public import proofs.«01_k».proof.Proof.Mlp2.Algebra
public import proofs.«01_k».proof.Proof.Gen.Mlp2
public import proofs.«01_k».proof.Proof.Gen.Mlp2.Skeleton
public import proofs.«01_k».proof.Proof.Gen.Mlp2.Launch
public import proofs.«01_k».proof.Proof.Gen.Mlp2.Points
public import proofs.«01_k».proof.Proof.Gen.Mlp2.Frame
public import proofs.«01_k».proof.Proof.Gen.Mlp2Ideal
public import proofs.«01_k».proof.Proof.Gen.Mlp2Ideal.Skeleton
public import proofs.«01_k».proof.Proof.Gen.Mlp2Ideal.Launch
public import proofs.«01_k».proof.Proof.Gen.Mlp2Ideal.Points
public import proofs.«01_k».proof.Proof.Gen.Mlp2Ideal.Frame
public import proofs.«01_k».proof.Proof.Gen.Mlp2Ideal.Value
public import proofs.«01_k».proof.Proof.Gen.Mlp2ReferenceIdeal
public import proofs.«01_k».proof.Proof.Gen.Mlp2ReferenceIdeal.Skeleton
public import proofs.«01_k».proof.Proof.Gen.Mlp2ReferenceIdeal.Launch
public import proofs.«01_k».proof.Proof.Gen.Mlp2ReferenceIdeal.Points
public import proofs.«01_k».proof.Proof.Gen.Mlp2ReferenceIdeal.Frame
public import proofs.«01_k».proof.Proof.Gen.Mlp2ReferenceIdeal.Value
public import proofs.«01_k».proof.Proof.Mlp1.Algebra
public import proofs.«01_k».proof.Proof.Gen.Mlp1
public import proofs.«01_k».proof.Proof.Gen.Mlp1.Skeleton
public import proofs.«01_k».proof.Proof.Gen.Mlp1.Launch
public import proofs.«01_k».proof.Proof.Gen.Mlp1.Points
public import proofs.«01_k».proof.Proof.Gen.Mlp1.Frame
public import proofs.«01_k».proof.Proof.Gen.Mlp1Ideal
public import proofs.«01_k».proof.Proof.Gen.Mlp1Ideal.Skeleton
public import proofs.«01_k».proof.Proof.Gen.Mlp1Ideal.Launch
public import proofs.«01_k».proof.Proof.Gen.Mlp1Ideal.Points
public import proofs.«01_k».proof.Proof.Gen.Mlp1Ideal.Frame
public import proofs.«01_k».proof.Proof.Gen.Mlp1Ideal.Value
public import proofs.«01_k».proof.Proof.Gen.Mlp1ReferenceIdeal
public import proofs.«01_k».proof.Proof.Gen.Mlp1ReferenceIdeal.Skeleton
public import proofs.«01_k».proof.Proof.Gen.Mlp1ReferenceIdeal.Launch
public import proofs.«01_k».proof.Proof.Gen.Mlp1ReferenceIdeal.Points
public import proofs.«01_k».proof.Proof.Gen.Mlp1ReferenceIdeal.Frame
public import proofs.«01_k».proof.Proof.Gen.Mlp1ReferenceIdeal.Value
public import proofs.«01_k».proof.Proof.First.Bits.Frame
public import proofs.«01_k».proof.Proof.First.Algebra
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstReferenceIdeal
public import proofs.«01_k».proof.Proof.Gen.FirstReferenceIdeal.Skeleton
public import proofs.«01_k».proof.Proof.Gen.FirstReferenceIdeal.Launch
public import proofs.«01_k».proof.Proof.Gen.FirstReferenceIdeal.Points
public import proofs.«01_k».proof.Proof.Gen.FirstReferenceIdeal.Frame
public import proofs.«01_k».proof.Proof.Gen.FirstReferenceIdeal.Value
public import proofs.«01_k».proof.Proof.Emb.Algebra
public import proofs.«01_k».proof.Proof.Gen.Emb
public import proofs.«01_k».proof.Proof.Gen.Emb.Skeleton
public import proofs.«01_k».proof.Proof.Gen.Emb.Launch
public import proofs.«01_k».proof.Proof.Gen.Emb.Points
public import proofs.«01_k».proof.Proof.Gen.Emb.Frame
public import proofs.«01_k».proof.Proof.Gen.EmbIdeal
public import proofs.«01_k».proof.Proof.Gen.EmbIdeal.Skeleton
public import proofs.«01_k».proof.Proof.Gen.EmbIdeal.Launch
public import proofs.«01_k».proof.Proof.Gen.EmbIdeal.Points
public import proofs.«01_k».proof.Proof.Gen.EmbIdeal.Frame
public import proofs.«01_k».proof.Proof.Gen.EmbIdeal.Value
public import proofs.«01_k».proof.Proof.Gen.EmbReferenceIdeal
public import proofs.«01_k».proof.Proof.Gen.EmbReferenceIdeal.Skeleton
public import proofs.«01_k».proof.Proof.Gen.EmbReferenceIdeal.Launch
public import proofs.«01_k».proof.Proof.Gen.EmbReferenceIdeal.Points
public import proofs.«01_k».proof.Proof.Gen.EmbReferenceIdeal.Frame
public import proofs.«01_k».proof.Proof.Gen.EmbReferenceIdeal.Value
public import Idealize.ShloMosaic.Adequacy
public import Idealize.ShloMosaic.Init

@[expose] public section

noncomputable section

namespace Cert.Proof

open Idealize.ShloMosaic Idealize.SL.Sem Cert.Kernel

/-- Everything claimed: the programs run and leave the machine quiet with their arguments unchanged, each idealized kernel is the
    kernel's, and each idealized kernel and its reference end with the same results, for the vocabulary head when the tokens are in range. -/
theorem claim : Cert.Claim := ⟨Cert.Kernel.Gen.facts, Cert.KernelIdeal.Gen.facts, Cert.ReferenceIdeal.Gen.facts,
  Cert.Mlp2.Gen.facts, Cert.Mlp2Ideal.Gen.facts, Cert.Mlp2ReferenceIdeal.Gen.facts,
  Cert.Mlp1.Gen.facts, Cert.Mlp1Ideal.Gen.facts, Cert.Mlp1ReferenceIdeal.Gen.facts,
  Cert.First.Gen.facts, Cert.FirstIdeal.Gen.facts, Cert.FirstReferenceIdeal.Gen.facts,
  Cert.Emb.Gen.facts, Cert.EmbIdeal.Gen.facts, Cert.EmbReferenceIdeal.Gen.facts, Cert.Algebra.facts,
  fun m g _ => Cert.Kernel.Head.frame m g,
  fun m g _ => Cert.KernelIdeal.Head.frame m g,
  fun m g _ => Cert.KernelIdeal.Head.frame m g,
  fun m g _ => Cert.ReferenceIdeal.Gen.frame m g,
  fun m g _ => Cert.ReferenceIdeal.Gen.frame m g,
  fun m g _ => Cert.Mlp2.Gen.frame m g,
  fun m g _ => Cert.Mlp2Ideal.Gen.frame m g,
  fun m g _ => Cert.Mlp2ReferenceIdeal.Gen.frame m g,
  fun m g _ => Cert.Mlp1.Gen.frame m g,
  fun m g _ => Cert.Mlp1Ideal.Gen.frame m g,
  fun m g _ => Cert.Mlp1ReferenceIdeal.Gen.frame m g,
  fun m g _ => Cert.First.Rows.frame m g,
  fun m g _ => Cert.FirstIdeal.First.frame m g,
  fun m g _ => Cert.FirstReferenceIdeal.Gen.frame m g,
  fun m g _ => Cert.Emb.Gen.frame m g,
  fun m g _ => Cert.EmbIdeal.Gen.frame m g,
  fun m g _ => Cert.EmbReferenceIdeal.Gen.frame m g,
  trivial,
  letI := Cert.Algebra.facts
  Cert.Algebra.algebraic,
  trivial,
  Cert.Mlp2Algebra.algebraic,
  trivial,
  Cert.Mlp1Algebra.algebraic,
  trivial,
  Cert.FirstAlgebra.algebraic,
  trivial,
  Cert.EmbAlgebra.algebraic⟩

end Cert.Proof

end
